-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116_0) = v0 c
          ∧ r.2.mem ((c.tc : Thread Cert.ReferenceIdeal.nD Cert.ReferenceIdeal.τ).loc Cert.ReferenceIdeal.main_v116_1) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S1x128x14336 : Shape := ⟨3, ![1, 128, 14336]⟩
abbrev S28x28 : Shape := ⟨2, ![28, 28]⟩
abbrev S7168x4096 : Shape := ⟨2, ![7168, 4096]⟩
abbrev S4096 : Shape := ⟨1, ![4096]⟩
abbrev S128x14336 : Shape := ⟨2, ![128, 14336]⟩
abbrev S1x4096 : Shape := ⟨2, ![1, 4096]⟩
abbrev S128x4096 : Shape := ⟨2, ![128, 4096]⟩
abbrev S1x128 : Shape := ⟨2, ![1, 128]⟩
abbrev S28x512x128 : Shape := ⟨3, ![28, 512, 128]⟩
abbrev S448x448 : Shape := ⟨2, ![448, 448]⟩
abbrev S_ : Shape := ⟨0, ![]⟩
abbrev S28 : Shape := ⟨1, ![28]⟩
abbrev S1 : Shape := ⟨1, ![1]⟩
abbrev S256x4096 : Shape := ⟨2, ![256, 4096]⟩
abbrev S448x28 : Shape := ⟨2, ![448, 28]⟩
abbrev S28x448 : Shape := ⟨2, ![28, 448]⟩
abbrev S128x128 : Shape := ⟨2, ![128, 128]⟩
abbrev S1x128x128 : Shape := ⟨3, ![1, 128, 128]⟩
abbrev S28x16x128 : Shape := ⟨3, ![28, 16, 128]⟩
abbrev S448x128 : Shape := ⟨2, ![448, 128]⟩
abbrev S448x256 : Shape := ⟨2, ![448, 256]⟩
abbrev S8x128 : Shape := ⟨2, ![8, 128]⟩
abbrev S1x8x128 : Shape := ⟨3, ![1, 8, 128]⟩
abbrev S128 : Shape := ⟨1, ![128]⟩
abbrev S1x512x128 : Shape := ⟨3, ![1, 512, 128]⟩
abbrev S512x128 : Shape := ⟨2, ![512, 128]⟩
abbrev S128x512 : Shape := ⟨2, ![128, 512]⟩
abbrev S256x1x4096 : Shape := ⟨3, ![256, 1, 4096]⟩
abbrev S256x2x4096 : Shape := ⟨3, ![256, 2, 4096]⟩
abbrev S512x4096 : Shape := ⟨2, ![512, 4096]⟩
abbrev S128x8 : Shape := ⟨2, ![128, 8]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S1x128x14336, .bf16⟩
  | .hbm, ⟨1, _⟩ => ⟨S28x28, .f32⟩
  | .hbm, ⟨2, _⟩ => ⟨S7168x4096, .i8⟩
  | .hbm, ⟨3, _⟩ => ⟨S4096, .f32⟩
  | .hbm, ⟨4, _⟩ => ⟨S128x14336, .bf16⟩
  | .hbm, ⟨5, _⟩ => ⟨S1x4096, .f32⟩
  | .hbm, ⟨6, _⟩ => ⟨S128x4096, .bf16⟩
  | .hbm, ⟨7, _⟩ => ⟨S128x14336, .i8⟩
  | .hbm, ⟨8, _⟩ => ⟨S1x128, .f32⟩
  | .local _ .vmem, ⟨0, _⟩ => ⟨S28x28, .f32⟩
  | .local _ .vmem, ⟨1, _⟩ => ⟨S1x4096, .f32⟩
  | .local _ .vmem, ⟨2, _⟩ => ⟨S128x4096, .bf16⟩
  | .local _ .vmem, ⟨3, _⟩ => ⟨S128x14336, .i8⟩
  | .local _ .vmem, ⟨4, _⟩ => ⟨S1x128, .f32⟩
  | .local _ .vmem, ⟨5, _⟩ => ⟨S128x14336, .bf16⟩
  | .local _ .vmem, ⟨6, _⟩ => ⟨S28x512x128, .bf16⟩
  | .local _ .vmem, ⟨7, _⟩ => ⟨S448x448, .bf16⟩
  | .local _ .vmem, ⟨8, _⟩ => ⟨S28x512x128, .f32⟩
  | .local _ .vmem, ⟨9, _⟩ => ⟨S7168x4096, .i8⟩
  | .local _ .vmem, ⟨10, _⟩ => ⟨S128x4096, .f32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_109 : BitVec 32 := 0#32
  let c28_i32 : BitVec 32 := 28#32
  let v199 : BitVec 32 := Scalar.addi c0_i32_109 c28_i32
  let c1_i32_110 : BitVec 32 := 1#32
  ⟨c0_i32_109, v199, c1_i32_110⟩
def k0_mult1 (k0_t1 : Fin k0_t1_loop.trips) : BitVec 32 :=
  let c0_i32_109 : BitVec 32 := 0#32
  let c1_i32_110 : BitVec 32 := 1#32
  let arg15 : BitVec 32 := Scf.iv c0_i32_109 c1_i32_110 k0_t1
  let c512_i32_141 : BitVec 32 := 512#32
  let v233 : BitVec 32 := Scalar.muli arg15 c512_i32_141
  let c0_i32_142 : BitVec 32 := 0#32
  let v234 : BitVec 32 := Scalar.addi v233 c0_i32_142
  v234
def k0_off1 (k0_t1 : Fin k0_t1_loop.trips) (c0_i32_142 : BitVec 32) : Fin 2 → Nat :=
  let c0_143 : Index := 0#32
  let c0_i32_109 : BitVec 32 := 0#32
  let c1_i32_110 : BitVec 32 := 1#32
  let arg15 : BitVec 32 := Scf.iv c0_i32_109 c1_i32_110 k0_t1
  let c512_i32_141 : BitVec 32 := 512#32
  let v233 : BitVec 32 := Scalar.muli arg15 c512_i32_141
  let v234 : BitVec 32 := Scalar.addi v233 c0_i32_142
  let v235 : BitVec 32 := v234
  let v236 : Index := Scalar.indexCast v235
  ![0, v236.toNat]
def k0_off2 (k0_t1 : Fin k0_t1_loop.trips) : Fin 3 → Nat :=
  let c0_i32_109 : BitVec 32 := 0#32
  let c1_i32_110 : BitVec 32 := 1#32
  let arg15 : BitVec 32 := Scf.iv c0_i32_109 c1_i32_110 k0_t1
  let v239 : Index := Scalar.indexCast arg15
  let c0_144 : Index := 0#32
  let c0_145 : Index := 0#32
  ![v239.toNat, 0, 0]
def k0_mult2 (k0_t1 : Fin k0_t1_loop.trips) : BitVec 32 :=
  let c0_i32_109 : BitVec 32 := 0#32
  let c1_i32_110 : BitVec 32 := 1#32
  let arg15 : BitVec 32 := Scf.iv c0_i32_109 c1_i32_110 k0_t1
  let c512_i32_146 : BitVec 32 := 512#32
  let v243 : BitVec 32 := Scalar.muli arg15 c512_i32_146
  let c128_i32 : BitVec 32 := 128#32
  let v244 : BitVec 32 := Scalar.addi v243 c128_i32
  v244
def k0_off3 (k0_t1 : Fin k0_t1_loop.trips) : Fin 3 → Nat :=
  let c0_i32_109 : BitVec 32 := 0#32
  let c1_i32_110 : BitVec 32 := 1#32
  let arg15 : BitVec 32 := Scf.iv c0_i32_109 c1_i32_110 k0_t1
  let v249 : Index := Scalar.indexCast arg15
  let c128 : Index := 128#32
  let c0_148 : Index := 0#32
  ![v249.toNat, 128, 0]
def k0_mult3 (k0_t1 : Fin k0_t1_loop.trips) : BitVec 32 :=
  let c0_i32_109 : BitVec 32 := 0#32
  let c1_i32_110 : BitVec 32 := 1#32
  let arg15 : BitVec 32 := Scf.iv c0_i32_109 c1_i32_110 k0_t1
  let c512_i32_149 : BitVec 32 := 512#32
  let v253 : BitVec 32 := Scalar.muli arg15 c512_i32_149
  let c256_i32_150 : BitVec 32 := 256#32
  let v254 : BitVec 32 := Scalar.addi v253 c256_i32_150
  v254
def k0_off4 (k0_t1 : Fin k0_t1_loop.trips) : Fin 3 → Nat :=
  let c0_i32_109 : BitVec 32 := 0#32
  let c1_i32_110 : BitVec 32 := 1#32
  let arg15 : BitVec 32 := Scf.iv c0_i32_109 c1_i32_110 k0_t1
  let v259 : Index := Scalar.indexCast arg15
  let c256 : Index := 256#32
  let c0_152 : Index := 0#32
  ![v259.toNat, 256, 0]
def k0_mult4 (k0_t1 : Fin k0_t1_loop.trips) : BitVec 32 :=
  let c0_i32_109 : BitVec 32 := 0#32
  let c1_i32_110 : BitVec 32 := 1#32
  let arg15 : BitVec 32 := Scf.iv c0_i32_109 c1_i32_110 k0_t1
  let c512_i32_153 : BitVec 32 := 512#32
  let v263 : BitVec 32 := Scalar.muli arg15 c512_i32_153
  let c384_i32 : BitVec 32 := 384#32
  let v264 : BitVec 32 := Scalar.addi v263 c384_i32
  v264
def k0_off5 (k0_t1 : Fin k0_t1_loop.trips) : Fin 3 → Nat :=
  let c0_i32_109 : BitVec 32 := 0#32
  let c1_i32_110 : BitVec 32 := 1#32
  let arg15 : BitVec 32 := Scf.iv c0_i32_109 c1_i32_110 k0_t1
  let v269 : Index := Scalar.indexCast arg15
  let c384 : Index := 384#32
  let c0_155 : Index := 0#32
  ![v269.toNat, 384, 0]
@[reducible] def k0_t2_loop : Scf.Loop 32 :=
  let c0_i32_112 : BitVec 32 := 0#32
  let c16_i32_113 : BitVec 32 := 16#32
  let v200 : BitVec 32 := Scalar.addi c0_i32_112 c16_i32_113
  let c1_i32_114 : BitVec 32 := 1#32
  ⟨c0_i32_112, v200, c1_i32_114⟩
def k0_mult5 (k0_t2 : Fin k0_t2_loop.trips) : BitVec 32 :=
  let c0_i32_112 : BitVec 32 := 0#32
  let c1_i32_114 : BitVec 32 := 1#32
  let arg15 : BitVec 32 := Scf.iv c0_i32_112 c1_i32_114 k0_t2
  let c2_i32_141 : BitVec 32 := 2#32
  let v233 : BitVec 32 := Scalar.muli arg15 c2_i32_141
  let c16_i32_142 : BitVec 32 := 16#32
  let v234 : BitVec 32 := Scalar.muli v233 c16_i32_142
  v234
def k0_off6 (k0_t2 : Fin k0_t2_loop.trips) : Fin 3 → Nat :=
  let c0_143 : Index := 0#32
  let c0_i32_112 : BitVec 32 := 0#32
  let c1_i32_114 : BitVec 32 := 1#32
  let arg15 : BitVec 32 := Scf.iv c0_i32_112 c1_i32_114 k0_t2
  let c2_i32_141 : BitVec 32 := 2#32
  let v233 : BitVec 32 := Scalar.muli arg15 c2_i32_141
  let c16_i32_142 : BitVec 32 := 16#32
  let v234 : BitVec 32 := Scalar.muli v233 c16_i32_142
  let v235 : BitVec 32 := v234
  let v236 : Index := Scalar.indexCast v235
  let c0_144 : Index := 0#32
  ![0, v236.toNat, 0]
def k0_off7 (k0_t2 : Fin k0_t2_loop.trips) : Fin 3 → Nat :=
  let c0_146 : Index := 0#32
  let c0_i32_112 : BitVec 32 := 0#32
  let c1_i32_114 : BitVec 32 := 1#32
  let arg15 : BitVec 32 := Scf.iv c0_i32_112 c1_i32_114 k0_t2
  let c2_i32_141 : BitVec 32 := 2#32
  let v233 : BitVec 32 := Scalar.muli arg15 c2_i32_141
  let c16_i32_142 : BitVec 32 := 16#32
  let v234 : BitVec 32 := Scalar.muli v233 c16_i32_142
  let v235 : BitVec 32 := v234
  let c16_i32_145 : BitVec 32 := 16#32
  let v239 : BitVec 32 := Scalar.addi v235 c16_i32_145
  let v240 : Index := Scalar.indexCast v239
  let c0_147 : Index := 0#32
  ![0, v240.toNat, 0]
@[reducible] def k0_t3_loop : Scf.Loop 32 :=
  let c0_i32_117 : BitVec 32 := 0#32
  let c28_i32_118 : BitVec 32 := 28#32
  let v202 : BitVec 32 := Scalar.addi c0_i32_117 c28_i32_118
  let c1_i32_119 : BitVec 32 := 1#32
  ⟨c0_i32_117, v202, c1_i32_119⟩
def k0_off8 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v233 : Index := Scalar.indexCast arg15
  let c0_141 : Index := 0#32
  let c0_142 : Index := 0#32
  ![v233.toNat, 0, 0]
def k0_off9 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v236 : Index := Scalar.indexCast arg15
  let c16 : Index := 16#32
  let c0_143 : Index := 0#32
  ![v236.toNat, 16, 0]
def k0_off10 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v239 : Index := Scalar.indexCast arg15
  let c32 : Index := 32#32
  let c0_144 : Index := 0#32
  ![v239.toNat, 32, 0]
def k0_off11 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v242 : Index := Scalar.indexCast arg15
  let c48 : Index := 48#32
  let c0_145 : Index := 0#32
  ![v242.toNat, 48, 0]
def k0_off12 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v245 : Index := Scalar.indexCast arg15
  let c64 : Index := 64#32
  let c0_146 : Index := 0#32
  ![v245.toNat, 64, 0]
def k0_off13 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v248 : Index := Scalar.indexCast arg15
  let c80 : Index := 80#32
  let c0_147 : Index := 0#32
  ![v248.toNat, 80, 0]
def k0_off14 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v251 : Index := Scalar.indexCast arg15
  let c96 : Index := 96#32
  let c0_148 : Index := 0#32
  ![v251.toNat, 96, 0]
def k0_off15 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v254 : Index := Scalar.indexCast arg15
  let c112 : Index := 112#32
  let c0_149 : Index := 0#32
  ![v254.toNat, 112, 0]
def k0_off16 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v257 : Index := Scalar.indexCast arg15
  let c128 : Index := 128#32
  let c0_150 : Index := 0#32
  ![v257.toNat, 128, 0]
def k0_off17 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v260 : Index := Scalar.indexCast arg15
  let c144 : Index := 144#32
  let c0_151 : Index := 0#32
  ![v260.toNat, 144, 0]
def k0_off18 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v263 : Index := Scalar.indexCast arg15
  let c160 : Index := 160#32
  let c0_152 : Index := 0#32
  ![v263.toNat, 160, 0]
def k0_off19 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v266 : Index := Scalar.indexCast arg15
  let c176 : Index := 176#32
  let c0_153 : Index := 0#32
  ![v266.toNat, 176, 0]
def k0_off20 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v269 : Index := Scalar.indexCast arg15
  let c192 : Index := 192#32
  let c0_154 : Index := 0#32
  ![v269.toNat, 192, 0]
def k0_off21 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v272 : Index := Scalar.indexCast arg15
  let c208 : Index := 208#32
  let c0_155 : Index := 0#32
  ![v272.toNat, 208, 0]
def k0_off22 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v275 : Index := Scalar.indexCast arg15
  let c224 : Index := 224#32
  let c0_156 : Index := 0#32
  ![v275.toNat, 224, 0]
def k0_off23 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v278 : Index := Scalar.indexCast arg15
  let c240 : Index := 240#32
  let c0_157 : Index := 0#32
  ![v278.toNat, 240, 0]
def k0_off24 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v281 : Index := Scalar.indexCast arg15
  let c256 : Index := 256#32
  let c0_158 : Index := 0#32
  ![v281.toNat, 256, 0]
def k0_off25 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v284 : Index := Scalar.indexCast arg15
  let c272 : Index := 272#32
  let c0_159 : Index := 0#32
  ![v284.toNat, 272, 0]
def k0_off26 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v287 : Index := Scalar.indexCast arg15
  let c288 : Index := 288#32
  let c0_160 : Index := 0#32
  ![v287.toNat, 288, 0]
def k0_off27 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v290 : Index := Scalar.indexCast arg15
  let c304 : Index := 304#32
  let c0_161 : Index := 0#32
  ![v290.toNat, 304, 0]
def k0_off28 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v293 : Index := Scalar.indexCast arg15
  let c320 : Index := 320#32
  let c0_162 : Index := 0#32
  ![v293.toNat, 320, 0]
def k0_off29 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v296 : Index := Scalar.indexCast arg15
  let c336 : Index := 336#32
  let c0_163 : Index := 0#32
  ![v296.toNat, 336, 0]
def k0_off30 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v299 : Index := Scalar.indexCast arg15
  let c352 : Index := 352#32
  let c0_164 : Index := 0#32
  ![v299.toNat, 352, 0]
def k0_off31 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v302 : Index := Scalar.indexCast arg15
  let c368 : Index := 368#32
  let c0_165 : Index := 0#32
  ![v302.toNat, 368, 0]
def k0_off32 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v305 : Index := Scalar.indexCast arg15
  let c384 : Index := 384#32
  let c0_166 : Index := 0#32
  ![v305.toNat, 384, 0]
def k0_off33 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v308 : Index := Scalar.indexCast arg15
  let c400 : Index := 400#32
  let c0_167 : Index := 0#32
  ![v308.toNat, 400, 0]
def k0_off34 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v311 : Index := Scalar.indexCast arg15
  let c416 : Index := 416#32
  let c0_168 : Index := 0#32
  ![v311.toNat, 416, 0]
def k0_off35 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v314 : Index := Scalar.indexCast arg15
  let c432 : Index := 432#32
  let c0_169 : Index := 0#32
  ![v314.toNat, 432, 0]
def k0_off36 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v317 : Index := Scalar.indexCast arg15
  let c448 : Index := 448#32
  let c0_170 : Index := 0#32
  ![v317.toNat, 448, 0]
def k0_off37 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v320 : Index := Scalar.indexCast arg15
  let c464 : Index := 464#32
  let c0_171 : Index := 0#32
  ![v320.toNat, 464, 0]
def k0_off38 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v323 : Index := Scalar.indexCast arg15
  let c480 : Index := 480#32
  let c0_172 : Index := 0#32
  ![v323.toNat, 480, 0]
def k0_off39 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v326 : Index := Scalar.indexCast arg15
  let c496 : Index := 496#32
  let c0_173 : Index := 0#32
  ![v326.toNat, 496, 0]
def k0_off40 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v649 : Index := Scalar.indexCast arg15
  let c8 : Index := 8#32
  let c0_238 : Index := 0#32
  ![v649.toNat, 8, 0]
def k0_off41 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v652 : Index := Scalar.indexCast arg15
  let c24 : Index := 24#32
  let c0_239 : Index := 0#32
  ![v652.toNat, 24, 0]
def k0_off42 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v655 : Index := Scalar.indexCast arg15
  let c40 : Index := 40#32
  let c0_240 : Index := 0#32
  ![v655.toNat, 40, 0]
def k0_off43 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v658 : Index := Scalar.indexCast arg15
  let c56 : Index := 56#32
  let c0_241 : Index := 0#32
  ![v658.toNat, 56, 0]
def k0_off44 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v661 : Index := Scalar.indexCast arg15
  let c72 : Index := 72#32
  let c0_242 : Index := 0#32
  ![v661.toNat, 72, 0]
def k0_off45 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v664 : Index := Scalar.indexCast arg15
  let c88 : Index := 88#32
  let c0_243 : Index := 0#32
  ![v664.toNat, 88, 0]
def k0_off46 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v667 : Index := Scalar.indexCast arg15
  let c104 : Index := 104#32
  let c0_244 : Index := 0#32
  ![v667.toNat, 104, 0]
def k0_off47 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v670 : Index := Scalar.indexCast arg15
  let c120 : Index := 120#32
  let c0_245 : Index := 0#32
  ![v670.toNat, 120, 0]
def k0_off48 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v673 : Index := Scalar.indexCast arg15
  let c136 : Index := 136#32
  let c0_246 : Index := 0#32
  ![v673.toNat, 136, 0]
def k0_off49 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v676 : Index := Scalar.indexCast arg15
  let c152 : Index := 152#32
  let c0_247 : Index := 0#32
  ![v676.toNat, 152, 0]
def k0_off50 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v679 : Index := Scalar.indexCast arg15
  let c168 : Index := 168#32
  let c0_248 : Index := 0#32
  ![v679.toNat, 168, 0]
def k0_off51 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v682 : Index := Scalar.indexCast arg15
  let c184 : Index := 184#32
  let c0_249 : Index := 0#32
  ![v682.toNat, 184, 0]
def k0_off52 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v685 : Index := Scalar.indexCast arg15
  let c200 : Index := 200#32
  let c0_250 : Index := 0#32
  ![v685.toNat, 200, 0]
def k0_off53 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v688 : Index := Scalar.indexCast arg15
  let c216 : Index := 216#32
  let c0_251 : Index := 0#32
  ![v688.toNat, 216, 0]
def k0_off54 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v691 : Index := Scalar.indexCast arg15
  let c232 : Index := 232#32
  let c0_252 : Index := 0#32
  ![v691.toNat, 232, 0]
def k0_off55 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v694 : Index := Scalar.indexCast arg15
  let c248 : Index := 248#32
  let c0_253 : Index := 0#32
  ![v694.toNat, 248, 0]
def k0_off56 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v697 : Index := Scalar.indexCast arg15
  let c264 : Index := 264#32
  let c0_254 : Index := 0#32
  ![v697.toNat, 264, 0]
def k0_off57 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v700 : Index := Scalar.indexCast arg15
  let c280 : Index := 280#32
  let c0_255 : Index := 0#32
  ![v700.toNat, 280, 0]
def k0_off58 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v703 : Index := Scalar.indexCast arg15
  let c296 : Index := 296#32
  let c0_256 : Index := 0#32
  ![v703.toNat, 296, 0]
def k0_off59 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v706 : Index := Scalar.indexCast arg15
  let c312 : Index := 312#32
  let c0_257 : Index := 0#32
  ![v706.toNat, 312, 0]
def k0_off60 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v709 : Index := Scalar.indexCast arg15
  let c328 : Index := 328#32
  let c0_258 : Index := 0#32
  ![v709.toNat, 328, 0]
def k0_off61 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v712 : Index := Scalar.indexCast arg15
  let c344 : Index := 344#32
  let c0_259 : Index := 0#32
  ![v712.toNat, 344, 0]
def k0_off62 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v715 : Index := Scalar.indexCast arg15
  let c360 : Index := 360#32
  let c0_260 : Index := 0#32
  ![v715.toNat, 360, 0]
def k0_off63 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v718 : Index := Scalar.indexCast arg15
  let c376 : Index := 376#32
  let c0_261 : Index := 0#32
  ![v718.toNat, 376, 0]
def k0_off64 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v721 : Index := Scalar.indexCast arg15
  let c392 : Index := 392#32
  let c0_262 : Index := 0#32
  ![v721.toNat, 392, 0]
def k0_off65 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v724 : Index := Scalar.indexCast arg15
  let c408 : Index := 408#32
  let c0_263 : Index := 0#32
  ![v724.toNat, 408, 0]
def k0_off66 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v727 : Index := Scalar.indexCast arg15
  let c424 : Index := 424#32
  let c0_264 : Index := 0#32
  ![v727.toNat, 424, 0]
def k0_off67 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v730 : Index := Scalar.indexCast arg15
  let c440 : Index := 440#32
  let c0_265 : Index := 0#32
  ![v730.toNat, 440, 0]
def k0_off68 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v733 : Index := Scalar.indexCast arg15
  let c456 : Index := 456#32
  let c0_266 : Index := 0#32
  ![v733.toNat, 456, 0]
def k0_off69 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v736 : Index := Scalar.indexCast arg15
  let c472 : Index := 472#32
  let c0_267 : Index := 0#32
  ![v736.toNat, 472, 0]
def k0_off70 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v739 : Index := Scalar.indexCast arg15
  let c488 : Index := 488#32
  let c0_268 : Index := 0#32
  ![v739.toNat, 488, 0]
def k0_off71 (k0_t3 : Fin k0_t3_loop.trips) : Fin 3 → Nat :=
  let c0_i32_117 : BitVec 32 := 0#32
  let c1_i32_119 : BitVec 32 := 1#32
  let arg15 : BitVec 32 := Scf.iv c0_i32_117 c1_i32_119 k0_t3
  let v742 : Index := Scalar.indexCast arg15
  let c504 : Index := 504#32
  let c0_269 : Index := 0#32
  ![v742.toNat, 504, 0]
@[reducible] def k0_t4_loop : Scf.Loop 32 :=
  let c0_i32_131 : BitVec 32 := 0#32
  let c28_i32_132 : BitVec 32 := 28#32
  let v219 : BitVec 32 := Scalar.addi c0_i32_131 c28_i32_132
  let c1_i32_133 : BitVec 32 := 1#32
  ⟨c0_i32_131, v219, c1_i32_133⟩
def k0_off72 (k0_t4 : Fin k0_t4_loop.trips) : Fin 3 → Nat :=
  let c0_i32_131 : BitVec 32 := 0#32
  let c1_i32_133 : BitVec 32 := 1#32
  let arg15 : BitVec 32 := Scf.iv c0_i32_131 c1_i32_133 k0_t4
  let v233 : Index := Scalar.indexCast arg15
  let c0_141 : Index := 0#32
  let c0_142 : Index := 0#32
  ![v233.toNat, 0, 0]
def k0_mult6 (k0_t4 : Fin k0_t4_loop.trips) : BitVec 32 :=
  let c0_i32_131 : BitVec 32 := 0#32
  let c1_i32_133 : BitVec 32 := 1#32
  let arg15 : BitVec 32 := Scf.iv c0_i32_131 c1_i32_133 k0_t4
  let c512_i32_146 : BitVec 32 := 512#32
  let v246 : BitVec 32 := Scalar.muli arg15 c512_i32_146
  v246
def k0_off73 (k0_t4 : Fin k0_t4_loop.trips) : Fin 2 → Nat :=
  let c0_147 : Index := 0#32
  let c0_i32_131 : BitVec 32 := 0#32
  let c1_i32_133 : BitVec 32 := 1#32
  let arg15 : BitVec 32 := Scf.iv c0_i32_131 c1_i32_133 k0_t4
  let c512_i32_146 : BitVec 32 := 512#32
  let v246 : BitVec 32 := Scalar.muli arg15 c512_i32_146
  let v247 : BitVec 32 := v246
  let v249 : Index := Scalar.indexCast v247
  ![0, v249.toNat]
def k0_off74 (k0_t4 : Fin k0_t4_loop.trips) : Fin 1 → Nat :=
  let c0_i32_131 : BitVec 32 := 0#32
  let c1_i32_133 : BitVec 32 := 1#32
  let arg15 : BitVec 32 := Scf.iv c0_i32_131 c1_i32_133 k0_t4
  ![arg15.toNat]
def k0_off75 (k0_t4 : Fin k0_t4_loop.trips) : Fin 2 → Nat :=
  let c0_i32_131 : BitVec 32 := 0#32
  let c1_i32_133 : BitVec 32 := 1#32
  let arg15 : BitVec 32 := Scf.iv c0_i32_131 c1_i32_133 k0_t4
  let c256_i32_148 : BitVec 32 := 256#32
  let v251 : BitVec 32 := Scalar.muli arg15 c256_i32_148
  let c0_i32_149 : BitVec 32 := 0#32
  ![v251.toNat, 0]
def k0_mult7 (k0_t4 : Fin k0_t4_loop.trips) : BitVec 32 :=
  let c0_i32_131 : BitVec 32 := 0#32
  let c1_i32_133 : BitVec 32 := 1#32
  let arg15 : BitVec 32 := Scf.iv c0_i32_131 c1_i32_133 k0_t4
  let c256_i32_151 : BitVec 32 := 256#32
  let v256 : BitVec 32 := Scalar.muli arg15 c256_i32_151
  v256
def k0_off76 (k0_t4 : Fin k0_t4_loop.trips) : Fin 2 → Nat :=
  let c0_i32_131 : BitVec 32 := 0#32
  let c1_i32_133 : BitVec 32 := 1#32
  let arg15 : BitVec 32 := Scf.iv c0_i32_131 c1_i32_133 k0_t4
  let c256_i32_151 : BitVec 32 := 256#32
  let v256 : BitVec 32 := Scalar.muli arg15 c256_i32_151
  let v257 : BitVec 32 := v256
  let v258 : Index := Scalar.indexCast v257
  let c0_152 : Index := 0#32
  ![v258.toNat, 0]
abbrev stage0_0 : Fin 1 → Memref sig .tc .vmem S28x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x14336 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference.lean ====
abbrev S1x128x14336 : Shape := ⟨3, ![1, 128, 14336]⟩
abbrev S28x28 : Shape := ⟨2, ![28, 28]⟩
abbrev S7168x4096 : Shape := ⟨2, ![7168, 4096]⟩
abbrev S4096 : Shape := ⟨1, ![4096]⟩
abbrev S128x28x512 : Shape := ⟨3, ![128, 28, 512]⟩
abbrev S28x128x512 : Shape := ⟨3, ![28, 128, 512]⟩
abbrev S128x28x256x2x1 : Shape := ⟨5, ![128, 28, 256, 2, 1]⟩
abbrev S128x28x256x1x1 : Shape := ⟨5, ![128, 28, 256, 1, 1]⟩
abbrev S128x28x256x1 : Shape := ⟨4, ![128, 28, 256, 1]⟩
abbrev S128x28x128x2x2 : Shape := ⟨5, ![128, 28, 128, 2, 2]⟩
abbrev S128x28x128x1x2 : Shape := ⟨5, ![128, 28, 128, 1, 2]⟩
abbrev S128x28x128x2 : Shape := ⟨4, ![128, 28, 128, 2]⟩
abbrev S128x28x64x2x4 : Shape := ⟨5, ![128, 28, 64, 2, 4]⟩
abbrev S128x28x64x1x4 : Shape := ⟨5, ![128, 28, 64, 1, 4]⟩
abbrev S128x28x64x4 : Shape := ⟨4, ![128, 28, 64, 4]⟩
abbrev S128x28x32x2x8 : Shape := ⟨5, ![128, 28, 32, 2, 8]⟩
abbrev S128x28x32x1x8 : Shape := ⟨5, ![128, 28, 32, 1, 8]⟩
abbrev S128x28x32x8 : Shape := ⟨4, ![128, 28, 32, 8]⟩
abbrev S128x28x16x2x16 : Shape := ⟨5, ![128, 28, 16, 2, 16]⟩
abbrev S128x28x16x1x16 : Shape := ⟨5, ![128, 28, 16, 1, 16]⟩
abbrev S128x28x16x16 : Shape := ⟨4, ![128, 28, 16, 16]⟩
abbrev S128x28x8x2x32 : Shape := ⟨5, ![128, 28, 8, 2, 32]⟩
abbrev S128x28x8x1x32 : Shape := ⟨5, ![128, 28, 8, 1, 32]⟩
abbrev S128x28x8x32 : Shape := ⟨4, ![128, 28, 8, 32]⟩
abbrev S128x28x4x2x64 : Shape := ⟨5, ![128, 28, 4, 2, 64]⟩
abbrev S128x28x4x1x64 : Shape := ⟨5, ![128, 28, 4, 1, 64]⟩
abbrev S128x28x4x64 : Shape := ⟨4, ![128, 28, 4, 64]⟩
abbrev S128x28x2x2x128 : Shape := ⟨5, ![128, 28, 2, 2, 128]⟩
abbrev S128x28x2x1x128 : Shape := ⟨5, ![128, 28, 2, 1, 128]⟩
abbrev S128x28x2x128 : Shape := ⟨4, ![128, 28, 2, 128]⟩
abbrev S128x28x1x2x256 : Shape := ⟨5, ![128, 28, 1, 2, 256]⟩
abbrev S128x28x1x1x256 : Shape := ⟨5, ![128, 28, 1, 1, 256]⟩
abbrev S128x28x1x256 : Shape := ⟨4, ![128, 28, 1, 256]⟩
abbrev S_ : Shape := ⟨0, ![]⟩
abbrev S128x14336 : Shape := ⟨2, ![128, 14336]⟩
abbrev S128 : Shape := ⟨1, ![128]⟩
abbrev S1x128 : Shape := ⟨2, ![1, 128]⟩
abbrev S128x1 : Shape := ⟨2, ![128, 1]⟩
abbrev S1x4096 : Shape := ⟨2, ![1, 4096]⟩
abbrev S128x4096 : Shape := ⟨2, ![128, 4096]⟩
abbrev S128x7168x2 : Shape := ⟨3, ![128, 7168, 2]⟩
abbrev S128x7168x1 : Shape := ⟨3, ![128, 7168, 1]⟩
abbrev S128x7168 : Shape := ⟨2, ![128, 7168]⟩

abbrev nBuf : Space → Nat
  | .hbm => 129
  | .vmem => 6
  | .smem => 0
  | _ => 0

abbrev hbmTy0_0 (i : Nat) : BufTy := match i % 128 with
  | 0 => ⟨S1x128x14336, .bf16⟩
  | 1 => ⟨S28x28, .f32⟩
  | 2 => ⟨S7168x4096, .i8⟩
  | 3 => ⟨S4096, .f32⟩
  | 4 => ⟨S1x128x14336, .f32⟩
  | 5 => ⟨S128x28x512, .f32⟩
  | 6 => ⟨S28x128x512, .f32⟩
  | 7 => ⟨S128x28x512, .f32⟩
  | 8 => ⟨S128x28x256x2x1, .f32⟩
  | 9 => ⟨S128x28x256x1x1, .f32⟩
  | 10 => ⟨S128x28x256x1, .f32⟩
  | 11 => ⟨S128x28x256x1x1, .f32⟩
  | 12 => ⟨S128x28x256x1, .f32⟩
  | 13 => ⟨S128x28x256x1, .f32⟩
  | 14 => ⟨S128x28x256x1, .f32⟩
  | 15 => ⟨S128x28x256x1x1, .f32⟩
  | 16 => ⟨S128x28x256x1x1, .f32⟩
  | 17 => ⟨S128x28x256x2x1, .f32⟩
  | 18 => ⟨S128x28x512, .f32⟩
  | 19 => ⟨S128x28x128x2x2, .f32⟩
  | 20 => ⟨S128x28x128x1x2, .f32⟩
  | 21 => ⟨S128x28x128x2, .f32⟩
  | 22 => ⟨S128x28x128x1x2, .f32⟩
  | 23 => ⟨S128x28x128x2, .f32⟩
  | 24 => ⟨S128x28x128x2, .f32⟩
  | 25 => ⟨S128x28x128x2, .f32⟩
  | 26 => ⟨S128x28x128x1x2, .f32⟩
  | 27 => ⟨S128x28x128x1x2, .f32⟩
  | 28 => ⟨S128x28x128x2x2, .f32⟩
  | 29 => ⟨S128x28x512, .f32⟩
  | 30 => ⟨S128x28x64x2x4, .f32⟩
  | 31 => ⟨S128x28x64x1x4, .f32⟩
  | 32 => ⟨S128x28x64x4, .f32⟩
  | 33 => ⟨S128x28x64x1x4, .f32⟩
  | 34 => ⟨S128x28x64x4, .f32⟩
  | 35 => ⟨S128x28x64x4, .f32⟩
  | 36 => ⟨S128x28x64x4, .f32⟩
  | 37 => ⟨S128x28x64x1x4, .f32⟩
  | 38 => ⟨S128x28x64x1x4, .f32⟩
  | 39 => ⟨S128x28x64x2x4, .f32⟩
  | 40 => ⟨S128x28x512, .f32⟩
  | 41 => ⟨S128x28x32x2x8, .f32⟩
  | 42 => ⟨S128x28x32x1x8, .f32⟩
  | 43 => ⟨S128x28x32x8, .f32⟩
  | 44 => ⟨S128x28x32x1x8, .f32⟩
  | 45 => ⟨S128x28x32x8, .f32⟩
  | 46 => ⟨S128x28x32x8, .f32⟩
  | 47 => ⟨S128x28x32x8, .f32⟩
  | 48 => ⟨S128x28x32x1x8, .f32⟩
  | 49 => ⟨S128x28x32x1x8, .f32⟩
  | 50 => ⟨S128x28x32x2x8, .f32⟩
  | 51 => ⟨S128x28x512, .f32⟩
  | 52 => ⟨S128x28x16x2x16, .f32⟩
  | 53 => ⟨S128x28x16x1x16, .f32⟩
  | 54 => ⟨S128x28x16x16, .f32⟩
  | 55 => ⟨S128x28x16x1x16, .f32⟩
  | 56 => ⟨S128x28x16x16, .f32⟩
  | 57 => ⟨S128x28x16x16, .f32⟩
  | 58 => ⟨S128x28x16x16, .f32⟩
  | 59 => ⟨S128x28x16x1x16, .f32⟩
  | 60 => ⟨S128x28x16x1x16, .f32⟩
  | 61 => ⟨S128x28x16x2x16, .f32⟩
  | 62 => ⟨S128x28x512, .f32⟩
  | 63 => ⟨S128x28x8x2x32, .f32⟩
  | 64 => ⟨S128x28x8x1x32, .f32⟩
  | 65 => ⟨S128x28x8x32, .f32⟩
  | 66 => ⟨S128x28x8x1x32, .f32⟩
  | 67 => ⟨S128x28x8x32, .f32⟩
  | 68 => ⟨S128x28x8x32, .f32⟩
  | 69 => ⟨S128x28x8x32, .f32⟩
  | 70 => ⟨S128x28x8x1x32, .f32⟩
  | 71 => ⟨S128x28x8x1x32, .f32⟩
  | 72 => ⟨S128x28x8x2x32, .f32⟩
  | 73 => ⟨S128x28x512, .f32⟩
  | 74 => ⟨S128x28x4x2x64, .f32⟩
  | 75 => ⟨S128x28x4x1x64, .f32⟩
  | 76 => ⟨S128x28x4x64, .f32⟩
  | 77 => ⟨S128x28x4x1x64, .f32⟩
  | 78 => ⟨S128x28x4x64, .f32⟩
  | 79 => ⟨S128x28x4x64, .f32⟩
  | 80 => ⟨S128x28x4x64, .f32⟩
  | 81 => ⟨S128x28x4x1x64, .f32⟩
  | 82 => ⟨S128x28x4x1x64, .f32⟩
  | 83 => ⟨S128x28x4x2x64, .f32⟩
  | 84 => ⟨S128x28x512, .f32⟩
  | 85 => ⟨S128x28x2x2x128, .f32⟩
  | 86 => ⟨S128x28x2x1x128, .f32⟩
  | 87 => ⟨S128x28x2x128, .f32⟩
  | 88 => ⟨S128x28x2x1x128, .f32⟩
  | 89 => ⟨S128x28x2x128, .f32⟩
  | 90 => ⟨S128x28x2x128, .f32⟩
  | 91 => ⟨S128x28x2x128, .f32⟩
  | 92 => ⟨S128x28x2x1x128, .f32⟩
  | 93 => ⟨S128x28x2x1x128, .f32⟩
  | 94 => ⟨S128x28x2x2x128, .f32⟩
  | 95 => ⟨S128x28x512, .f32⟩
  | 96 => ⟨S128x28x1x2x256, .f32⟩
  | 97 => ⟨S128x28x1x1x256, .f32⟩
  | 98 => ⟨S128x28x1x256, .f32⟩
  | 99 => ⟨S128x28x1x1x256, .f32⟩
  | 100 => ⟨S128x28x1x256, .f32⟩
  | 101 => ⟨S128x28x1x256, .f32⟩
  | 102 => ⟨S128x28x1x256, .f32⟩
  | 103 => ⟨S128x28x1x1x256, .f32⟩
  | 104 => ⟨S128x28x1x1x256, .f32⟩
  | 105 => ⟨S128x28x1x2x256, .f32⟩
  | 106 => ⟨S128x28x512, .f32⟩
  | 107 => ⟨S_, .f32⟩
  | 108 => ⟨S128x28x512, .f32⟩
  | 109 => ⟨S128x28x512, .f32⟩
  | 110 => ⟨S128x14336, .f32⟩
  | 111 => ⟨S128x14336, .f32⟩
  | 112 => ⟨S_, .f32⟩
  | 113 => ⟨S128, .f32⟩
  | 114 => ⟨S_, .f32⟩
  | 115 => ⟨S128, .f32⟩
  | 116 => ⟨S128, .i1⟩
  | 117 => ⟨S_, .f32⟩
  | 118 => ⟨S128, .f32⟩
  | 119 => ⟨S128, .f32⟩
  | 120 => ⟨S_, .f32⟩
  | 121 => ⟨S_, .f32⟩
  | 122 => ⟨S128, .f32⟩
  | 123 => ⟨S128, .f32⟩
  | 124 => ⟨S1x128, .f32⟩
  | 125 => ⟨S128x1, .f32⟩
  | 126 => ⟨S1x4096, .f32⟩
  | 127 => ⟨S128x4096, .bf16⟩
  | _ => ⟨S1x128x14336, .bf16⟩

abbrev hbmTy0_1 (i : Nat) : BufTy := match i % 128 with
  | 0 => ⟨S128x14336, .i8⟩
  | _ => ⟨S1x128x14336, .bf16⟩

abbrev hbmTy (i : Nat) : BufTy := match i / 128 with
  | 0 => hbmTy0_0 i
  | 1 => hbmTy0_1 i
  | _ => ⟨S1x128x14336, .bf16⟩

abbrev bufTy : (tb : Table) → Fin (tcTables nBuf tb) → BufTy
  | .hbm, ⟨i, _⟩ => hbmTy i
  | .local _ .vmem, ⟨0, _⟩ => ⟨S128x14336, .f32⟩
  | .local _ .vmem, ⟨1, _⟩ => ⟨S128x1, .f32⟩
  | .local _ .vmem, ⟨2, _⟩ => ⟨S7168x4096, .i8⟩
  | .local _ .vmem, ⟨3, _⟩ => ⟨S1x4096, .f32⟩
  | .local _ .vmem, ⟨4, _⟩ => ⟨S128x4096, .bf16⟩
  | .local _ .vmem, ⟨5, _⟩ => ⟨S128x14336, .i8⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_cst : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_cst_0 : Ref sig .tc := ⟨.hbm, 112, rfl⟩
abbrev main_v107 : Ref sig .tc := ⟨.hbm, 113, rfl⟩
abbrev main_cst_1 : Ref sig .tc := ⟨.hbm, 114, rfl⟩
abbrev main_v108 : Ref sig .tc := ⟨.hbm, 115, rfl⟩
abbrev main_v109 : Ref sig .tc := ⟨.hbm, 116, rfl⟩
abbrev main_cst_2 : Ref sig .tc := ⟨.hbm, 117, rfl⟩
abbrev main_v110 : Ref sig .tc := ⟨.hbm, 118, rfl⟩
abbrev main_v111 : Ref sig .tc := ⟨.hbm, 119, rfl⟩
abbrev main_cst_3 : Ref sig .tc := ⟨.hbm, 120, rfl⟩
abbrev main_call0_v0 : Ref sig .tc := ⟨.hbm, 121, rfl⟩
abbrev main_call0_v1 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116_0 : Ref sig .tc := ⟨.hbm, 127, rfl⟩
abbrev main_v116_1 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x14336 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBase.lean ====
/- `Kernel`'s body: its own buffers, the weight chunks and their copies, and what it means for the body to run. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Transfers
public import Idealize.ShloMosaic.Lib.Ring
public import Idealize.ShloMosaic.Lib.Ring.WriteBehind
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's own buffers -/

/-- The activations left in HBM. -/
abbrev mX : Memref sig .tc .hbm S128x14336 .bf16 := Memref.whole main_v0
/-- The packed weights left in HBM. -/
abbrev mW : Memref sig .tc .hbm S7168x4096 .i8 := Memref.whole main_arg2
/-- The scratch buffers: the activations, their transpose, the mixing matrix, the rotated activations, the weights, the
    accumulator. -/
abbrev sX : Memref sig .tc .vmem S128x14336 .bf16 := Memref.whole cc0_scratch0
abbrev sT : Memref sig .tc .vmem S28x512x128 .bf16 := Memref.whole cc0_scratch1
abbrev sM : Memref sig .tc .vmem S448x448 .bf16 := Memref.whole cc0_scratch2
abbrev sZ : Memref sig .tc .vmem S28x512x128 .f32 := Memref.whole cc0_scratch3
abbrev sW : Memref sig .tc .vmem S7168x4096 .i8 := Memref.whole cc0_scratch4
abbrev sA : Memref sig .tc .vmem S128x4096 .f32 := Memref.whole cc0_scratch5

/-- The contents of a memref's buffer on core `c`, -/
abbrev BufOf (c : Dev nD) {sp : Space} {S : Shape} {e : EltTy} (M : Memref sig .tc sp S e) : Type := Buf (Elt F) (M.view.loc (c : Thread nD τ))
/-- and the memref's elements held at contents `f`. -/
abbrev pt (c : Dev nD) {sp : Space} {S : Shape} {e : EltTy} (M : Memref sig .tc sp S e) (f : BufOf (F := F) c M) : sProp 𝕄 :=
  M.view.loc (c : Thread nD τ) ↦[M.view.set]{fullShare} f

/-! ## The weight chunks -/

theorem trips4 : k0_t4_loop.trips = 28 := by decide
/-- Chunk `j` as a trip of the last loop. -/
abbrev tr (j : Fin 28) : Fin k0_t4_loop.trips := ⟨j.val, by rw [trips4]; exact j.isLt⟩
/-- The cell chunk `j`'s copy completes on, as the loop names it; -/
abbrev wSem (j : Fin 28) : DmaSem sig :=
  ((cc0_scratch7.slice (Rect.unit (s := S28) (k0_off74 (tr j)) S1.size (k0_off74_inb (tr j)))).squeeze S_ squeezes_S1_S_).sem
/-- chunk `j`'s rows of the scratch; -/
abbrev wDst (j : Fin 28) : Memref sig .tc .vmem S256x4096 .i8 :=
  sW.slice (Rect.unit (s := S7168x4096) (k0_off75 (tr j)) S256x4096.size (k0_off75_inb (tr j))) (fun _ => rfl)
/-- chunk `j`'s rows of the weights in HBM. -/
abbrev wSrc (j : Fin 28) : Memref sig .tc .hbm S256x4096 .i8 :=
  mW.slice (Rect.unit (s := S7168x4096) (k0_off75 (tr j)) S256x4096.size (k0_off75_inb (tr j))) (fun _ => rfl)

/-- What the scratch holds once chunk `j`, cut out of `fs`, has landed in it over `fd`. -/
abbrev landed (c : Dev nD) (fs : BufOf (F := F) c mW) (fd : BufOf (F := F) c sW) (j : Fin 28) : BufOf (F := F) c sW :=
  View.write (Elt F) (wDst j).view fd (ReadAs.same.apply ((wSrc j).view.read (Elt F) fs)) Finset.univ

/-- What chunk `j`'s copy delivers: its rows of the scratch at what landed, and its rows of the weights back. -/
abbrev dlv (c : Dev nD) (fs : BufOf (F := F) c mW) (fd : BufOf (F := F) c sW) (j : Fin 28) : sProp 𝕄 :=
  iprop(((wDst j).view.loc (c : Thread nD τ) ↦[(wDst j).view.set]{fullShare} landed c fs fd j)
    ∗ ((wSrc j).view.loc (c : Thread nD τ) ↦[(wSrc j).view.set]{fullShare} fs))

/-- Chunk `j` before trip `k`: waited for and landed if an earlier trip was its own, still on its way if not. -/
def chunk (c : Dev nD) (fs : BufOf (F := F) c mW) (fd : BufOf (F := F) c sW) (k : ℕ) (j : Fin 28) : sProp 𝕄 :=
  if j.val < k then iprop(dlv c fs fd j ∗ semVal ((c : Thread nD τ), SemLoc.dma (wSem j)) 0)
  else Transfers.Flight (countersEmb (U := Pipeline.UD sig nD τ)) (c : Thread nD τ) (SemLoc.dma (wSem j)) () (wDst j).view.dmaCredit (dlv c fs fd j)

theorem chunk_lt (c : Dev nD) (fs : BufOf (F := F) c mW) (fd : BufOf (F := F) c sW) (k : ℕ) (j : Fin 28) (h : j.val < k) :
    chunk c fs fd k j = iprop(dlv c fs fd j ∗ semVal ((c : Thread nD τ), SemLoc.dma (wSem j)) 0) := if_pos h
theorem chunk_ge (c : Dev nD) (fs : BufOf (F := F) c mW) (fd : BufOf (F := F) c sW) (k : ℕ) (j : Fin 28) (h : ¬ j.val < k) :
    chunk c fs fd k j = Transfers.Flight (countersEmb (U := Pipeline.UD sig nD τ)) (c : Thread nD τ) (SemLoc.dma (wSem j)) () (wDst j).view.dmaCredit (dlv c fs fd j) := if_neg h
/-- Every other chunk than trip `k`'s is the same before trip `k` and before the next. -/
theorem chunks_step (c : Dev nD) (fs : BufOf (F := F) c mW) (fd : BufOf (F := F) c sW) (j : Fin 28) :
    (bigSep (Finset.univ.erase j) (chunk c fs fd j.val) : sProp 𝕄) = bigSep (Finset.univ.erase j) (chunk c fs fd (j.val + 1)) :=
  BI.bigSep_congr fun i hi => by
    have hne : i.val ≠ j.val := fun h => (Finset.mem_erase.mp hi).1 (Fin.ext h)
    by_cases h : i.val < j.val
    · rw [chunk_lt _ _ _ _ _ h, chunk_lt _ _ _ _ _ (by omega)]
    · rw [chunk_ge _ _ _ _ _ h, chunk_ge _ _ _ _ _ (by omega)]

/-- The rows trip `k` loads are the rows of the chunk it has waited for. -/
theorem wLoad_subset (k : Fin k0_t4_loop.trips) (hk : k.val < 28) :
    (sW.access (Rect.unit (s := S7168x4096) (k0_off76 k) S256x4096.size (k0_off76_inb k))).set ⊆ (wDst ⟨k.val, hk⟩).view.set := by
  have h : ∀ (o : Fin 2 → ℕ) (i : ∀ a, o a + S256x4096.size a ≤ S7168x4096.size a), o = k0_off75 k →
      (sW.access (Rect.unit (s := S7168x4096) o S256x4096.size i)).set ⊆ (wDst ⟨k.val, hk⟩).view.set := by
    rintro o i rfl; exact subset_rfl
  exact h _ _ (by rw [k0_off76_eq, k0_off75_eq])

/-! ## The weights, cut into chunks -/

/-- The row at which chunk `j` starts. -/
theorem off75_at (j : Fin 28) : k0_off75 (tr j) = ![256 * j.val, 0] := by rw [k0_off75_eq]

/-- Two chunks share no row; -/
theorem rows_disjoint (b b' : Fin 28) (h : b ≠ b') :
    Disjoint (Rect.unit (s := S7168x4096) (k0_off75 (tr b)) S256x4096.size (k0_off75_inb (tr b))).set
      (Rect.unit (s := S7168x4096) (k0_off75 (tr b')) S256x4096.size (k0_off75_inb (tr b'))).set :=
  Ring.lead_disjoint (s := S7168x4096) (NB := 28) (0 : Fin 2) 256 (fun j : Fin 28 => k0_off75 (tr j)) S256x4096.size (fun j => k0_off75_inb (tr j))
    (fun b => by rw [off75_at]; rfl) rfl b b' h
/-- and the chunks hold every row. -/
theorem rows_cover :
    Finset.univ.biUnion (fun j : Fin 28 => (Rect.unit (s := S7168x4096) (k0_off75 (tr j)) S256x4096.size (k0_off75_inb (tr j))).set) = Finset.univ :=
  Ring.lead_cover (s := S7168x4096) (NB := 28) (0 : Fin 2) 256 (fun j : Fin 28 => k0_off75 (tr j)) S256x4096.size (fun j => k0_off75_inb (tr j))
    (fun b => by rw [off75_at]; rfl)
    (fun b a ha => by
      rw [off75_at]
      match a, ha with
      | ⟨0, _⟩, ha => exact absurd rfl ha
      | ⟨1, _⟩, _ => rfl)
    rfl
    (fun a ha => by
      match a, ha with
      | ⟨0, _⟩, ha => exact absurd rfl ha
      | ⟨1, _⟩, _ => rfl)
    (by decide)

/-- Before copy `k` is issued, chunk `j`: on its way if issued earlier, else both its ends held and its cell at zero. -/
def ready (c : Dev nD) (fs : BufOf (F := F) c mW) (fd : BufOf (F := F) c sW) (k : ℕ) (j : Fin 28) : sProp 𝕄 :=
  if j.val < k then chunk c fs fd 0 j
  else iprop(((wSrc j).view.loc (c : Thread nD τ) ↦[(wSrc j).view.set]{fullShare} fs)
    ∗ ((wDst j).view.loc (c : Thread nD τ) ↦[(wDst j).view.set]{fullShare} fd) ∗ semVal ((c : Thread nD τ), SemLoc.dma (wSem j)) 0)

theorem ready_done (c : Dev nD) (fs : BufOf (F := F) c mW) (fd : BufOf (F := F) c sW) :
    (bigSep Finset.univ (ready c fs fd 28) : sProp 𝕄) = bigSep Finset.univ (chunk c fs fd 0) :=
  BI.bigSep_congr fun j _ => if_pos j.isLt

theorem ready_step (c : Dev nD) (fs : BufOf (F := F) c mW) (fd : BufOf (F := F) c sW) (j : Fin 28) :
    (bigSep (Finset.univ.erase j) (ready c fs fd j.val) : sProp 𝕄) = bigSep (Finset.univ.erase j) (ready c fs fd (j.val + 1)) :=
  BI.bigSep_congr fun i hi => by
    have hne : i.val ≠ j.val := fun h => (Finset.mem_erase.mp hi).1 (Fin.ext h)
    by_cases h : i.val < j.val
    · rw [ready, ready, if_pos h, if_pos (by omega)]
    · rw [ready, ready, if_neg h, if_neg (by omega)]

theorem prog_bind {E : Type → Type} {α β : Type} (p : Prog E α) (k : α → Prog E β) : Prog.bind p k = (p >>= k) := rfl
theorem prog_ret_bind {E : Type → Type} {α β : Type} (a : α) (k : α → Prog E β) : Prog.bind (.ret a) k = k a := rfl

/-- ISSUING chunk `n`'s copy, spelled at whatever offsets equal the loop's: every other chunk is as before. -/
theorem issue_step (c : Dev nD) (fs : BufOf (F := F) c mW) (fd : BufOf (F := F) c sW) (n : ℕ) (hn : n < 28) (o : Fin 2 → ℕ) (o' : Fin 1 → ℕ)
    (ho : o = k0_off75 (tr ⟨n, hn⟩)) (ho' : o' = k0_off74 (tr ⟨n, hn⟩))
    (i : ∀ a, o a + S256x4096.size a ≤ S7168x4096.size a) (i' : ∀ a, o' a + S1.size a ≤ S28.size a)
    (hu hu') (hsrc hdst hsem) {α : Type} {k : PUnit → Prog (TpuEff nD τ sig (Elt F) Λ₀ .tc) α} {Q : α → sProp 𝕄} :
    bigSep Finset.univ (ready c fs fd n)
      ⊢ iprop((bigSep Finset.univ (ready c fs fd (n + 1)) -∗ wp frame (wpE (defs₀ (F := F)) Variants.none c none) Set.univ (k ⟨⟩) Q)
          -∗ wp frame (wpE (defs₀ (F := F)) Variants.none c none) Set.univ
            (.op (.enqueueDma (mW.slice (Rect.unit (s := S7168x4096) o S256x4096.size i) hu) (.here (sW.slice (Rect.unit (s := S7168x4096) o S256x4096.size i) hu'))
              (.dma ((cc0_scratch7.slice (Rect.unit (s := S28) o' S1.size i')).squeeze S_ squeezes_S1_S_).sem) hsrc hdst hsem) k) Q) := by
  subst ho; subst ho'
  obtain ⟨j, hj⟩ : ∃ j : Fin 28, (⟨n, hn⟩ : Fin 28) = j := ⟨_, rfl⟩
  obtain rfl : n = j.val := congrArg Fin.val hj
  rw [Ring.bigSep_take (Finset.mem_univ j) (ready c fs fd j.val), Ring.bigSep_take (Finset.mem_univ j) (ready c fs fd (j.val + 1)), ready_step c fs fd j,
    show ready c fs fd j.val j = _ from if_neg (lt_irrefl _), show ready c fs fd (j.val + 1) j = _ from if_pos (Nat.lt_succ_self _), chunk_ge c fs fd 0 j (Nat.not_lt_zero _)]
  iintro ⟨⟨Hs, Hd, HS⟩, Hr⟩ Hk
  iapply (Transfers.wp_dmaLocal (countersEmb (U := Pipeline.UD sig nD τ)) Variants.none (c : Thread nD τ) none () (wDst j).view.dmaCredit rfl
    (show 0 < Ref.dmaCredit (sig := sig) (κ := .tc) cc0_scratch4 S256x4096 .i8 from by decide) subset_rfl) $$ [Hs Hd HS]
  · isplitl [Hs]; · iexact Hs
    isplitl [Hd]; · iexact Hd
    iexact HS
  iintro HF
  iapply Hk
  isplitl [HF]; · iexact HF
  iexact Hr

/-! ## The body -/

/-- THE BODY RUNS: from the had matrix and the weight scales held at contents reading `X1` and `X3`, the activations at `fx`, every
    weight chunk not yet issued and every other buffer at any contents, the body runs to its end, hands everything back — the weight
    chunks landed — and leaves in its three results contents satisfying `Q4`, `Q5`, `Q6`. -/
def BodyRuns (c : Dev nD) (X1 : S28x28.Idx → Elt F .f32) (X3 : S1x4096.Idx → Elt F .f32) (fx : BufOf (F := F) c mX) (fs : BufOf (F := F) c mW)
    (Q4 : (S128x4096.Idx → Elt F .bf16) → Prop) (Q5 : (S128x14336.Idx → Elt F .i8) → Prop) (Q6 : (S1x128.Idx → Elt F .f32) → Prop) : Prop :=
  ∀ (arg1 : Memref sig .tc .vmem S28x28 .f32) (harg1 : arg1.IsWhole) (arg3 : Memref sig .tc .vmem S1x4096 .f32) (harg3 : arg3.IsWhole)
    (arg4 : Memref sig .tc .vmem S128x4096 .bf16) (harg4 : arg4.IsWhole) (arg5 : Memref sig .tc .vmem S128x14336 .i8) (harg5 : arg5.IsWhole)
    (arg6 : Memref sig .tc .vmem S1x128 .f32) (harg6 : arg6.IsWhole)
    (f1 : BufOf (F := F) c arg1) (f3 : BufOf (F := F) c arg3) (fd : BufOf (F := F) c sW)
    (W : Waits sig Unit) (K : PUnit → sProp 𝕄) (h1 : arg1.view.read (Elt F) f1 = X1) (h3 : arg3.view.read (Elt F) f3 = X3),
    iprop(pt c arg1 f1 ∗ pt c arg3 f3 ∗ (∃ f, pt c arg4 f) ∗ (∃ f, pt c arg5 f) ∗ (∃ f, pt c arg6 f)
      ∗ (∃ f, pt c sX f) ∗ (∃ f, pt c sT f) ∗ (∃ f, pt c sM f) ∗ (∃ f, pt c sZ f) ∗ (∃ f, pt c sA f)
      ∗ semVal ((c : Thread nD τ), SemLoc.dma 5) 0 ∗ pt c mX fx ∗ bigSep Finset.univ (ready c fs fd 0) ∗ owes (c : Thread nD τ) 0 W
      ∗ (iprop(pt c arg1 f1 ∗ pt c arg3 f3 ∗ (∃ f, ⌜Q4 (arg4.view.read (Elt F) f)⌝ ∗ pt c arg4 f)
          ∗ (∃ f, ⌜Q5 (arg5.view.read (Elt F) f)⌝ ∗ pt c arg5 f) ∗ (∃ f, ⌜Q6 (arg6.view.read (Elt F) f)⌝ ∗ pt c arg6 f)
          ∗ (∃ f, pt c sX f) ∗ (∃ f, pt c sT f) ∗ (∃ f, pt c sM f) ∗ (∃ f, pt c sZ f) ∗ (∃ f, pt c sA f)
          ∗ semVal ((c : Thread nD τ), SemLoc.dma 5) 0 ∗ pt c mX fx ∗ bigSep Finset.univ (chunk c fs fd 28) ∗ (∃ W', owes (c : Thread nD τ) 0 W')) -∗ K ⟨⟩))
      ⊢ wp frame (wpE (defs₀ (F := F)) Variants.none c none) Set.univ
          (cc0_hadamard_int4_down_proj mX (Memref.isWhole_whole _) arg1 harg1 mW (Memref.isWhole_whole _) arg3 harg3 arg4 harg4 arg5 harg5 arg6 harg6
            sX (Memref.isWhole_whole _) sT (Memref.isWhole_whole _) sM (Memref.isWhole_whole _) sZ (Memref.isWhole_whole _)
            sW (Memref.isWhole_whole _) sA (Memref.isWhole_whole _) cc0_scratch6 cc0_scratch7) K

end Cert.Kernel.Hand

end
-- ==== Proof.KernelLoops.lean ====
/- The four counted loops of `Kernel`, each by an invariant that names only WHAT IS HELD: the buffers a loop reads and
   writes, each whole at some contents, and — for the last loop — the weight chunks, each either still on its way or
   landed. -/
module

public import proofs.«01_k».proof.Proof.KernelBase

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loops -/

section Loops

variable (c : Dev nD) (arg1 : Memref sig .tc .vmem S28x28 .f32) (harg1 : arg1.IsWhole) (arg3 : Memref sig .tc .vmem S1x4096 .f32) (harg3 : arg3.IsWhole)
  (arg4 : Memref sig .tc .vmem S128x4096 .bf16) (harg4 : arg4.IsWhole) (arg5 : Memref sig .tc .vmem S128x14336 .i8) (harg5 : arg5.IsWhole)
  (arg6 : Memref sig .tc .vmem S1x128 .f32) (harg6 : arg6.IsWhole)

set_option warn.classDefReducibility false in
/-- The first loop (the transposes) reads the activations and writes their transpose. -/
@[sl_loop] def loopInv_t1 (v113 : FVec F S28x28 .bf16) (v143 : FVec F S448x28 .bf16) (v173 : FVec F S28x448 .bf16) (cst : FVec F S448x28 .f32) :
    LoopInvTy_k0_t1 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv _ _ := iprop((∃ f, pt c sX f) ∗ (∃ f, pt c sT f))
  step k acc := by
    have hk : k.val < 28 := Nat.lt_of_lt_of_le k.isLt k0_t1_abs.2.1
    unfold k0_t1_body
    iintro ⟨⟨%f7, H7⟩, ⟨%f8, H8⟩⟩
    sl_exec
    sl_step
    isplitl [H7]; · iexists _; iexact H7
    iexists _; iexact H8

set_option warn.classDefReducibility false in
/-- The second loop (the mixing) reads the transpose and the mixing matrix and writes the rotated activations. -/
@[sl_loop] def loopInv_t2 (v113 : FVec F S28x28 .bf16) (v143 : FVec F S448x28 .bf16) (v173 : FVec F S28x448 .bf16) (cst : FVec F S448x28 .f32) :
    LoopInvTy_k0_t2 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv _ _ := iprop((∃ f, pt c sT f) ∗ (∃ f, pt c sM f) ∗ (∃ f, pt c sZ f))
  step k acc := by
    have hk : k.val < 16 := Nat.lt_of_lt_of_le k.isLt k0_t2_abs.2.1
    unfold k0_t2_body
    iintro ⟨⟨%f8, H8⟩, ⟨%f9, H9⟩, ⟨%f10, H10⟩⟩
    sl_exec
    sl_step
    isplitl [H8]; · iexists _; iexact H8
    isplitl [H9]; · iexists _; iexact H9
    iexists _; iexact H10

set_option warn.classDefReducibility false in
/-- The third loop (the remaining butterflies) reads and writes the rotated activations. -/
@[sl_loop] def loopInv_t3 (v113 : FVec F S28x28 .bf16) (v143 : FVec F S448x28 .bf16) (v173 : FVec F S28x448 .bf16) (cst : FVec F S448x28 .f32) (init : FVec F S8x128 .f32) :
    LoopInvTy_k0_t3 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst init where
  inv _ _ := iprop(∃ f, pt c sZ f)
  step k acc := by
    have hk : k.val < 28 := Nat.lt_of_lt_of_le k.isLt k0_t3_abs.2.1
    unfold k0_t3_body
    iintro ⟨%f10, H10⟩
    sl_exec
    sl_step
    iexists _; iexact H10

set_option warn.classDefReducibility false in
/-- The last loop (quantise, store the codes, multiply by the weight chunk) reads the rotated activations, writes the
    codes and the accumulator, and waits for one chunk a trip. -/
def loopInv_t4 (fs : BufOf (F := F) c mW) (fd : BufOf (F := F) c sW) (v205 : FVec F S1x128 .f32) (cst_122 : F .f32) :
    LoopInvTy_k0_t4 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v205 cst_122 where
  inv k _ := iprop((∃ f, pt c sZ f) ∗ (∃ f, pt c arg5 f) ∗ (∃ f, pt c sA f) ∗ bigSep Finset.univ (chunk c fs fd k) ∗ (∃ W, owes (c : Thread nD τ) 0 W))
  step k acc := by
    have hk : k.val < 28 := Nat.lt_of_lt_of_le k.isLt k0_t4_abs.2.1
    rw [Ring.bigSep_take (Finset.mem_univ (⟨k.val, hk⟩ : Fin 28)) (chunk c fs fd k.val), Ring.bigSep_take (Finset.mem_univ (⟨k.val, hk⟩ : Fin 28)) (chunk c fs fd (k.val + 1)),
      chunk_ge c fs fd k.val ⟨k.val, hk⟩ (lt_irrefl k.val), chunk_lt c fs fd (k.val + 1) ⟨k.val, hk⟩ (Nat.lt_succ_self k.val), chunks_step c fs fd ⟨k.val, hk⟩]
    unfold k0_t4_body
    iintro ⟨⟨%f10, H10⟩, ⟨%f5, H5⟩, ⟨%f12, H12⟩, ⟨HF, Hr⟩, ⟨%W, HO⟩⟩
    sl_exec
    iapply (Transfers.wp_waitLocal (countersEmb (U := Pipeline.UD sig nD τ)) Variants.none (c : Thread nD τ) none () (rfl : (wDst ⟨k.val, hk⟩).view.dmaCredit = _)) $$ [HF HO]
    · isplitl [HF]; · iexact HF
      iexact HO
    iintro ⟨⟨HD, HS⟩, Hv, HO⟩
    have hsub := wLoad_subset k hk
    sl_exec
    sl_step
    isplitl [H10]; · iexists _; iexact H10
    isplitl [H5]; · iexists _; iexact H5
    isplitl [H12]; · iexists _; iexact H12
    isplitr [HO]
    · isplitr [Hr]
      · isplitr [Hv]
        · isplitl [HD]; · iexact HD
          iexact HS
        iexact Hv
      iexact Hr
    iexists _; iexact HO

end Loops

/-- THE LAST LOOP, from every chunk on its way to every chunk landed. -/
theorem t4_run (c : Dev nD) (arg1 : Memref sig .tc .vmem S28x28 .f32) (harg1 : arg1.IsWhole) (arg3 : Memref sig .tc .vmem S1x4096 .f32) (harg3 : arg3.IsWhole)
    (arg4 : Memref sig .tc .vmem S128x4096 .bf16) (harg4 : arg4.IsWhole) (arg5 : Memref sig .tc .vmem S128x14336 .i8) (harg5 : arg5.IsWhole)
    (arg6 : Memref sig .tc .vmem S1x128 .f32) (harg6 : arg6.IsWhole) (fs : BufOf (F := F) c mW) (fd : BufOf (F := F) c sW)
    (v205 : FVec F S1x128 .f32) (cst_122 : F .f32) {β : Type} {kk : Unit → Prog (TpuEff nD τ sig (Elt F) Λ₀ .tc) β} {Q : β → sProp 𝕄} :
    iprop((∃ f, pt c sZ f) ∗ (∃ f, pt c arg5 f) ∗ (∃ f, pt c sA f) ∗ bigSep Finset.univ (chunk c fs fd 0) ∗ (∃ W, owes (c : Thread nD τ) 0 W))
      ⊢ iprop((∀ acc, iprop((∃ f, pt c sZ f) ∗ (∃ f, pt c arg5 f) ∗ (∃ f, pt c sA f) ∗ bigSep Finset.univ (chunk c fs fd 28) ∗ (∃ W, owes (c : Thread nD τ) 0 W))
            -∗ wp frame (wpE (defs₀ (F := F)) Variants.none c none) Set.univ (kk acc) Q)
          -∗ wp frame (wpE (defs₀ (F := F)) Variants.none c none) Set.univ
            (k0_t4_loop.for k0_t4_ok () (k0_t4_body (F := F) mX (Memref.isWhole_whole _) arg1 harg1 mW (Memref.isWhole_whole _)
              arg3 harg3 arg4 harg4 arg5 harg5 arg6 harg6 sX (Memref.isWhole_whole _) sT (Memref.isWhole_whole _) sM (Memref.isWhole_whole _) sZ (Memref.isWhole_whole _)
              sW (Memref.isWhole_whole _) sA (Memref.isWhole_whole _) cc0_scratch6 cc0_scratch7 v205 cst_122) >>= kk) Q) := by
  have h := exec_loop _ _ _ _ _ _ _ _ _ (loopInv_t4 c arg1 harg1 arg3 harg3 arg4 harg4 arg5 harg5 arg6 harg6 fs fd v205 cst_122) (kk := kk) (Q := Q)
  rw [show Scf.trips k0_t4_loop.lb k0_t4_loop.ub k0_t4_loop.st = 28 from trips4] at h
  exact h

set_option maxHeartbeats 2000000 in
/-- The body runs, nothing being said of what it leaves in its results: the copies are issued one by one, the loops run under their
    invariants, and what is held at the end is handed back. -/
theorem run0 (c : Dev nD) (X1 : S28x28.Idx → Elt F .f32) (X3 : S1x4096.Idx → Elt F .f32) (fx : BufOf (F := F) c mX) (fs : BufOf (F := F) c mW) :
    BodyRuns c X1 X3 fx fs (fun _ => True) (fun _ => True) (fun _ => True) := by
  intro arg1 harg1 arg3 harg3 arg4 harg4 arg5 harg5 arg6 harg6 f1 f3 fd W K h1 h3
  simp only [cc0_hadamard_int4_down_proj_eq_skeleton]; unfold cc0_hadamard_int4_down_proj_skel
  iintro ⟨H1, H3, ⟨%f4, H4⟩, ⟨%f5, H5⟩, ⟨%f6, H6⟩, ⟨%gX, HX⟩, ⟨%gT, HT⟩, ⟨%gM, HM⟩, ⟨%gZ, HZ⟩, ⟨%gA, HA⟩, HS, Hx, HR, HO, Hk⟩
  sl_open_parts
  simp only [Prog.bind_assoc]
  sl_exec
  iterate 28
    iapply (issue_step c fs fd _ ?hn _ _ ?ho ?ho') $$ HR
    case hn => decide
    case ho => rw [k0_off75_eq]; rfl
    case ho' => rw [k0_off74_eq]
    iintro HR
  dsimp only [prog_ret_bind, prog_bind]
  sl_exec
  sl_exec
  iapply (t4_run c arg1 harg1 arg3 harg3 arg4 harg4 arg5 harg5 arg6 harg6 fs fd _ _) $$ [HZ H5 HA HR HO]
  · isplitl [HZ]; · iexists _; iexact HZ
    isplitl [H5]; · iexists _; iexact H5
    isplitl [HA]; · iexists _; iexact HA
    isplitl [HR]; · iapply (Entails.of_eq (ready_done c fs fd)); iexact HR
    iexists _; iexact HO
  iintro %_ ⟨⟨%f10, HZ⟩, ⟨%f5', H5⟩, ⟨%f12, HA⟩, HR, ⟨%W', HO⟩⟩
  sl_exec
  sl_step
  iapply Hk
  isplitl [H1]; · iexact H1
  isplitl [H3]; · iexact H3
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  isplitl [HX]; · iexists _; iexact HX
  isplitl [HT]; · iexists _; iexact HT
  isplitl [HM]; · iexists _; iexact HM
  isplitl [HZ]; · iexists _; iexact HZ
  isplitl [HA]; · iexists _; iexact HA
  isplitl [HS]; · iexact HS
  isplitl [Hx]; · iexact Hx
  isplitl [HR]; · iexact HR
  iexists _; iexact HO

end Cert.Kernel.Hand

end
-- ==== Proof.KernelLaunch.lean ====
/- `Kernel`'s run from the run of its body: if the body runs (`BodyRuns`) on every core, the whole program terminates, nothing
   faults, the argument arrays end unchanged, every semaphore counter ends at zero, and the three results satisfy what the body's
   run says of them. -/
module

public import proofs.«01_k».proof.Proof.KernelBase
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region is entered with -/

set_option maxHeartbeats 800000 in
/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's cells: the one the activations' copy completes on, and one for each weight chunk. -/
def osem0 : Unit ⊕ Fin 28 → SemLoc sig
  | .inl _ => SemLoc.dma 5
  | .inr j => SemLoc.dma (wSem j)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ bigSep Finset.univ fun j : Fin 28 => semVal ((c : Thread nD τ), SemLoc.dma (wSem j)) 0) := by
  unfold Pipeline.ownSems0
  rw [BI.bigSep_univ_sum, BI.bigSep_univ_eq_bigSepL [()] (by decide) (by decide)]; rfl

/-- The operands the body's own copies read: the activations and the weights. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg2) ↦{fullShare} V m c main_arg2)) := by
  rw [BI.bigSep_eq_bigSepL_of_eq [main_v0, main_arg2] (by decide) (by decide)]; rfl

/-! ## The weights cut and rejoined -/

/-- The weights, their scratch and the chunks' cells are the chunks, none yet issued; -/
theorem ready_in (c : Dev nD) (fs : BufOf (F := F) c mW) (fd : BufOf (F := F) c sW) :
    iprop((((c : Thread nD τ).loc main_arg2) ↦{fullShare} fs) ∗ (((c : Thread nD τ).loc cc0_scratch4) ↦{fullShare} fd)
      ∗ bigSep Finset.univ fun j : Fin 28 => semVal ((c : Thread nD τ), SemLoc.dma (wSem j)) 0)
      ⊢ (bigSep Finset.univ (ready c fs fd 0) : sProp 𝕄) := by
  rw [Ring.pointsTo_blocks (ℓ := (c : Thread nD τ).loc main_arg2) _ rows_disjoint rows_cover fs,
    Ring.pointsTo_blocks (ℓ := (c : Thread nD τ).loc cc0_scratch4) _ rows_disjoint rows_cover fd, ← bigSep_sep', ← bigSep_sep']
  refine BI.bigSep_mono fun j _ => ?_
  unfold ready
  rw [if_neg (Nat.not_lt_zero _)]
  simp only [View.set_slice_whole]
  exact Entails.of_eq (show (_ : sProp 𝕄) = (_ : sProp 𝕄) from rfl)

/-- and the chunks, all landed, are the weights, the scratch at some contents and the cells at zero. -/
theorem chunks_out (c : Dev nD) (fs : BufOf (F := F) c mW) (fd : BufOf (F := F) c sW) :
    (bigSep Finset.univ (chunk c fs fd 28) : sProp 𝕄)
      ⊢ iprop((((c : Thread nD τ).loc main_arg2) ↦{fullShare} fs) ∗ (∃ f : BufOf (F := F) c sW, ((c : Thread nD τ).loc cc0_scratch4) ↦{fullShare} f)
        ∗ bigSep Finset.univ fun j : Fin 28 => semVal ((c : Thread nD τ), SemLoc.dma (wSem j)) 0) := by
  have h : ∀ j : Fin 28, chunk c fs fd 28 j = iprop(dlv c fs fd j ∗ semVal ((c : Thread nD τ), SemLoc.dma (wSem j)) 0) := fun j => chunk_lt c fs fd 28 j j.isLt
  rw [BI.bigSep_congr (fun j _ => h j), Ring.pointsTo_blocks (ℓ := (c : Thread nD τ).loc main_arg2) _ rows_disjoint rows_cover fs,
    bigSep_sep', bigSep_sep']
  simp only [View.set_slice_whole]
  iintro ⟨⟨H2, H1⟩, H3⟩
  isplitl [H1]; · iexact H1
  isplitl [H2]
  · iapply (Ring.pointsTo_blocks_join (ℓ := (c : Thread nD τ).loc cc0_scratch4) _ rows_disjoint rows_cover (landed c fs fd) fd)
    iexact H2
  iexact H3

/-! ## The proof data, the body obligation -/

variable (Q4 : Dev nD → (S128x4096.Idx → Elt F .bf16) → Prop) (Q5 : Dev nD → (S128x14336.Idx → Elt F .i8) → Prop) (Q6 : Dev nD → (S1x128.Idx → Elt F .f32) → Prop)

/-- The proof data of the one pipeline on core `c`: the arrays as the region finds them, the two staged inputs left as found, the
    three results left at contents satisfying `Q4`, `Q5`, `Q6`. -/
def rdats (c : Dev nD) : RDat τ (Elt F) Unit ℕ (Pipeline.UD sig nD τ) ℕ cfg0 c where
  A w := V m c (Pipeline.arrRef spec0 w)
  after w t := match w with
    | ⟨0, _⟩ => fun Y X => X = Y
    | ⟨1, _⟩ => fun Y X => X = Y
    | ⟨2, _⟩ => fun _ X => Q4 c X
    | ⟨3, _⟩ => fun _ X => Q5 c X
    | ⟨4, _⟩ => fun _ X => Q6 c X
  Φ _ := Pipeline.ΦD osem0 spec0 H0 (V m) c
  q _ := fullShare
  owed _ := 0

theorem finds0 (c : Dev nD) (t : Fin cfg0.N) (Y) (h : (rdats m Q4 Q5 Q6 c).Finds 0 t Y) : Y = iblk m c 0 t := by
  obtain ⟨d, h⟩ := (RDat.finds_of_fetch _ (fetch0_0 t) Y).mp h
  rw [h]; rfl
theorem finds1 (c : Dev nD) (t : Fin cfg0.N) (Y) (h : (rdats m Q4 Q5 Q6 c).Finds 1 t Y) : Y = iblk m c 1 t := by
  obtain ⟨d, h⟩ := (RDat.finds_of_fetch _ (fetch0_1 t) Y).mp h
  rw [h]; rfl

/-- A whole buffer held is its memref's elements held. -/
theorem pt_of (c : Dev nD) (b : Ref sig .tc) (f : Buf (Elt F) ((c : Thread nD τ).loc b)) :
    ((((c : Thread nD τ).loc b) ↦{fullShare} f) : sProp 𝕄) = (View.whole b).loc (c : Thread nD τ) ↦[(View.whole b).set]{fullShare} f := by
  rw [View.set_whole]

set_option maxHeartbeats 1000000 in
/-- The body's obligation at the one point: cut the weights into chunks, run the body, rejoin them. -/
theorem sound_body (c : Dev nD) (t : Fin cfg0.N) (hrun : BodyRuns c (iblk m c 0 t) (iblk m c 1 t) (V m c main_v0) (V m c main_arg2) (Q4 c) (Q5 c) (Q6 c)) :
    iprop(Pipeline.ΦD osem0 spec0 H0 (V m) c ∗ (rdats m Q4 Q5 Q6 c).owesAt () t.castSucc
        ∗ owns (c : Thread nD τ) (st0_0 t) fullShare (iblk m c 0 t) ∗ owns (c : Thread nD τ) (st0_1 t) fullShare (iblk m c 1 t)
        ∗ (∃ d, owns (c : Thread nD τ) (st0_2 t) fullShare d) ∗ (∃ d, owns (c : Thread nD τ) (st0_3 t) fullShare d) ∗ (∃ d, owns (c : Thread nD τ) (st0_4 t) fullShare d))
      ⊢ wp frame (wpE (defs₀ (F := F)) Variants.none c none) Set.univ (bodyAt0 t) (fun _ =>
        iprop(Pipeline.ΦD osem0 spec0 H0 (V m) c ∗ (rdats m Q4 Q5 Q6 c).owesAt () t.succ
          ∗ owns (c : Thread nD τ) (st0_0 t) fullShare (iblk m c 0 t) ∗ owns (c : Thread nD τ) (st0_1 t) fullShare (iblk m c 1 t)
          ∗ (∃ X, ⌜Q4 c X⌝ ∗ owns (c : Thread nD τ) (st0_2 t) fullShare X) ∗ (∃ X, ⌜Q5 c X⌝ ∗ owns (c : Thread nD τ) (st0_3 t) fullShare X)
          ∗ (∃ X, ⌜Q6 c X⌝ ∗ owns (c : Thread nD τ) (st0_4 t) fullShare X))) := by
  unfold bodyAt0
  rw [Pipeline.ΦD_eq, scopedRest0_eq, ownSems00_eq, hbmPts0_eq]
  unfold RDat.owesAt Pipeline.owesWithin
  rw [show (rdats m Q4 Q5 Q6 c).owed t.castSucc = 0 from rfl, show (rdats m Q4 Q5 Q6 c).owed t.succ = 0 from rfl]
  rw [pt_of c main_v0]
  simp only [pt_of c cc0_scratch0, pt_of c cc0_scratch1, pt_of c cc0_scratch2, pt_of c cc0_scratch3, pt_of c cc0_scratch5]
  unfold owns
  iintro ⟨⟨⟨⟨%gX, HX⟩, ⟨%gT, HT⟩, ⟨%gM, HM⟩, ⟨%gZ, HZ⟩, ⟨%gW, HW⟩, ⟨%gA, HA⟩⟩, Hg, ⟨HS, HC⟩, ⟨Hx, Hw⟩⟩, ⟨%W, -, HO⟩, ⟨%f1, %h1, H1⟩, ⟨%f3, %h3, H3⟩, ⟨%d4, %f4, -, H4⟩, ⟨%d5, %f5, -, H5⟩, ⟨%d6, %f6, -, H6⟩⟩
  ihave HR := (ready_in c (V m c main_arg2) gW) $$ [Hw HW HC]
  · isplitl [Hw]; · iexact Hw
    isplitl [HW]; · iexact HW
    iexact HC
  iapply (hrun _ _ _ _ _ _ _ _ _ _ f1 f3 gW W _ h1 h3)
  isplitl [H1]; · iexact H1
  isplitl [H3]; · iexact H3
  isplitl [H4]; · iexists f4; iexact H4
  isplitl [H5]; · iexists f5; iexact H5
  isplitl [H6]; · iexists f6; iexact H6
  isplitl [HX]; · iexists gX; iexact HX
  isplitl [HT]; · iexists gT; iexact HT
  isplitl [HM]; · iexists gM; iexact HM
  isplitl [HZ]; · iexists gZ; iexact HZ
  isplitl [HA]; · iexists gA; iexact HA
  isplitl [HS]; · iexact HS
  isplitl [Hx]; · iexact Hx
  isplitl [HR]; · iexact HR
  isplitl [HO]; · iexact HO
  iintro ⟨H1, H3, ⟨%f4', %q4, H4⟩, ⟨%f5', %q5, H5⟩, ⟨%f6', %q6, H6⟩, HX, HT, HM, HZ, HA, HS, Hx, HR, ⟨%W', HO⟩⟩
  ihave HR := (chunks_out c (V m c main_arg2) gW) $$ HR
  icases HR with ⟨Hw, HW, HC⟩
  isplitl [HX HT HM HZ HW HA Hg HS HC Hx Hw]
  · isplitl [HX HT HM HZ HW HA]
    · isplitl [HX]; · iexact HX
      isplitl [HT]; · iexact HT
      isplitl [HM]; · iexact HM
      isplitl [HZ]; · iexact HZ
      isplitl [HW]; · iexact HW
      iexact HA
    isplitl [Hg]; · iexact Hg
    isplitl [HS HC]
    · isplitl [HS]; · iexact HS
      iexact HC
    isplitl [Hx]; · iexact Hx
    iexact Hw
  isplitl [HO]
  · iexists W'; isplitr; · ipureintro; exact fun _ _ => Or.inl trivial
    iexact HO
  isplitl [H1]
  · iexists f1; isplitr; · ipureintro; exact h1
    iexact H1
  isplitl [H3]
  · iexists f3; isplitr; · ipureintro; exact h3
    iexact H3
  isplitl [H4]
  · iexists _; isplitr; · ipureintro; exact q4
    iexists f4'; isplitr; · ipureintro; rfl
    iexact H4
  isplitl [H5]
  · iexists _; isplitr; · ipureintro; exact q5
    iexists f5'; isplitr; · ipureintro; rfl
    iexact H5
  iexists _; isplitr; · ipureintro; exact q6
  iexists f6'; isplitr; · ipureintro; rfl
  iexact H6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD)
    (hrun : ∀ t, BodyRuns c (iblk m c 0 t) (iblk m c 1 t) (V m c main_v0) (V m c main_arg2) (Q4 c) (Q5 c) (Q6 c)) :
    (rdats m Q4 Q5 Q6 c).BodyObligation (defs₀ (F := F)) Variants.none () Set.univ := fun t Y hY => by
  have e0 := finds0 m Q4 Q5 Q6 c t (Y 0) (hY 0)
  have e1 := finds1 m Q4 Q5 Q6 c t (Y 1) (hY 1)
  rw [bigSep_W0, bigSep_W0, defs₀_row, e0, e1, show (rdats m Q4 Q5 Q6 c).Φ t.castSucc = Pipeline.ΦD osem0 spec0 H0 (V m) c from rfl,
    show (rdats m Q4 Q5 Q6 c).Φ t.succ = Pipeline.ΦD osem0 spec0 H0 (V m) c from rfl]
  refine triple_restated (sound_body m Q4 Q5 Q6 c t (hrun t)) rfl ?_ fun _ => ?_
  · iintro ⟨HΦ, HO, H0, H1, H2, H3, H4⟩
    isplitl [HΦ]; · iexact HΦ
    isplitl [HO]; · iexact HO
    isplitl [H0]; · iexact H0
    isplitl [H1]; · iexact H1
    isplitl [H2]; · iexists _; iexact H2
    isplitl [H3]; · iexists _; iexact H3
    iexists _; iexact H4
  · iintro ⟨HΦ, HO, H0, H1, H2, H3, H4⟩
    isplitl [HΦ]; · iexact HΦ
    isplitl [HO]; · iexact HO
    isplitl [H0]
    · iexists _; isplitr; swap; · iexact H0
      ipureintro; rfl
    isplitl [H1]
    · iexists _; isplitr; swap; · iexact H1
      ipureintro; rfl
    isplitl [H2]; · iexact H2
    isplitl [H3]; · iexact H3
    iexact H4

/-! ## The run -/

set_option backward.isDefEq.respectTransparency.types false in
/-- The whole program's run from the body's. -/
theorem run_main (hrun : ∀ c t, BodyRuns c (iblk m c 0 t) (iblk m c 1 t) (V m c main_v0) (V m c main_arg2) (Q4 c) (Q5 c) (Q6 c)) :
    θ_run defs (onTc (τ := τ) (main (F := F))) (s₀ m ρ) (fun r => Pipeline.RDat.FramePost cfg0 (rdats m Q4 Q5 Q6) (V m) r ∧ r.2.sem = fun _ => 0) :=
  Pipeline.RDat.θ_run_frame_dma (Q' := _) cfgs (0 : Fin 1) launch0 osem0 defs₀ Variants.none (rdats m Q4 Q5 Q6) ownSemFacts0 H0 H0_sub m ρ main
    (hbody := fun c => body_obligation m Q4 Q5 Q6 c (hrun c)) (hshare := fun c w => by show (if _ then fullShare else fullShare) = _; exact ite_self _)
    (howed := fun _ _ => rfl) (V := V m) (hmain := hmain m Variants.none) (hA := fun c w => rfl)
    (hin := fun _ => .rfl) (hout := fun _ => .rfl)

/-- What the first result's array holds at the end: contents the body may have left in its staging buffer; -/
theorem res0 (c : Dev nD) (G) (h : (rdats m Q4 Q5 Q6 c).ArrAt 2 cfg0.N G) : Q4 c G := by
  have hN : cfg0.N = 0 + 1 := N_0
  rw [hN] at h
  unfold RDat.ArrAt at h
  rw [dif_pos (by rw [hN]; exact Nat.zero_lt_one), if_pos (flush0_2 _)] at h
  obtain ⟨G₀, X, -, ⟨Y, -, hX⟩, e⟩ := h
  have : G = X := by
    rw [e]; funext i
    have hi : ((cfg0.win 2).blk ⟨0, t0_0.isLt⟩).view.emb i = i := by
      funext a; apply Fin.ext
      exact Pipeline.Window.rect_emb_val_of_index_zero (cfg0.win 2) _ a (by match a with | ⟨0, _⟩ => rfl | ⟨1, _⟩ => rfl) i
    conv_lhs => rw [← hi, View.write_emb_of_mem _ _ (Finset.mem_univ _)]
    rfl
  rw [this]; exact hX

/-- so the second's, -/
theorem res1 (c : Dev nD) (G) (h : (rdats m Q4 Q5 Q6 c).ArrAt 3 cfg0.N G) : Q5 c G := by
  have hN : cfg0.N = 0 + 1 := N_0
  rw [hN] at h
  unfold RDat.ArrAt at h
  rw [dif_pos (by rw [hN]; exact Nat.zero_lt_one), if_pos (flush0_3 _)] at h
  obtain ⟨G₀, X, -, ⟨Y, -, hX⟩, e⟩ := h
  have : G = X := by
    rw [e]; funext i
    have hi : ((cfg0.win 3).blk ⟨0, t0_0.isLt⟩).view.emb i = i := by
      funext a; apply Fin.ext
      exact Pipeline.Window.rect_emb_val_of_index_zero (cfg0.win 3) _ a (by match a with | ⟨0, _⟩ => rfl | ⟨1, _⟩ => rfl) i
    conv_lhs => rw [← hi, View.write_emb_of_mem _ _ (Finset.mem_univ _)]
    rfl
  rw [this]; exact hX

/-- and the third's. -/
theorem res2 (c : Dev nD) (G) (h : (rdats m Q4 Q5 Q6 c).ArrAt 4 cfg0.N G) : Q6 c G := by
  have hN : cfg0.N = 0 + 1 := N_0
  rw [hN] at h
  unfold RDat.ArrAt at h
  rw [dif_pos (by rw [hN]; exact Nat.zero_lt_one), if_pos (flush0_4 _)] at h
  obtain ⟨G₀, X, -, ⟨Y, -, hX⟩, e⟩ := h
  have : G = X := by
    rw [e]; funext i
    have hi : ((cfg0.win 4).blk ⟨0, t0_0.isLt⟩).view.emb i = i := by
      funext a; apply Fin.ext
      exact Pipeline.Window.rect_emb_val_of_index_zero (cfg0.win 4) _ a (by match a with | ⟨0, _⟩ => rfl | ⟨1, _⟩ => rfl) i
    conv_lhs => rw [← hi, View.write_emb_of_mem _ _ (Finset.mem_univ _)]
    rfl
  rw [this]; exact hX

/-- The program's run: arguments unchanged, counters at zero, the results as the body's run says. -/
theorem run_post (hrun : ∀ c t, BodyRuns c (iblk m c 0 t) (iblk m c 1 t) (V m c main_v0) (V m c main_arg2) (Q4 c) (Q5 c) (Q6 c)) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, Q4 c (r.2.mem ((c.tc : Thread nD τ).loc main_v2_0))
        ∧ Q5 c (r.2.mem ((c.tc : Thread nD τ).loc main_v2_1)) ∧ Q6 c (r.2.mem ((c.tc : Thread nD τ).loc main_v2_2))) :=
  (θ_run defs _ _).mono (fun r h => ⟨⟨fun c => ⟨((h.1 c).2 main_arg0 (Pipeline.mem_restRefs_of main_arg0 (by decide) (by decide))).trans (V_main_arg0 m c),
      (by
        have := (h.1 c).1 0
        rw [RDat.ArrAt_in _ 0 rfl] at this
        exact Eq.trans this (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩,
      fun c => ⟨res0 m Q4 Q5 Q6 c _ ((h.1 c).1 2), res1 m Q4 Q5 Q6 c _ ((h.1 c).1 3), res2 m Q4 Q5 Q6 c _ ((h.1 c).1 4)⟩⟩) (run_main m ρ Q4 Q5 Q6 hrun)

end Cert.Kernel.Hand

end
-- ==== Proof.KernelFrame.lean ====
/- `Kernel`'s frame: the program terminates, nothing faults, its argument arrays end unchanged, every semaphore counter
   ends at zero. The body runs under the loops' invariants of KernelLoops.lean; what the three results hold is
   forgotten. -/
module

public import proofs.«01_k».proof.Proof.KernelLoops
public import proofs.«01_k».proof.Proof.KernelLaunch

@[expose] public section

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1)
    (run_post m ρ (fun _ _ => True) (fun _ _ => True) (fun _ _ => True) fun c t => run0 c _ _ _ _)

end Cert.Kernel.Hand

end
-- ==== Proof.KernelIdealBase.lean ====
/- `KernelIdeal`'s body: its own buffers, the weight chunks and their copies, and what it means for the body to run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Transfers
public import Idealize.ShloMosaic.Lib.Ring
public import Idealize.ShloMosaic.Lib.Ring.WriteBehind
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's own buffers -/

/-- The activations left in HBM. -/
abbrev mX : Memref sig .tc .hbm S128x14336 .bf16 := Memref.whole main_v0
/-- The packed weights left in HBM. -/
abbrev mW : Memref sig .tc .hbm S7168x4096 .i8 := Memref.whole main_arg2
/-- The scratch buffers: the activations, their transpose, the mixing matrix, the rotated activations, the weights, the
    accumulator. -/
abbrev sX : Memref sig .tc .vmem S128x14336 .bf16 := Memref.whole cc0_scratch0
abbrev sT : Memref sig .tc .vmem S28x512x128 .bf16 := Memref.whole cc0_scratch1
abbrev sM : Memref sig .tc .vmem S448x448 .bf16 := Memref.whole cc0_scratch2
abbrev sZ : Memref sig .tc .vmem S28x512x128 .f32 := Memref.whole cc0_scratch3
abbrev sW : Memref sig .tc .vmem S7168x4096 .i8 := Memref.whole cc0_scratch4
abbrev sA : Memref sig .tc .vmem S128x4096 .f32 := Memref.whole cc0_scratch5

/-- The contents of a memref's buffer on core `c`, -/
abbrev BufOf (c : Dev nD) {sp : Space} {S : Shape} {e : EltTy} (M : Memref sig .tc sp S e) : Type := Buf (Elt F) (M.view.loc (c : Thread nD τ))
/-- and the memref's elements held at contents `f`. -/
abbrev pt (c : Dev nD) {sp : Space} {S : Shape} {e : EltTy} (M : Memref sig .tc sp S e) (f : BufOf (F := F) c M) : sProp 𝕄 :=
  M.view.loc (c : Thread nD τ) ↦[M.view.set]{fullShare} f

/-! ## The weight chunks -/

theorem trips4 : k0_t4_loop.trips = 28 := by decide
/-- Chunk `j` as a trip of the last loop. -/
abbrev tr (j : Fin 28) : Fin k0_t4_loop.trips := ⟨j.val, by rw [trips4]; exact j.isLt⟩
/-- The cell chunk `j`'s copy completes on, as the loop names it; -/
abbrev wSem (j : Fin 28) : DmaSem sig :=
  ((cc0_scratch7.slice (Rect.unit (s := S28) (k0_off74 (tr j)) S1.size (k0_off74_inb (tr j)))).squeeze S_ squeezes_S1_S_).sem
/-- chunk `j`'s rows of the scratch; -/
abbrev wDst (j : Fin 28) : Memref sig .tc .vmem S256x4096 .i8 :=
  sW.slice (Rect.unit (s := S7168x4096) (k0_off75 (tr j)) S256x4096.size (k0_off75_inb (tr j))) (fun _ => rfl)
/-- chunk `j`'s rows of the weights in HBM. -/
abbrev wSrc (j : Fin 28) : Memref sig .tc .hbm S256x4096 .i8 :=
  mW.slice (Rect.unit (s := S7168x4096) (k0_off75 (tr j)) S256x4096.size (k0_off75_inb (tr j))) (fun _ => rfl)

/-- What the scratch holds once chunk `j`, cut out of `fs`, has landed in it over `fd`. -/
abbrev landed (c : Dev nD) (fs : BufOf (F := F) c mW) (fd : BufOf (F := F) c sW) (j : Fin 28) : BufOf (F := F) c sW :=
  View.write (Elt F) (wDst j).view fd (ReadAs.same.apply ((wSrc j).view.read (Elt F) fs)) Finset.univ

/-- What chunk `j`'s copy delivers: its rows of the scratch at what landed, and its rows of the weights back. -/
abbrev dlv (c : Dev nD) (fs : BufOf (F := F) c mW) (fd : BufOf (F := F) c sW) (j : Fin 28) : sProp 𝕄 :=
  iprop(((wDst j).view.loc (c : Thread nD τ) ↦[(wDst j).view.set]{fullShare} landed c fs fd j)
    ∗ ((wSrc j).view.loc (c : Thread nD τ) ↦[(wSrc j).view.set]{fullShare} fs))

/-- Chunk `j` before trip `k`: waited for and landed if an earlier trip was its own, still on its way if not. -/
def chunk (c : Dev nD) (fs : BufOf (F := F) c mW) (fd : BufOf (F := F) c sW) (k : ℕ) (j : Fin 28) : sProp 𝕄 :=
  if j.val < k then iprop(dlv c fs fd j ∗ semVal ((c : Thread nD τ), SemLoc.dma (wSem j)) 0)
  else Transfers.Flight (countersEmb (U := Pipeline.UD sig nD τ)) (c : Thread nD τ) (SemLoc.dma (wSem j)) () (wDst j).view.dmaCredit (dlv c fs fd j)

theorem chunk_lt (c : Dev nD) (fs : BufOf (F := F) c mW) (fd : BufOf (F := F) c sW) (k : ℕ) (j : Fin 28) (h : j.val < k) :
    chunk c fs fd k j = iprop(dlv c fs fd j ∗ semVal ((c : Thread nD τ), SemLoc.dma (wSem j)) 0) := if_pos h
theorem chunk_ge (c : Dev nD) (fs : BufOf (F := F) c mW) (fd : BufOf (F := F) c sW) (k : ℕ) (j : Fin 28) (h : ¬ j.val < k) :
    chunk c fs fd k j = Transfers.Flight (countersEmb (U := Pipeline.UD sig nD τ)) (c : Thread nD τ) (SemLoc.dma (wSem j)) () (wDst j).view.dmaCredit (dlv c fs fd j) := if_neg h
/-- Every other chunk than trip `k`'s is the same before trip `k` and before the next. -/
theorem chunks_step (c : Dev nD) (fs : BufOf (F := F) c mW) (fd : BufOf (F := F) c sW) (j : Fin 28) :
    (bigSep (Finset.univ.erase j) (chunk c fs fd j.val) : sProp 𝕄) = bigSep (Finset.univ.erase j) (chunk c fs fd (j.val + 1)) :=
  BI.bigSep_congr fun i hi => by
    have hne : i.val ≠ j.val := fun h => (Finset.mem_erase.mp hi).1 (Fin.ext h)
    by_cases h : i.val < j.val
    · rw [chunk_lt _ _ _ _ _ h, chunk_lt _ _ _ _ _ (by omega)]
    · rw [chunk_ge _ _ _ _ _ h, chunk_ge _ _ _ _ _ (by omega)]

/-- The rows trip `k` loads are the rows of the chunk it has waited for. -/
theorem wLoad_subset (k : Fin k0_t4_loop.trips) (hk : k.val < 28) :
    (sW.access (Rect.unit (s := S7168x4096) (k0_off76 k) S256x4096.size (k0_off76_inb k))).set ⊆ (wDst ⟨k.val, hk⟩).view.set := by
  have h : ∀ (o : Fin 2 → ℕ) (i : ∀ a, o a + S256x4096.size a ≤ S7168x4096.size a), o = k0_off75 k →
      (sW.access (Rect.unit (s := S7168x4096) o S256x4096.size i)).set ⊆ (wDst ⟨k.val, hk⟩).view.set := by
    rintro o i rfl; exact subset_rfl
  exact h _ _ (by rw [k0_off76_eq, k0_off75_eq])

/-! ## The weights, cut into chunks -/

/-- The row at which chunk `j` starts. -/
theorem off75_at (j : Fin 28) : k0_off75 (tr j) = ![256 * j.val, 0] := by rw [k0_off75_eq]

/-- Two chunks share no row; -/
theorem rows_disjoint (b b' : Fin 28) (h : b ≠ b') :
    Disjoint (Rect.unit (s := S7168x4096) (k0_off75 (tr b)) S256x4096.size (k0_off75_inb (tr b))).set
      (Rect.unit (s := S7168x4096) (k0_off75 (tr b')) S256x4096.size (k0_off75_inb (tr b'))).set :=
  Ring.lead_disjoint (s := S7168x4096) (NB := 28) (0 : Fin 2) 256 (fun j : Fin 28 => k0_off75 (tr j)) S256x4096.size (fun j => k0_off75_inb (tr j))
    (fun b => by rw [off75_at]; rfl) rfl b b' h
/-- and the chunks hold every row. -/
theorem rows_cover :
    Finset.univ.biUnion (fun j : Fin 28 => (Rect.unit (s := S7168x4096) (k0_off75 (tr j)) S256x4096.size (k0_off75_inb (tr j))).set) = Finset.univ :=
  Ring.lead_cover (s := S7168x4096) (NB := 28) (0 : Fin 2) 256 (fun j : Fin 28 => k0_off75 (tr j)) S256x4096.size (fun j => k0_off75_inb (tr j))
    (fun b => by rw [off75_at]; rfl)
    (fun b a ha => by
      rw [off75_at]
      match a, ha with
      | ⟨0, _⟩, ha => exact absurd rfl ha
      | ⟨1, _⟩, _ => rfl)
    rfl
    (fun a ha => by
      match a, ha with
      | ⟨0, _⟩, ha => exact absurd rfl ha
      | ⟨1, _⟩, _ => rfl)
    (by decide)

/-- Before copy `k` is issued, chunk `j`: on its way if issued earlier, else both its ends held and its cell at zero. -/
def ready (c : Dev nD) (fs : BufOf (F := F) c mW) (fd : BufOf (F := F) c sW) (k : ℕ) (j : Fin 28) : sProp 𝕄 :=
  if j.val < k then chunk c fs fd 0 j
  else iprop(((wSrc j).view.loc (c : Thread nD τ) ↦[(wSrc j).view.set]{fullShare} fs)
    ∗ ((wDst j).view.loc (c : Thread nD τ) ↦[(wDst j).view.set]{fullShare} fd) ∗ semVal ((c : Thread nD τ), SemLoc.dma (wSem j)) 0)

theorem ready_done (c : Dev nD) (fs : BufOf (F := F) c mW) (fd : BufOf (F := F) c sW) :
    (bigSep Finset.univ (ready c fs fd 28) : sProp 𝕄) = bigSep Finset.univ (chunk c fs fd 0) :=
  BI.bigSep_congr fun j _ => if_pos j.isLt

theorem ready_step (c : Dev nD) (fs : BufOf (F := F) c mW) (fd : BufOf (F := F) c sW) (j : Fin 28) :
    (bigSep (Finset.univ.erase j) (ready c fs fd j.val) : sProp 𝕄) = bigSep (Finset.univ.erase j) (ready c fs fd (j.val + 1)) :=
  BI.bigSep_congr fun i hi => by
    have hne : i.val ≠ j.val := fun h => (Finset.mem_erase.mp hi).1 (Fin.ext h)
    by_cases h : i.val < j.val
    · rw [ready, ready, if_pos h, if_pos (by omega)]
    · rw [ready, ready, if_neg h, if_neg (by omega)]

theorem prog_bind {E : Type → Type} {α β : Type} (p : Prog E α) (k : α → Prog E β) : Prog.bind p k = (p >>= k) := rfl
theorem prog_ret_bind {E : Type → Type} {α β : Type} (a : α) (k : α → Prog E β) : Prog.bind (.ret a) k = k a := rfl

/-- ISSUING chunk `n`'s copy, spelled at whatever offsets equal the loop's: every other chunk is as before. -/
theorem issue_step (c : Dev nD) (fs : BufOf (F := F) c mW) (fd : BufOf (F := F) c sW) (n : ℕ) (hn : n < 28) (o : Fin 2 → ℕ) (o' : Fin 1 → ℕ)
    (ho : o = k0_off75 (tr ⟨n, hn⟩)) (ho' : o' = k0_off74 (tr ⟨n, hn⟩))
    (i : ∀ a, o a + S256x4096.size a ≤ S7168x4096.size a) (i' : ∀ a, o' a + S1.size a ≤ S28.size a)
    (hu hu') (hsrc hdst hsem) {α : Type} {k : PUnit → Prog (TpuEff nD τ sig (Elt F) Λ₀ .tc) α} {Q : α → sProp 𝕄} :
    bigSep Finset.univ (ready c fs fd n)
      ⊢ iprop((bigSep Finset.univ (ready c fs fd (n + 1)) -∗ wp frame (wpE (defs₀ (F := F)) Variants.none c none) Set.univ (k ⟨⟩) Q)
          -∗ wp frame (wpE (defs₀ (F := F)) Variants.none c none) Set.univ
            (.op (.enqueueDma (mW.slice (Rect.unit (s := S7168x4096) o S256x4096.size i) hu) (.here (sW.slice (Rect.unit (s := S7168x4096) o S256x4096.size i) hu'))
              (.dma ((cc0_scratch7.slice (Rect.unit (s := S28) o' S1.size i')).squeeze S_ squeezes_S1_S_).sem) hsrc hdst hsem) k) Q) := by
  subst ho; subst ho'
  obtain ⟨j, hj⟩ : ∃ j : Fin 28, (⟨n, hn⟩ : Fin 28) = j := ⟨_, rfl⟩
  obtain rfl : n = j.val := congrArg Fin.val hj
  rw [Ring.bigSep_take (Finset.mem_univ j) (ready c fs fd j.val), Ring.bigSep_take (Finset.mem_univ j) (ready c fs fd (j.val + 1)), ready_step c fs fd j,
    show ready c fs fd j.val j = _ from if_neg (lt_irrefl _), show ready c fs fd (j.val + 1) j = _ from if_pos (Nat.lt_succ_self _), chunk_ge c fs fd 0 j (Nat.not_lt_zero _)]
  iintro ⟨⟨Hs, Hd, HS⟩, Hr⟩ Hk
  iapply (Transfers.wp_dmaLocal (countersEmb (U := Pipeline.UD sig nD τ)) Variants.none (c : Thread nD τ) none () (wDst j).view.dmaCredit rfl
    (show 0 < Ref.dmaCredit (sig := sig) (κ := .tc) cc0_scratch4 S256x4096 .i8 from by decide) subset_rfl) $$ [Hs Hd HS]
  · isplitl [Hs]; · iexact Hs
    isplitl [Hd]; · iexact Hd
    iexact HS
  iintro HF
  iapply Hk
  isplitl [HF]; · iexact HF
  iexact Hr

/-! ## The body -/

/-- THE BODY RUNS: from the had matrix and the weight scales held at contents reading `X1` and `X3`, the activations at `fx`, every
    weight chunk not yet issued and every other buffer at any contents, the body runs to its end, hands everything back — the weight
    chunks landed — and leaves in its three results contents satisfying `Q4`, `Q5`, `Q6`. -/
def BodyRuns (c : Dev nD) (X1 : S28x28.Idx → Elt F .f32) (X3 : S1x4096.Idx → Elt F .f32) (fx : BufOf (F := F) c mX) (fs : BufOf (F := F) c mW)
    (Q4 : (S128x4096.Idx → Elt F .bf16) → Prop) (Q5 : (S128x14336.Idx → Elt F .i8) → Prop) (Q6 : (S1x128.Idx → Elt F .f32) → Prop) : Prop :=
  ∀ (arg1 : Memref sig .tc .vmem S28x28 .f32) (harg1 : arg1.IsWhole) (arg3 : Memref sig .tc .vmem S1x4096 .f32) (harg3 : arg3.IsWhole)
    (arg4 : Memref sig .tc .vmem S128x4096 .bf16) (harg4 : arg4.IsWhole) (arg5 : Memref sig .tc .vmem S128x14336 .i8) (harg5 : arg5.IsWhole)
    (arg6 : Memref sig .tc .vmem S1x128 .f32) (harg6 : arg6.IsWhole)
    (f1 : BufOf (F := F) c arg1) (f3 : BufOf (F := F) c arg3) (fd : BufOf (F := F) c sW)
    (W : Waits sig Unit) (K : PUnit → sProp 𝕄) (h1 : arg1.view.read (Elt F) f1 = X1) (h3 : arg3.view.read (Elt F) f3 = X3),
    iprop(pt c arg1 f1 ∗ pt c arg3 f3 ∗ (∃ f, pt c arg4 f) ∗ (∃ f, pt c arg5 f) ∗ (∃ f, pt c arg6 f)
      ∗ (∃ f, pt c sX f) ∗ (∃ f, pt c sT f) ∗ (∃ f, pt c sM f) ∗ (∃ f, pt c sZ f) ∗ (∃ f, pt c sA f)
      ∗ semVal ((c : Thread nD τ), SemLoc.dma 5) 0 ∗ pt c mX fx ∗ bigSep Finset.univ (ready c fs fd 0) ∗ owes (c : Thread nD τ) 0 W
      ∗ (iprop(pt c arg1 f1 ∗ pt c arg3 f3 ∗ (∃ f, ⌜Q4 (arg4.view.read (Elt F) f)⌝ ∗ pt c arg4 f)
          ∗ (∃ f, ⌜Q5 (arg5.view.read (Elt F) f)⌝ ∗ pt c arg5 f) ∗ (∃ f, ⌜Q6 (arg6.view.read (Elt F) f)⌝ ∗ pt c arg6 f)
          ∗ (∃ f, pt c sX f) ∗ (∃ f, pt c sT f) ∗ (∃ f, pt c sM f) ∗ (∃ f, pt c sZ f) ∗ (∃ f, pt c sA f)
          ∗ semVal ((c : Thread nD τ), SemLoc.dma 5) 0 ∗ pt c mX fx ∗ bigSep Finset.univ (chunk c fs fd 28) ∗ (∃ W', owes (c : Thread nD τ) 0 W')) -∗ K ⟨⟩))
      ⊢ wp frame (wpE (defs₀ (F := F)) Variants.none c none) Set.univ
          (cc0_hadamard_int4_down_proj mX (Memref.isWhole_whole _) arg1 harg1 mW (Memref.isWhole_whole _) arg3 harg3 arg4 harg4 arg5 harg5 arg6 harg6
            sX (Memref.isWhole_whole _) sT (Memref.isWhole_whole _) sM (Memref.isWhole_whole _) sZ (Memref.isWhole_whole _)
            sW (Memref.isWhole_whole _) sA (Memref.isWhole_whole _) cc0_scratch6 cc0_scratch7) K

end Cert.KernelIdeal.Hand

end
-- ==== Proof.KernelIdealLoops.lean ====
/- The four counted loops of `KernelIdeal`, each by an invariant that names only WHAT IS HELD: the buffers a loop reads and
   writes, each whole at some contents, and — for the last loop — the weight chunks, each either still on its way or
   landed. -/
module

public import proofs.«01_k».proof.Proof.KernelIdealBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loops -/

section Loops

variable (c : Dev nD) (arg1 : Memref sig .tc .vmem S28x28 .f32) (harg1 : arg1.IsWhole) (arg3 : Memref sig .tc .vmem S1x4096 .f32) (harg3 : arg3.IsWhole)
  (arg4 : Memref sig .tc .vmem S128x4096 .bf16) (harg4 : arg4.IsWhole) (arg5 : Memref sig .tc .vmem S128x14336 .i8) (harg5 : arg5.IsWhole)
  (arg6 : Memref sig .tc .vmem S1x128 .f32) (harg6 : arg6.IsWhole)

set_option warn.classDefReducibility false in
/-- The first loop (the transposes) reads the activations and writes their transpose. -/
@[sl_loop] def loopInv_t1 (v113 : FVec F S28x28 .bf16) (v143 : FVec F S448x28 .bf16) (v173 : FVec F S28x448 .bf16) (cst : FVec F S448x28 .f32) :
    LoopInvTy_k0_t1 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv _ _ := iprop((∃ f, pt c sX f) ∗ (∃ f, pt c sT f))
  step k acc := by
    have hk : k.val < 28 := Nat.lt_of_lt_of_le k.isLt k0_t1_abs.2.1
    unfold k0_t1_body
    iintro ⟨⟨%f7, H7⟩, ⟨%f8, H8⟩⟩
    sl_exec
    sl_step
    isplitl [H7]; · iexists _; iexact H7
    iexists _; iexact H8

set_option warn.classDefReducibility false in
/-- The second loop (the mixing) reads the transpose and the mixing matrix and writes the rotated activations. -/
@[sl_loop] def loopInv_t2 (v113 : FVec F S28x28 .bf16) (v143 : FVec F S448x28 .bf16) (v173 : FVec F S28x448 .bf16) (cst : FVec F S448x28 .f32) :
    LoopInvTy_k0_t2 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv _ _ := iprop((∃ f, pt c sT f) ∗ (∃ f, pt c sM f) ∗ (∃ f, pt c sZ f))
  step k acc := by
    have hk : k.val < 16 := Nat.lt_of_lt_of_le k.isLt k0_t2_abs.2.1
    unfold k0_t2_body
    iintro ⟨⟨%f8, H8⟩, ⟨%f9, H9⟩, ⟨%f10, H10⟩⟩
    sl_exec
    sl_step
    isplitl [H8]; · iexists _; iexact H8
    isplitl [H9]; · iexists _; iexact H9
    iexists _; iexact H10

set_option warn.classDefReducibility false in
/-- The third loop (the remaining butterflies) reads and writes the rotated activations. -/
@[sl_loop] def loopInv_t3 (v113 : FVec F S28x28 .bf16) (v143 : FVec F S448x28 .bf16) (v173 : FVec F S28x448 .bf16) (cst : FVec F S448x28 .f32) (init : FVec F S8x128 .f32) :
    LoopInvTy_k0_t3 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst init where
  inv _ _ := iprop(∃ f, pt c sZ f)
  step k acc := by
    have hk : k.val < 28 := Nat.lt_of_lt_of_le k.isLt k0_t3_abs.2.1
    unfold k0_t3_body
    iintro ⟨%f10, H10⟩
    sl_exec
    sl_step
    iexists _; iexact H10

set_option warn.classDefReducibility false in
/-- The last loop (quantise, store the codes, multiply by the weight chunk) reads the rotated activations, writes the
    codes and the accumulator, and waits for one chunk a trip. -/
def loopInv_t4 (fs : BufOf (F := F) c mW) (fd : BufOf (F := F) c sW) (v205 : FVec F S1x128 .f32) (cst_122 : F .f32) :
    LoopInvTy_k0_t4 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v205 cst_122 where
  inv k _ := iprop((∃ f, pt c sZ f) ∗ (∃ f, pt c arg5 f) ∗ (∃ f, pt c sA f) ∗ bigSep Finset.univ (chunk c fs fd k) ∗ (∃ W, owes (c : Thread nD τ) 0 W))
  step k acc := by
    have hk : k.val < 28 := Nat.lt_of_lt_of_le k.isLt k0_t4_abs.2.1
    rw [Ring.bigSep_take (Finset.mem_univ (⟨k.val, hk⟩ : Fin 28)) (chunk c fs fd k.val), Ring.bigSep_take (Finset.mem_univ (⟨k.val, hk⟩ : Fin 28)) (chunk c fs fd (k.val + 1)),
      chunk_ge c fs fd k.val ⟨k.val, hk⟩ (lt_irrefl k.val), chunk_lt c fs fd (k.val + 1) ⟨k.val, hk⟩ (Nat.lt_succ_self k.val), chunks_step c fs fd ⟨k.val, hk⟩]
    unfold k0_t4_body
    iintro ⟨⟨%f10, H10⟩, ⟨%f5, H5⟩, ⟨%f12, H12⟩, ⟨HF, Hr⟩, ⟨%W, HO⟩⟩
    sl_exec
    iapply (Transfers.wp_waitLocal (countersEmb (U := Pipeline.UD sig nD τ)) Variants.none (c : Thread nD τ) none () (rfl : (wDst ⟨k.val, hk⟩).view.dmaCredit = _)) $$ [HF HO]
    · isplitl [HF]; · iexact HF
      iexact HO
    iintro ⟨⟨HD, HS⟩, Hv, HO⟩
    have hsub := wLoad_subset k hk
    sl_exec
    sl_step
    isplitl [H10]; · iexists _; iexact H10
    isplitl [H5]; · iexists _; iexact H5
    isplitl [H12]; · iexists _; iexact H12
    isplitr [HO]
    · isplitr [Hr]
      · isplitr [Hv]
        · isplitl [HD]; · iexact HD
          iexact HS
        iexact Hv
      iexact Hr
    iexists _; iexact HO

end Loops

/-- THE LAST LOOP, from every chunk on its way to every chunk landed. -/
theorem t4_run (c : Dev nD) (arg1 : Memref sig .tc .vmem S28x28 .f32) (harg1 : arg1.IsWhole) (arg3 : Memref sig .tc .vmem S1x4096 .f32) (harg3 : arg3.IsWhole)
    (arg4 : Memref sig .tc .vmem S128x4096 .bf16) (harg4 : arg4.IsWhole) (arg5 : Memref sig .tc .vmem S128x14336 .i8) (harg5 : arg5.IsWhole)
    (arg6 : Memref sig .tc .vmem S1x128 .f32) (harg6 : arg6.IsWhole) (fs : BufOf (F := F) c mW) (fd : BufOf (F := F) c sW)
    (v205 : FVec F S1x128 .f32) (cst_122 : F .f32) {β : Type} {kk : Unit → Prog (TpuEff nD τ sig (Elt F) Λ₀ .tc) β} {Q : β → sProp 𝕄} :
    iprop((∃ f, pt c sZ f) ∗ (∃ f, pt c arg5 f) ∗ (∃ f, pt c sA f) ∗ bigSep Finset.univ (chunk c fs fd 0) ∗ (∃ W, owes (c : Thread nD τ) 0 W))
      ⊢ iprop((∀ acc, iprop((∃ f, pt c sZ f) ∗ (∃ f, pt c arg5 f) ∗ (∃ f, pt c sA f) ∗ bigSep Finset.univ (chunk c fs fd 28) ∗ (∃ W, owes (c : Thread nD τ) 0 W))
            -∗ wp frame (wpE (defs₀ (F := F)) Variants.none c none) Set.univ (kk acc) Q)
          -∗ wp frame (wpE (defs₀ (F := F)) Variants.none c none) Set.univ
            (k0_t4_loop.for k0_t4_ok () (k0_t4_body (F := F) mX (Memref.isWhole_whole _) arg1 harg1 mW (Memref.isWhole_whole _)
              arg3 harg3 arg4 harg4 arg5 harg5 arg6 harg6 sX (Memref.isWhole_whole _) sT (Memref.isWhole_whole _) sM (Memref.isWhole_whole _) sZ (Memref.isWhole_whole _)
              sW (Memref.isWhole_whole _) sA (Memref.isWhole_whole _) cc0_scratch6 cc0_scratch7 v205 cst_122) >>= kk) Q) := by
  have h := exec_loop _ _ _ _ _ _ _ _ _ (loopInv_t4 c arg1 harg1 arg3 harg3 arg4 harg4 arg5 harg5 arg6 harg6 fs fd v205 cst_122) (kk := kk) (Q := Q)
  rw [show Scf.trips k0_t4_loop.lb k0_t4_loop.ub k0_t4_loop.st = 28 from trips4] at h
  exact h

set_option maxHeartbeats 2000000 in
/-- The body runs, nothing being said of what it leaves in its results: the copies are issued one by one, the loops run under their
    invariants, and what is held at the end is handed back. -/
theorem run0 (c : Dev nD) (X1 : S28x28.Idx → Elt F .f32) (X3 : S1x4096.Idx → Elt F .f32) (fx : BufOf (F := F) c mX) (fs : BufOf (F := F) c mW) :
    BodyRuns c X1 X3 fx fs (fun _ => True) (fun _ => True) (fun _ => True) := by
  intro arg1 harg1 arg3 harg3 arg4 harg4 arg5 harg5 arg6 harg6 f1 f3 fd W K h1 h3
  simp only [cc0_hadamard_int4_down_proj_eq_skeleton]; unfold cc0_hadamard_int4_down_proj_skel
  iintro ⟨H1, H3, ⟨%f4, H4⟩, ⟨%f5, H5⟩, ⟨%f6, H6⟩, ⟨%gX, HX⟩, ⟨%gT, HT⟩, ⟨%gM, HM⟩, ⟨%gZ, HZ⟩, ⟨%gA, HA⟩, HS, Hx, HR, HO, Hk⟩
  sl_open_parts
  simp only [Prog.bind_assoc]
  sl_exec
  iterate 28
    iapply (issue_step c fs fd _ ?hn _ _ ?ho ?ho') $$ HR
    case hn => decide
    case ho => rw [k0_off75_eq]; rfl
    case ho' => rw [k0_off74_eq]
    iintro HR
  dsimp only [prog_ret_bind, prog_bind]
  sl_exec
  sl_exec
  iapply (t4_run c arg1 harg1 arg3 harg3 arg4 harg4 arg5 harg5 arg6 harg6 fs fd _ _) $$ [HZ H5 HA HR HO]
  · isplitl [HZ]; · iexists _; iexact HZ
    isplitl [H5]; · iexists _; iexact H5
    isplitl [HA]; · iexists _; iexact HA
    isplitl [HR]; · iapply (Entails.of_eq (ready_done c fs fd)); iexact HR
    iexists _; iexact HO
  iintro %_ ⟨⟨%f10, HZ⟩, ⟨%f5', H5⟩, ⟨%f12, HA⟩, HR, ⟨%W', HO⟩⟩
  sl_exec
  sl_step
  iapply Hk
  isplitl [H1]; · iexact H1
  isplitl [H3]; · iexact H3
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  isplitl [HX]; · iexists _; iexact HX
  isplitl [HT]; · iexists _; iexact HT
  isplitl [HM]; · iexists _; iexact HM
  isplitl [HZ]; · iexists _; iexact HZ
  isplitl [HA]; · iexists _; iexact HA
  isplitl [HS]; · iexact HS
  isplitl [Hx]; · iexact Hx
  isplitl [HR]; · iexact HR
  iexists _; iexact HO

end Cert.KernelIdeal.Hand

end
-- ==== Proof.KernelIdealLaunch.lean ====
/- `KernelIdeal`'s run from the run of its body: if the body runs (`BodyRuns`) on every core, the whole program terminates, nothing
   faults, the argument arrays end unchanged, every semaphore counter ends at zero, and the three results satisfy what the body's
   run says of them. -/
module

public import proofs.«01_k».proof.Proof.KernelIdealBase
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region is entered with -/

set_option maxHeartbeats 800000 in
/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's cells: the one the activations' copy completes on, and one for each weight chunk. -/
def osem0 : Unit ⊕ Fin 28 → SemLoc sig
  | .inl _ => SemLoc.dma 5
  | .inr j => SemLoc.dma (wSem j)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ bigSep Finset.univ fun j : Fin 28 => semVal ((c : Thread nD τ), SemLoc.dma (wSem j)) 0) := by
  unfold Pipeline.ownSems0
  rw [BI.bigSep_univ_sum, BI.bigSep_univ_eq_bigSepL [()] (by decide) (by decide)]; rfl

/-- The operands the body's own copies read: the activations and the weights. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg2) ↦{fullShare} V m c main_arg2)) := by
  rw [BI.bigSep_eq_bigSepL_of_eq [main_v0, main_arg2] (by decide) (by decide)]; rfl

/-! ## The weights cut and rejoined -/

/-- The weights, their scratch and the chunks' cells are the chunks, none yet issued; -/
theorem ready_in (c : Dev nD) (fs : BufOf (F := F) c mW) (fd : BufOf (F := F) c sW) :
    iprop((((c : Thread nD τ).loc main_arg2) ↦{fullShare} fs) ∗ (((c : Thread nD τ).loc cc0_scratch4) ↦{fullShare} fd)
      ∗ bigSep Finset.univ fun j : Fin 28 => semVal ((c : Thread nD τ), SemLoc.dma (wSem j)) 0)
      ⊢ (bigSep Finset.univ (ready c fs fd 0) : sProp 𝕄) := by
  rw [Ring.pointsTo_blocks (ℓ := (c : Thread nD τ).loc main_arg2) _ rows_disjoint rows_cover fs,
    Ring.pointsTo_blocks (ℓ := (c : Thread nD τ).loc cc0_scratch4) _ rows_disjoint rows_cover fd, ← bigSep_sep', ← bigSep_sep']
  refine BI.bigSep_mono fun j _ => ?_
  unfold ready
  rw [if_neg (Nat.not_lt_zero _)]
  simp only [View.set_slice_whole]
  exact Entails.of_eq (show (_ : sProp 𝕄) = (_ : sProp 𝕄) from rfl)

/-- and the chunks, all landed, are the weights, the scratch at some contents and the cells at zero. -/
theorem chunks_out (c : Dev nD) (fs : BufOf (F := F) c mW) (fd : BufOf (F := F) c sW) :
    (bigSep Finset.univ (chunk c fs fd 28) : sProp 𝕄)
      ⊢ iprop((((c : Thread nD τ).loc main_arg2) ↦{fullShare} fs) ∗ (∃ f : BufOf (F := F) c sW, ((c : Thread nD τ).loc cc0_scratch4) ↦{fullShare} f)
        ∗ bigSep Finset.univ fun j : Fin 28 => semVal ((c : Thread nD τ), SemLoc.dma (wSem j)) 0) := by
  have h : ∀ j : Fin 28, chunk c fs fd 28 j = iprop(dlv c fs fd j ∗ semVal ((c : Thread nD τ), SemLoc.dma (wSem j)) 0) := fun j => chunk_lt c fs fd 28 j j.isLt
  rw [BI.bigSep_congr (fun j _ => h j), Ring.pointsTo_blocks (ℓ := (c : Thread nD τ).loc main_arg2) _ rows_disjoint rows_cover fs,
    bigSep_sep', bigSep_sep']
  simp only [View.set_slice_whole]
  iintro ⟨⟨H2, H1⟩, H3⟩
  isplitl [H1]; · iexact H1
  isplitl [H2]
  · iapply (Ring.pointsTo_blocks_join (ℓ := (c : Thread nD τ).loc cc0_scratch4) _ rows_disjoint rows_cover (landed c fs fd) fd)
    iexact H2
  iexact H3

/-! ## The proof data, the body obligation -/

variable (Q4 : Dev nD → (S128x4096.Idx → Elt F .bf16) → Prop) (Q5 : Dev nD → (S128x14336.Idx → Elt F .i8) → Prop) (Q6 : Dev nD → (S1x128.Idx → Elt F .f32) → Prop)

/-- The proof data of the one pipeline on core `c`: the arrays as the region finds them, the two staged inputs left as found, the
    three results left at contents satisfying `Q4`, `Q5`, `Q6`. -/
def rdats (c : Dev nD) : RDat τ (Elt F) Unit ℕ (Pipeline.UD sig nD τ) ℕ cfg0 c where
  A w := V m c (Pipeline.arrRef spec0 w)
  after w t := match w with
    | ⟨0, _⟩ => fun Y X => X = Y
    | ⟨1, _⟩ => fun Y X => X = Y
    | ⟨2, _⟩ => fun _ X => Q4 c X
    | ⟨3, _⟩ => fun _ X => Q5 c X
    | ⟨4, _⟩ => fun _ X => Q6 c X
  Φ _ := Pipeline.ΦD osem0 spec0 H0 (V m) c
  q _ := fullShare
  owed _ := 0

theorem finds0 (c : Dev nD) (t : Fin cfg0.N) (Y) (h : (rdats m Q4 Q5 Q6 c).Finds 0 t Y) : Y = iblk m c 0 t := by
  obtain ⟨d, h⟩ := (RDat.finds_of_fetch _ (fetch0_0 t) Y).mp h
  rw [h]; rfl
theorem finds1 (c : Dev nD) (t : Fin cfg0.N) (Y) (h : (rdats m Q4 Q5 Q6 c).Finds 1 t Y) : Y = iblk m c 1 t := by
  obtain ⟨d, h⟩ := (RDat.finds_of_fetch _ (fetch0_1 t) Y).mp h
  rw [h]; rfl

/-- A whole buffer held is its memref's elements held. -/
theorem pt_of (c : Dev nD) (b : Ref sig .tc) (f : Buf (Elt F) ((c : Thread nD τ).loc b)) :
    ((((c : Thread nD τ).loc b) ↦{fullShare} f) : sProp 𝕄) = (View.whole b).loc (c : Thread nD τ) ↦[(View.whole b).set]{fullShare} f := by
  rw [View.set_whole]

set_option maxHeartbeats 1000000 in
/-- The body's obligation at the one point: cut the weights into chunks, run the body, rejoin them. -/
theorem sound_body (c : Dev nD) (t : Fin cfg0.N) (hrun : BodyRuns c (iblk m c 0 t) (iblk m c 1 t) (V m c main_v0) (V m c main_arg2) (Q4 c) (Q5 c) (Q6 c)) :
    iprop(Pipeline.ΦD osem0 spec0 H0 (V m) c ∗ (rdats m Q4 Q5 Q6 c).owesAt () t.castSucc
        ∗ owns (c : Thread nD τ) (st0_0 t) fullShare (iblk m c 0 t) ∗ owns (c : Thread nD τ) (st0_1 t) fullShare (iblk m c 1 t)
        ∗ (∃ d, owns (c : Thread nD τ) (st0_2 t) fullShare d) ∗ (∃ d, owns (c : Thread nD τ) (st0_3 t) fullShare d) ∗ (∃ d, owns (c : Thread nD τ) (st0_4 t) fullShare d))
      ⊢ wp frame (wpE (defs₀ (F := F)) Variants.none c none) Set.univ (bodyAt0 t) (fun _ =>
        iprop(Pipeline.ΦD osem0 spec0 H0 (V m) c ∗ (rdats m Q4 Q5 Q6 c).owesAt () t.succ
          ∗ owns (c : Thread nD τ) (st0_0 t) fullShare (iblk m c 0 t) ∗ owns (c : Thread nD τ) (st0_1 t) fullShare (iblk m c 1 t)
          ∗ (∃ X, ⌜Q4 c X⌝ ∗ owns (c : Thread nD τ) (st0_2 t) fullShare X) ∗ (∃ X, ⌜Q5 c X⌝ ∗ owns (c : Thread nD τ) (st0_3 t) fullShare X)
          ∗ (∃ X, ⌜Q6 c X⌝ ∗ owns (c : Thread nD τ) (st0_4 t) fullShare X))) := by
  unfold bodyAt0
  rw [Pipeline.ΦD_eq, scopedRest0_eq, ownSems00_eq, hbmPts0_eq]
  unfold RDat.owesAt Pipeline.owesWithin
  rw [show (rdats m Q4 Q5 Q6 c).owed t.castSucc = 0 from rfl, show (rdats m Q4 Q5 Q6 c).owed t.succ = 0 from rfl]
  rw [pt_of c main_v0]
  simp only [pt_of c cc0_scratch0, pt_of c cc0_scratch1, pt_of c cc0_scratch2, pt_of c cc0_scratch3, pt_of c cc0_scratch5]
  unfold owns
  iintro ⟨⟨⟨⟨%gX, HX⟩, ⟨%gT, HT⟩, ⟨%gM, HM⟩, ⟨%gZ, HZ⟩, ⟨%gW, HW⟩, ⟨%gA, HA⟩⟩, Hg, ⟨HS, HC⟩, ⟨Hx, Hw⟩⟩, ⟨%W, -, HO⟩, ⟨%f1, %h1, H1⟩, ⟨%f3, %h3, H3⟩, ⟨%d4, %f4, -, H4⟩, ⟨%d5, %f5, -, H5⟩, ⟨%d6, %f6, -, H6⟩⟩
  ihave HR := (ready_in c (V m c main_arg2) gW) $$ [Hw HW HC]
  · isplitl [Hw]; · iexact Hw
    isplitl [HW]; · iexact HW
    iexact HC
  iapply (hrun _ _ _ _ _ _ _ _ _ _ f1 f3 gW W _ h1 h3)
  isplitl [H1]; · iexact H1
  isplitl [H3]; · iexact H3
  isplitl [H4]; · iexists f4; iexact H4
  isplitl [H5]; · iexists f5; iexact H5
  isplitl [H6]; · iexists f6; iexact H6
  isplitl [HX]; · iexists gX; iexact HX
  isplitl [HT]; · iexists gT; iexact HT
  isplitl [HM]; · iexists gM; iexact HM
  isplitl [HZ]; · iexists gZ; iexact HZ
  isplitl [HA]; · iexists gA; iexact HA
  isplitl [HS]; · iexact HS
  isplitl [Hx]; · iexact Hx
  isplitl [HR]; · iexact HR
  isplitl [HO]; · iexact HO
  iintro ⟨H1, H3, ⟨%f4', %q4, H4⟩, ⟨%f5', %q5, H5⟩, ⟨%f6', %q6, H6⟩, HX, HT, HM, HZ, HA, HS, Hx, HR, ⟨%W', HO⟩⟩
  ihave HR := (chunks_out c (V m c main_arg2) gW) $$ HR
  icases HR with ⟨Hw, HW, HC⟩
  isplitl [HX HT HM HZ HW HA Hg HS HC Hx Hw]
  · isplitl [HX HT HM HZ HW HA]
    · isplitl [HX]; · iexact HX
      isplitl [HT]; · iexact HT
      isplitl [HM]; · iexact HM
      isplitl [HZ]; · iexact HZ
      isplitl [HW]; · iexact HW
      iexact HA
    isplitl [Hg]; · iexact Hg
    isplitl [HS HC]
    · isplitl [HS]; · iexact HS
      iexact HC
    isplitl [Hx]; · iexact Hx
    iexact Hw
  isplitl [HO]
  · iexists W'; isplitr; · ipureintro; exact fun _ _ => Or.inl trivial
    iexact HO
  isplitl [H1]
  · iexists f1; isplitr; · ipureintro; exact h1
    iexact H1
  isplitl [H3]
  · iexists f3; isplitr; · ipureintro; exact h3
    iexact H3
  isplitl [H4]
  · iexists _; isplitr; · ipureintro; exact q4
    iexists f4'; isplitr; · ipureintro; rfl
    iexact H4
  isplitl [H5]
  · iexists _; isplitr; · ipureintro; exact q5
    iexists f5'; isplitr; · ipureintro; rfl
    iexact H5
  iexists _; isplitr; · ipureintro; exact q6
  iexists f6'; isplitr; · ipureintro; rfl
  iexact H6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD)
    (hrun : ∀ t, BodyRuns c (iblk m c 0 t) (iblk m c 1 t) (V m c main_v0) (V m c main_arg2) (Q4 c) (Q5 c) (Q6 c)) :
    (rdats m Q4 Q5 Q6 c).BodyObligation (defs₀ (F := F)) Variants.none () Set.univ := fun t Y hY => by
  have e0 := finds0 m Q4 Q5 Q6 c t (Y 0) (hY 0)
  have e1 := finds1 m Q4 Q5 Q6 c t (Y 1) (hY 1)
  rw [bigSep_W0, bigSep_W0, defs₀_row, e0, e1, show (rdats m Q4 Q5 Q6 c).Φ t.castSucc = Pipeline.ΦD osem0 spec0 H0 (V m) c from rfl,
    show (rdats m Q4 Q5 Q6 c).Φ t.succ = Pipeline.ΦD osem0 spec0 H0 (V m) c from rfl]
  refine triple_restated (sound_body m Q4 Q5 Q6 c t (hrun t)) rfl ?_ fun _ => ?_
  · iintro ⟨HΦ, HO, H0, H1, H2, H3, H4⟩
    isplitl [HΦ]; · iexact HΦ
    isplitl [HO]; · iexact HO
    isplitl [H0]; · iexact H0
    isplitl [H1]; · iexact H1
    isplitl [H2]; · iexists _; iexact H2
    isplitl [H3]; · iexists _; iexact H3
    iexists _; iexact H4
  · iintro ⟨HΦ, HO, H0, H1, H2, H3, H4⟩
    isplitl [HΦ]; · iexact HΦ
    isplitl [HO]; · iexact HO
    isplitl [H0]
    · iexists _; isplitr; swap; · iexact H0
      ipureintro; rfl
    isplitl [H1]
    · iexists _; isplitr; swap; · iexact H1
      ipureintro; rfl
    isplitl [H2]; · iexact H2
    isplitl [H3]; · iexact H3
    iexact H4

/-! ## The run -/

set_option backward.isDefEq.respectTransparency.types false in
/-- The whole program's run from the body's. -/
theorem run_main (hrun : ∀ c t, BodyRuns c (iblk m c 0 t) (iblk m c 1 t) (V m c main_v0) (V m c main_arg2) (Q4 c) (Q5 c) (Q6 c)) :
    θ_run defs (onTc (τ := τ) (main (F := F))) (s₀ m ρ) (fun r => Pipeline.RDat.FramePost cfg0 (rdats m Q4 Q5 Q6) (V m) r ∧ r.2.sem = fun _ => 0) :=
  Pipeline.RDat.θ_run_frame_dma (Q' := _) cfgs (0 : Fin 1) launch0 osem0 defs₀ Variants.none (rdats m Q4 Q5 Q6) ownSemFacts0 H0 H0_sub m ρ main
    (hbody := fun c => body_obligation m Q4 Q5 Q6 c (hrun c)) (hshare := fun c w => by show (if _ then fullShare else fullShare) = _; exact ite_self _)
    (howed := fun _ _ => rfl) (V := V m) (hmain := hmain m Variants.none) (hA := fun c w => rfl)
    (hin := fun _ => .rfl) (hout := fun _ => .rfl)

/-- What the first result's array holds at the end: contents the body may have left in its staging buffer; -/
theorem res0 (c : Dev nD) (G) (h : (rdats m Q4 Q5 Q6 c).ArrAt 2 cfg0.N G) : Q4 c G := by
  have hN : cfg0.N = 0 + 1 := N_0
  rw [hN] at h
  unfold RDat.ArrAt at h
  rw [dif_pos (by rw [hN]; exact Nat.zero_lt_one), if_pos (flush0_2 _)] at h
  obtain ⟨G₀, X, -, ⟨Y, -, hX⟩, e⟩ := h
  have : G = X := by
    rw [e]; funext i
    have hi : ((cfg0.win 2).blk ⟨0, t0_0.isLt⟩).view.emb i = i := by
      funext a; apply Fin.ext
      exact Pipeline.Window.rect_emb_val_of_index_zero (cfg0.win 2) _ a (by match a with | ⟨0, _⟩ => rfl | ⟨1, _⟩ => rfl) i
    conv_lhs => rw [← hi, View.write_emb_of_mem _ _ (Finset.mem_univ _)]
    rfl
  rw [this]; exact hX

/-- so the second's, -/
theorem res1 (c : Dev nD) (G) (h : (rdats m Q4 Q5 Q6 c).ArrAt 3 cfg0.N G) : Q5 c G := by
  have hN : cfg0.N = 0 + 1 := N_0
  rw [hN] at h
  unfold RDat.ArrAt at h
  rw [dif_pos (by rw [hN]; exact Nat.zero_lt_one), if_pos (flush0_3 _)] at h
  obtain ⟨G₀, X, -, ⟨Y, -, hX⟩, e⟩ := h
  have : G = X := by
    rw [e]; funext i
    have hi : ((cfg0.win 3).blk ⟨0, t0_0.isLt⟩).view.emb i = i := by
      funext a; apply Fin.ext
      exact Pipeline.Window.rect_emb_val_of_index_zero (cfg0.win 3) _ a (by match a with | ⟨0, _⟩ => rfl | ⟨1, _⟩ => rfl) i
    conv_lhs => rw [← hi, View.write_emb_of_mem _ _ (Finset.mem_univ _)]
    rfl
  rw [this]; exact hX

/-- and the third's. -/
theorem res2 (c : Dev nD) (G) (h : (rdats m Q4 Q5 Q6 c).ArrAt 4 cfg0.N G) : Q6 c G := by
  have hN : cfg0.N = 0 + 1 := N_0
  rw [hN] at h
  unfold RDat.ArrAt at h
  rw [dif_pos (by rw [hN]; exact Nat.zero_lt_one), if_pos (flush0_4 _)] at h
  obtain ⟨G₀, X, -, ⟨Y, -, hX⟩, e⟩ := h
  have : G = X := by
    rw [e]; funext i
    have hi : ((cfg0.win 4).blk ⟨0, t0_0.isLt⟩).view.emb i = i := by
      funext a; apply Fin.ext
      exact Pipeline.Window.rect_emb_val_of_index_zero (cfg0.win 4) _ a (by match a with | ⟨0, _⟩ => rfl | ⟨1, _⟩ => rfl) i
    conv_lhs => rw [← hi, View.write_emb_of_mem _ _ (Finset.mem_univ _)]
    rfl
  rw [this]; exact hX

/-- The program's run: arguments unchanged, counters at zero, the results as the body's run says. -/
theorem run_post (hrun : ∀ c t, BodyRuns c (iblk m c 0 t) (iblk m c 1 t) (V m c main_v0) (V m c main_arg2) (Q4 c) (Q5 c) (Q6 c)) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, Q4 c (r.2.mem ((c.tc : Thread nD τ).loc main_v2_0))
        ∧ Q5 c (r.2.mem ((c.tc : Thread nD τ).loc main_v2_1)) ∧ Q6 c (r.2.mem ((c.tc : Thread nD τ).loc main_v2_2))) :=
  (θ_run defs _ _).mono (fun r h => ⟨⟨fun c => ⟨((h.1 c).2 main_arg0 (Pipeline.mem_restRefs_of main_arg0 (by decide) (by decide))).trans (V_main_arg0 m c),
      (by
        have := (h.1 c).1 0
        rw [RDat.ArrAt_in _ 0 rfl] at this
        exact Eq.trans this (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩,
      fun c => ⟨res0 m Q4 Q5 Q6 c _ ((h.1 c).1 2), res1 m Q4 Q5 Q6 c _ ((h.1 c).1 3), res2 m Q4 Q5 Q6 c _ ((h.1 c).1 4)⟩⟩) (run_main m ρ Q4 Q5 Q6 hrun)

end Cert.KernelIdeal.Hand

end
-- ==== Proof.KernelIdealFrame.lean ====
/- `KernelIdeal`'s frame: the program terminates, nothing faults, its argument arrays end unchanged, every semaphore counter
   ends at zero. The body runs under the loops' invariants of KernelIdealLoops.lean; what the three results hold is
   forgotten. -/
module

public import proofs.«01_k».proof.Proof.KernelIdealLoops
public import proofs.«01_k».proof.Proof.KernelIdealLaunch

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1)
    (run_post m ρ (fun _ _ => True) (fun _ _ => True) (fun _ _ => True) fun c t => run0 c _ _ _ _)

end Cert.KernelIdeal.Hand

end
-- ==== Proof.KernelIdealT3.lean ====
/- The third counted loop of `KernelIdeal` (the last four butterfly stages), carrying an arbitrary property of the running maximum
   and of the buffer it rewrites: what one trip writes is named, and a property kept by every trip holds when the loop ends. -/
module

public import proofs.«01_k».proof.Proof.KernelIdealBase
public import Idealize.ShloMosaic.Lib.WritesUnit

@[expose] public section

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What one trip writes -/

/-- One butterfly stage over a family of vectors. -/
def bfv (h : ℕ) (v : ℕ → FVec F S8x128 .f32) (g : ℕ) : FVec F S8x128 .f32 :=
  if g / h % 2 = 0 then addf (v g) (v (g + h)) else subf (v (g - h)) (v g)

/-- Where the sixty-four blocks of eight rows of slab `k` start: first the even blocks, then the odd ones. -/
def t3off (k : Fin k0_t3_loop.trips) : Fin 64 → Fin 3 → ℕ :=
  ![k0_off8 k, k0_off9 k, k0_off10 k, k0_off11 k, k0_off12 k, k0_off13 k, k0_off14 k, k0_off15 k, k0_off16 k, k0_off17 k, k0_off18 k, k0_off19 k, k0_off20 k, k0_off21 k, k0_off22 k, k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k, k0_off63 k, k0_off64 k, k0_off65 k, k0_off66 k, k0_off67 k, k0_off68 k, k0_off69 k, k0_off70 k, k0_off71 k]

theorem t3inb (k : Fin k0_t3_loop.trips) : ∀ (i : Fin 64) a, t3off k i a + S1x8x128.size a ≤ S28x512x128.size a
  | ⟨0, _⟩ => k0_off8_inb k
  | ⟨1, _⟩ => k0_off9_inb k
  | ⟨2, _⟩ => k0_off10_inb k
  | ⟨3, _⟩ => k0_off11_inb k
  | ⟨4, _⟩ => k0_off12_inb k
  | ⟨5, _⟩ => k0_off13_inb k
  | ⟨6, _⟩ => k0_off14_inb k
  | ⟨7, _⟩ => k0_off15_inb k
  | ⟨8, _⟩ => k0_off16_inb k
  | ⟨9, _⟩ => k0_off17_inb k
  | ⟨10, _⟩ => k0_off18_inb k
  | ⟨11, _⟩ => k0_off19_inb k
  | ⟨12, _⟩ => k0_off20_inb k
  | ⟨13, _⟩ => k0_off21_inb k
  | ⟨14, _⟩ => k0_off22_inb k
  | ⟨15, _⟩ => k0_off23_inb k
  | ⟨16, _⟩ => k0_off24_inb k
  | ⟨17, _⟩ => k0_off25_inb k
  | ⟨18, _⟩ => k0_off26_inb k
  | ⟨19, _⟩ => k0_off27_inb k
  | ⟨20, _⟩ => k0_off28_inb k
  | ⟨21, _⟩ => k0_off29_inb k
  | ⟨22, _⟩ => k0_off30_inb k
  | ⟨23, _⟩ => k0_off31_inb k
  | ⟨24, _⟩ => k0_off32_inb k
  | ⟨25, _⟩ => k0_off33_inb k
  | ⟨26, _⟩ => k0_off34_inb k
  | ⟨27, _⟩ => k0_off35_inb k
  | ⟨28, _⟩ => k0_off36_inb k
  | ⟨29, _⟩ => k0_off37_inb k
  | ⟨30, _⟩ => k0_off38_inb k
  | ⟨31, _⟩ => k0_off39_inb k
  | ⟨32, _⟩ => k0_off40_inb k
  | ⟨33, _⟩ => k0_off41_inb k
  | ⟨34, _⟩ => k0_off42_inb k
  | ⟨35, _⟩ => k0_off43_inb k
  | ⟨36, _⟩ => k0_off44_inb k
  | ⟨37, _⟩ => k0_off45_inb k
  | ⟨38, _⟩ => k0_off46_inb k
  | ⟨39, _⟩ => k0_off47_inb k
  | ⟨40, _⟩ => k0_off48_inb k
  | ⟨41, _⟩ => k0_off49_inb k
  | ⟨42, _⟩ => k0_off50_inb k
  | ⟨43, _⟩ => k0_off51_inb k
  | ⟨44, _⟩ => k0_off52_inb k
  | ⟨45, _⟩ => k0_off53_inb k
  | ⟨46, _⟩ => k0_off54_inb k
  | ⟨47, _⟩ => k0_off55_inb k
  | ⟨48, _⟩ => k0_off56_inb k
  | ⟨49, _⟩ => k0_off57_inb k
  | ⟨50, _⟩ => k0_off58_inb k
  | ⟨51, _⟩ => k0_off59_inb k
  | ⟨52, _⟩ => k0_off60_inb k
  | ⟨53, _⟩ => k0_off61_inb k
  | ⟨54, _⟩ => k0_off62_inb k
  | ⟨55, _⟩ => k0_off63_inb k
  | ⟨56, _⟩ => k0_off64_inb k
  | ⟨57, _⟩ => k0_off65_inb k
  | ⟨58, _⟩ => k0_off66_inb k
  | ⟨59, _⟩ => k0_off67_inb k
  | ⟨60, _⟩ => k0_off68_inb k
  | ⟨61, _⟩ => k0_off69_inb k
  | ⟨62, _⟩ => k0_off70_inb k
  | ⟨63, _⟩ => k0_off71_inb k
  | ⟨n + 64, h⟩ => absurd h (by omega)

/-- Block `g` of the even (`s = 0`) or odd blocks, as the trip reads it. -/
def t3leaf (c : Dev nD) (k : Fin k0_t3_loop.trips) (f : BufOf (F := F) c sZ) (s g : ℕ) : FVec F S8x128 .f32 :=
  if h : g < 32 ∧ s < 2 then
     shapeCast S8x128 (View.readAt (Elt F) sZ.view (Rect.unit (s := S28x512x128) (t3off k ⟨32 * s + g, by omega⟩) S1x8x128.size (t3inb k _)).toLoadRect f) shapeCasts_S1x8x128_S8x128
  else broadcast S8x128 (FloatOps.ofBits .f32 0#32)

/-- What block `i` holds after the four stages of the trip. -/
def t3val (c : Dev nD) (k : Fin k0_t3_loop.trips) (f : BufOf (F := F) c sZ) (i : ℕ) : FVec F S8x128 .f32 :=
  bfv 16 (bfv 8 (bfv 4 (bfv 2 (t3leaf c k f (i / 32))))) (i % 32)

/-- The running maximum after the first `n` blocks. -/
def t3acc (c : Dev nD) (k : Fin k0_t3_loop.trips) (f : BufOf (F := F) c sZ) (acc : FVec F S8x128 .f32) : ℕ → FVec F S8x128 .f32
  | 0 => acc
  | n + 1 => maximumf (t3acc c k f acc n) (absf (t3val c k f n))

/-- The piece block `i`'s store writes. -/
def t3piece (c : Dev nD) (k : Fin k0_t3_loop.trips) (f : BufOf (F := F) c sZ) (i : Fin 64) : FVec F S1x8x128 .f32 :=
  shapeCast S1x8x128 (t3val c k f i.val) shapeCasts_S8x128_S1x8x128

/-- The rotated activations after one trip of the third loop. -/
def t3New (c : Dev nD) (k : Fin k0_t3_loop.trips) (f : BufOf (F := F) c sZ) : BufOf (F := F) c sZ :=
  sZ.view.writes (Elt F) f (View.tilePieces S1x8x128.size (t3off k) (t3inb k) (t3piece c k f) 64 (le_refl _))

/-! ## The loop -/

section Loops

variable (c : Dev nD) (arg1 : Memref sig .tc .vmem S28x28 .f32) (harg1 : arg1.IsWhole) (arg3 : Memref sig .tc .vmem S1x4096 .f32) (harg3 : arg3.IsWhole)
  (arg4 : Memref sig .tc .vmem S128x4096 .bf16) (harg4 : arg4.IsWhole) (arg5 : Memref sig .tc .vmem S128x14336 .i8) (harg5 : arg5.IsWhole)
  (arg6 : Memref sig .tc .vmem S1x128 .f32) (harg6 : arg6.IsWhole)

set_option maxHeartbeats 2000000 in
set_option warn.classDefReducibility false in
/-- The third loop (the remaining butterflies) reads and writes the rotated activations. -/
def loopInv_t3 (P : ℕ → FVec F S8x128 .f32 → BufOf (F := F) c sZ → Prop)
    (hP : ∀ (k : Fin k0_t3_loop.trips) acc f, P k.val acc f → P (k.val + 1) (t3acc c k f acc 64) (t3New c k f))
    (v113 : FVec F S28x28 .bf16) (v143 : FVec F S448x28 .bf16) (v173 : FVec F S28x448 .bf16) (cst : FVec F S448x28 .f32) (init : FVec F S8x128 .f32) :
    LoopInvTy_k0_t3 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst init where
  inv k acc := iprop(∃ f, ⌜P k acc f⌝ ∗ pt c sZ f)
  step k acc := by
    have hk : k.val < 28 := Nat.lt_of_lt_of_le k.isLt k0_t3_abs.2.1
    unfold k0_t3_body
    iintro ⟨%f10, %h10, H10⟩
    sl_exec
    sl_step
    iexists _; isplitr; swap; · iexact H10
    ipureintro
    show P (k.val + 1) (t3acc c k f10 acc 64) (sZ.view.writes (Elt F) f10 (View.tilePieces S1x8x128.size (t3off k) (t3inb k) (t3piece c k f10) 64 (le_refl _)))
    exact hP k acc f10 h10

/-- The third loop, run. -/
theorem t3_run (fZ : BufOf (F := F) c sZ) (P : ℕ → FVec F S8x128 .f32 → BufOf (F := F) c sZ → Prop)
    (hP : ∀ (k : Fin k0_t3_loop.trips) acc f, P k.val acc f → P (k.val + 1) (t3acc c k f acc 64) (t3New c k f)) (v113 : FVec F S28x28 .bf16) (v143 : FVec F S448x28 .bf16) (v173 : FVec F S28x448 .bf16) (cst : FVec F S448x28 .f32) (init : FVec F S8x128 .f32) (h0 : P 0 init fZ) {β : Type} {kk : FVec F S8x128 .f32 → Prog (TpuEff nD τ sig (Elt F) Λ₀ .tc) β} {Q : β → sProp 𝕄} :
    iprop(pt c sZ fZ)
      ⊢ iprop((∀ acc, iprop(∃ f, ⌜P 28 acc f⌝ ∗ pt c sZ f) -∗ wp frame (wpE (defs₀ (F := F)) Variants.none c none) Set.univ (kk acc) Q)
          -∗ wp frame (wpE (defs₀ (F := F)) Variants.none c none) Set.univ
            (k0_t3_loop.for k0_t3_ok init (k0_t3_body (F := F) mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst) >>= kk) Q) := by
  have h := exec_loop _ _ _ _ _ _ _ _ _ (loopInv_t3 c arg1 harg1 arg3 harg3 arg4 harg4 arg5 harg5 arg6 harg6 P hP v113 v143 v173 cst init) (kk := kk) (Q := Q)
  rw [show Scf.trips k0_t3_loop.lb k0_t3_loop.ub k0_t3_loop.st = 28 from by decide] at h
  refine BIBase.Entails.trans (show _ ⊢ iprop(∃ f, ⌜P 0 init f⌝ ∗ pt c sZ f) from ?_) h
  iintro HZ
  iexists fZ; isplitr; · ipureintro; exact h0
  iexact HZ

end Loops

end Cert.KernelIdeal.HandV

end
-- ==== Proof.KernelIdealSteps.lean ====
/- The counted loops of `KernelIdeal`, each carrying an arbitrary property of the buffer it fills: what one trip writes is named,
   and a property kept by every such write holds when the loop ends. -/
module

public import proofs.«01_k».proof.Proof.KernelIdealBase
public import Idealize.ShloMosaic.Lib.WritesUnit

@[expose] public section

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What one trip writes -/

/-- Where the four squares of head `k`'s transpose start. -/
def t1off (k : Fin k0_t1_loop.trips) : Fin 4 → Fin 3 → ℕ := ![k0_off2 k, k0_off3 k, k0_off4 k, k0_off5 k]

theorem t1inb (k : Fin k0_t1_loop.trips) : ∀ (i : Fin 4) a, t1off k i a + S1x128x128.size a ≤ S28x512x128.size a
  | ⟨0, _⟩ => k0_off2_inb k
  | ⟨1, _⟩ => k0_off3_inb k
  | ⟨2, _⟩ => k0_off4_inb k
  | ⟨3, _⟩ => k0_off5_inb k
  | ⟨n + 4, h⟩ => absurd h (by omega)

/-- Square `i` of head `k`'s transpose. -/
def t1piece (c : Dev nD) (k : Fin k0_t1_loop.trips) (fX : BufOf (F := F) c sX) (i : Fin 4) : FVec F S1x128x128 .bf16 :=
  shapeCast S1x128x128 (transpose S128x128 [1, 0] (View.readAt (Elt F) sX.view
    (Rect.unit (s := S128x14336) (k0_off1 k (BitVec.ofNat 32 (128 * i.val))) S128x128.size (k0_off1_inb k i)).toLoadRect fX)
    transposes_S128x128_p1_0_S128x128) shapeCasts_S128x128_S1x128x128

/-- The transposed activations after one trip of the first loop. -/
def t1New (c : Dev nD) (k : Fin k0_t1_loop.trips) (fX : BufOf (F := F) c sX) (f : BufOf (F := F) c sT) : BufOf (F := F) c sT :=
  sT.view.writes (Elt F) f (View.tilePieces S1x128x128.size (t1off k) (t1inb k) (t1piece c k fX) 4 (le_refl _))

/-- The two groups of sixteen rows a trip of the second loop reads, and the mixing matrix. -/
abbrev t2a (c : Dev nD) (k : Fin k0_t2_loop.trips) (fT : BufOf (F := F) c sT) : Vec F S28x16x128 .bf16 :=
  View.readAt (Elt F) sT.view (Rect.unit (s := S28x512x128) (k0_off6 k) S28x16x128.size (k0_off6_inb k)).toLoadRect fT
abbrev t2b (c : Dev nD) (k : Fin k0_t2_loop.trips) (fT : BufOf (F := F) c sT) : Vec F S28x16x128 .bf16 :=
  View.readAt (Elt F) sT.view (Rect.unit (s := S28x512x128) (k0_off7 k) S28x16x128.size (k0_off7_inb k)).toLoadRect fT
abbrev t2m (c : Dev nD) (fM : BufOf (F := F) c sM) : Vec F S448x448 .bf16 :=
  View.readAt (Elt F) sM.view (Rect.unit (s := S448x448) ![0, 0] S448x448.size inb_S448x448_S448x448_0_0).toLoadRect fM

/-- The rotated activations after one trip of the second loop. -/
def t2New (c : Dev nD) (k : Fin k0_t2_loop.trips) (fT : BufOf (F := F) c sT) (fM : BufOf (F := F) c sM) (f : BufOf (F := F) c sZ) : BufOf (F := F) c sZ :=
  sZ.view.writes (Elt F) f
    [⟨Rect.unit (s := S28x512x128) (k0_off7 k) S28x16x128.size (k0_off7_inb k), k0_pay420 (t2a c k fT) (t2b c k fT) (t2m c fM)⟩,
     ⟨Rect.unit (s := S28x512x128) (k0_off6 k) S28x16x128.size (k0_off6_inb k), k0_pay419 (t2a c k fT) (t2b c k fT) (t2m c fM)⟩]

/-- The slab a trip of the last loop reads; -/
abbrev t4z (c : Dev nD) (k : Fin k0_t4_loop.trips) (fZ : BufOf (F := F) c sZ) : Vec F S1x512x128 .f32 :=
  View.readAt (Elt F) sZ.view (Rect.unit (s := S28x512x128) (k0_off72 k) S1x512x128.size (k0_off72_inb k)).toLoadRect fZ
/-- the weight chunk it reads once landed; -/
abbrev t4w (c : Dev nD) (k : Fin k0_t4_loop.trips) (fs : BufOf (F := F) c mW) (fd : BufOf (F := F) c sW) : Vec F S256x4096 .i8 :=
  View.readAt (Elt F) sW.view (Rect.unit (s := S7168x4096) (k0_off76 k) S256x4096.size (k0_off76_inb k)).toLoadRect
    (landed c fs fd ⟨k.val, lt_of_lt_of_eq k.isLt trips4⟩)
/-- the accumulator it reads; -/
abbrev t4a (c : Dev nD) (g : BufOf (F := F) c sA) : Vec F S128x4096 .f32 :=
  View.readAt (Elt F) sA.view (Rect.unit (s := S128x4096) ![0, 0] S128x4096.size inb_S128x4096_S128x4096_0_0).toLoadRect g
/-- the codes after it; -/
def t4New5 (c : Dev nD) (arg5 : Memref sig .tc .vmem S128x14336 .i8) (k : Fin k0_t4_loop.trips) (fZ : BufOf (F := F) c sZ) (sc : FVec F S1x128 .f32)
    (f : BufOf (F := F) c arg5) : BufOf (F := F) c arg5 :=
  arg5.view.writes (Elt F) f [⟨Rect.unit (s := S128x14336) (k0_off73 k) S128x512.size (k0_off73_inb k), k0_pay407 sc (t4z c k fZ)⟩]
/-- the accumulator after it. -/
def t4NewA (c : Dev nD) (k : Fin k0_t4_loop.trips) (fZ : BufOf (F := F) c sZ) (fs : BufOf (F := F) c mW) (fd : BufOf (F := F) c sW) (sc : FVec F S1x128 .f32)
    (g : BufOf (F := F) c sA) : BufOf (F := F) c sA :=
  sA.view.writes (Elt F) g [⟨Rect.unit (s := S128x4096) ![0, 0] S128x4096.size inb_S128x4096_S128x4096_0_0,
    k0_pay3 (k0_pay408 sc (t4z c k fZ) (t4w c k fs fd) (t4a c g))⟩]

/-! ## The loops -/

section Loops

variable (c : Dev nD) (arg1 : Memref sig .tc .vmem S28x28 .f32) (harg1 : arg1.IsWhole) (arg3 : Memref sig .tc .vmem S1x4096 .f32) (harg3 : arg3.IsWhole)
  (arg4 : Memref sig .tc .vmem S128x4096 .bf16) (harg4 : arg4.IsWhole) (arg5 : Memref sig .tc .vmem S128x14336 .i8) (harg5 : arg5.IsWhole)
  (arg6 : Memref sig .tc .vmem S1x128 .f32) (harg6 : arg6.IsWhole)

set_option warn.classDefReducibility false in
/-- The first loop (the transposes) reads the activations and writes their transpose. -/
def loopInv_t1 (fX : BufOf (F := F) c sX) (P : ℕ → BufOf (F := F) c sT → Prop)
    (hP : ∀ (k : Fin k0_t1_loop.trips) f, P k.val f → P (k.val + 1) (t1New c k fX f)) (v113 : FVec F S28x28 .bf16) (v143 : FVec F S448x28 .bf16) (v173 : FVec F S28x448 .bf16) (cst : FVec F S448x28 .f32) :
    LoopInvTy_k0_t1 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv k _ := iprop(pt c sX fX ∗ (∃ f, ⌜P k f⌝ ∗ pt c sT f))
  step k acc := by
    have hk : k.val < 28 := Nat.lt_of_lt_of_le k.isLt k0_t1_abs.2.1
    unfold k0_t1_body
    iintro ⟨H7, ⟨%f8, %h8, H8⟩⟩
    sl_exec
    sl_step
    isplitl [H7]; · iexact H7
    iexists _; isplitr; swap; · iexact H8
    ipureintro
    exact hP k f8 h8

set_option warn.classDefReducibility false in
/-- The second loop (the mixing) reads the transpose and the mixing matrix and writes the rotated activations. -/
def loopInv_t2 (fT : BufOf (F := F) c sT) (fM : BufOf (F := F) c sM) (P : ℕ → BufOf (F := F) c sZ → Prop)
    (hP : ∀ (k : Fin k0_t2_loop.trips) f, P k.val f → P (k.val + 1) (t2New c k fT fM f)) (v113 : FVec F S28x28 .bf16) (v143 : FVec F S448x28 .bf16) (v173 : FVec F S28x448 .bf16) (cst : FVec F S448x28 .f32) :
    LoopInvTy_k0_t2 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst where
  inv k _ := iprop(pt c sT fT ∗ pt c sM fM ∗ (∃ f, ⌜P k f⌝ ∗ pt c sZ f))
  step k acc := by
    have hk : k.val < 16 := Nat.lt_of_lt_of_le k.isLt k0_t2_abs.2.1
    unfold k0_t2_body
    iintro ⟨H8, H9, ⟨%f10, %h10, H10⟩⟩
    sl_exec
    sl_step
    isplitl [H8]; · iexact H8
    isplitl [H9]; · iexact H9
    iexists _; isplitr; swap; · iexact H10
    ipureintro
    exact hP k f10 h10

set_option warn.classDefReducibility false in
/-- The last loop (quantise, store the codes, multiply by the weight chunk) reads the rotated activations, writes the codes and the
    accumulator, and waits for one chunk a trip. -/
def loopInv_t4 (fZ : BufOf (F := F) c sZ) (fs : BufOf (F := F) c mW) (fd : BufOf (F := F) c sW) (P : ℕ → BufOf (F := F) c arg5 → BufOf (F := F) c sA → Prop)
    (v205 : FVec F S1x128 .f32) (cst_122 : F .f32)
    (hP : ∀ (k : Fin k0_t4_loop.trips) f g, P k.val f g → P (k.val + 1) (t4New5 c arg5 k fZ (k0_pay1 v205 cst_122) f) (t4NewA c k fZ fs fd (k0_pay1 v205 cst_122) g)) :
    LoopInvTy_k0_t4 (F := F) Unit ℕ (Pipeline.UD sig nD τ) ℕ Variants.none c none Set.univ mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v205 cst_122 where
  inv k _ := iprop(pt c sZ fZ ∗ (∃ f g, ⌜P k f g⌝ ∗ pt c arg5 f ∗ pt c sA g) ∗ bigSep Finset.univ (chunk c fs fd k) ∗ (∃ W, owes (c : Thread nD τ) 0 W))
  step k acc := by
    have hk : k.val < 28 := Nat.lt_of_lt_of_le k.isLt k0_t4_abs.2.1
    rw [Ring.bigSep_take (Finset.mem_univ (⟨k.val, hk⟩ : Fin 28)) (chunk c fs fd k.val), Ring.bigSep_take (Finset.mem_univ (⟨k.val, hk⟩ : Fin 28)) (chunk c fs fd (k.val + 1)),
      chunk_ge c fs fd k.val ⟨k.val, hk⟩ (lt_irrefl k.val), chunk_lt c fs fd (k.val + 1) ⟨k.val, hk⟩ (Nat.lt_succ_self k.val), chunks_step c fs fd ⟨k.val, hk⟩]
    unfold k0_t4_body
    iintro ⟨H10, ⟨%f5, %f12, %h5, H5, H12⟩, ⟨HF, Hr⟩, ⟨%W, HO⟩⟩
    sl_exec
    iapply (Transfers.wp_waitLocal (countersEmb (U := Pipeline.UD sig nD τ)) Variants.none (c : Thread nD τ) none () (rfl : (wDst ⟨k.val, hk⟩).view.dmaCredit = _)) $$ [HF HO]
    · isplitl [HF]; · iexact HF
      iexact HO
    iintro ⟨⟨HD, HS⟩, Hv, HO⟩
    have hsub := wLoad_subset k hk
    sl_exec
    sl_step
    isplitl [H10]; · iexact H10
    isplitl [H5 H12]
    · iexists _; iexists _; isplitr; swap
      · isplitl [H5]; · iexact H5
        iexact H12
      ipureintro
      exact hP k f5 f12 h5
    isplitr [HO]
    · isplitr [Hr]
      · isplitr [Hv]
        · isplitl [HD]; · iexact HD
          iexact HS
        iexact Hv
      iexact Hr
    iexists _; iexact HO

/-- The first loop, run. -/
theorem t1_run (fX : BufOf (F := F) c sX) (fT : BufOf (F := F) c sT) (P : ℕ → BufOf (F := F) c sT → Prop)
    (hP : ∀ (k : Fin k0_t1_loop.trips) f, P k.val f → P (k.val + 1) (t1New c k fX f)) (v113 : FVec F S28x28 .bf16) (v143 : FVec F S448x28 .bf16) (v173 : FVec F S28x448 .bf16) (cst : FVec F S448x28 .f32) (h0 : P 0 fT) {β : Type} {kk : Unit → Prog (TpuEff nD τ sig (Elt F) Λ₀ .tc) β} {Q : β → sProp 𝕄} :
    iprop(pt c sX fX ∗ pt c sT fT)
      ⊢ iprop((∀ acc, iprop(pt c sX fX ∗ (∃ f, ⌜P 28 f⌝ ∗ pt c sT f)) -∗ wp frame (wpE (defs₀ (F := F)) Variants.none c none) Set.univ (kk acc) Q)
          -∗ wp frame (wpE (defs₀ (F := F)) Variants.none c none) Set.univ
            (k0_t1_loop.for k0_t1_ok () (k0_t1_body (F := F) mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst) >>= kk) Q) := by
  have h := exec_loop _ _ _ _ _ _ _ _ _ (loopInv_t1 c arg1 harg1 arg3 harg3 arg4 harg4 arg5 harg5 arg6 harg6 fX P hP v113 v143 v173 cst) (kk := kk) (Q := Q)
  rw [show Scf.trips k0_t1_loop.lb k0_t1_loop.ub k0_t1_loop.st = 28 from by decide] at h
  refine BIBase.Entails.trans (show _ ⊢ iprop(pt c sX fX ∗ (∃ f, ⌜P 0 f⌝ ∗ pt c sT f)) from ?_) h
  iintro ⟨HX, HT⟩
  isplitl [HX]; · iexact HX
  iexists fT; isplitr; · ipureintro; exact h0
  iexact HT

/-- The second loop, run. -/
theorem t2_run (fT : BufOf (F := F) c sT) (fM : BufOf (F := F) c sM) (fZ : BufOf (F := F) c sZ) (P : ℕ → BufOf (F := F) c sZ → Prop)
    (hP : ∀ (k : Fin k0_t2_loop.trips) f, P k.val f → P (k.val + 1) (t2New c k fT fM f)) (v113 : FVec F S28x28 .bf16) (v143 : FVec F S448x28 .bf16) (v173 : FVec F S28x448 .bf16) (cst : FVec F S448x28 .f32) (h0 : P 0 fZ) {β : Type} {kk : Unit → Prog (TpuEff nD τ sig (Elt F) Λ₀ .tc) β} {Q : β → sProp 𝕄} :
    iprop(pt c sT fT ∗ pt c sM fM ∗ pt c sZ fZ)
      ⊢ iprop((∀ acc, iprop(pt c sT fT ∗ pt c sM fM ∗ (∃ f, ⌜P 16 f⌝ ∗ pt c sZ f)) -∗ wp frame (wpE (defs₀ (F := F)) Variants.none c none) Set.univ (kk acc) Q)
          -∗ wp frame (wpE (defs₀ (F := F)) Variants.none c none) Set.univ
            (k0_t2_loop.for k0_t2_ok () (k0_t2_body (F := F) mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v113 v143 v173 cst) >>= kk) Q) := by
  have h := exec_loop _ _ _ _ _ _ _ _ _ (loopInv_t2 c arg1 harg1 arg3 harg3 arg4 harg4 arg5 harg5 arg6 harg6 fT fM P hP v113 v143 v173 cst) (kk := kk) (Q := Q)
  rw [show Scf.trips k0_t2_loop.lb k0_t2_loop.ub k0_t2_loop.st = 16 from by decide] at h
  refine BIBase.Entails.trans (show _ ⊢ iprop(pt c sT fT ∗ pt c sM fM ∗ (∃ f, ⌜P 0 f⌝ ∗ pt c sZ f)) from ?_) h
  iintro ⟨HT, HM, HZ⟩
  isplitl [HT]; · iexact HT
  isplitl [HM]; · iexact HM
  iexists fZ; isplitr; · ipureintro; exact h0
  iexact HZ

/-- The last loop, run: from every chunk on its way to every chunk landed. -/
theorem t4_run (fZ : BufOf (F := F) c sZ) (fs : BufOf (F := F) c mW) (fd : BufOf (F := F) c sW) (f5 : BufOf (F := F) c arg5) (fA : BufOf (F := F) c sA)
    (P : ℕ → BufOf (F := F) c arg5 → BufOf (F := F) c sA → Prop) (v205 : FVec F S1x128 .f32) (cst_122 : F .f32)
    (hP : ∀ (k : Fin k0_t4_loop.trips) f g, P k.val f g → P (k.val + 1) (t4New5 c arg5 k fZ (k0_pay1 v205 cst_122) f) (t4NewA c k fZ fs fd (k0_pay1 v205 cst_122) g)) (h0 : P 0 f5 fA) {β : Type} {kk : Unit → Prog (TpuEff nD τ sig (Elt F) Λ₀ .tc) β} {Q : β → sProp 𝕄} :
    iprop(pt c sZ fZ ∗ (pt c arg5 f5 ∗ pt c sA fA) ∗ bigSep Finset.univ (chunk c fs fd 0) ∗ (∃ W, owes (c : Thread nD τ) 0 W))
      ⊢ iprop((∀ acc, iprop(pt c sZ fZ ∗ (∃ f g, ⌜P 28 f g⌝ ∗ pt c arg5 f ∗ pt c sA g) ∗ bigSep Finset.univ (chunk c fs fd 28) ∗ (∃ W, owes (c : Thread nD τ) 0 W)) -∗ wp frame (wpE (defs₀ (F := F)) Variants.none c none) Set.univ (kk acc) Q)
          -∗ wp frame (wpE (defs₀ (F := F)) Variants.none c none) Set.univ
            (k0_t4_loop.for k0_t4_ok () (k0_t4_body (F := F) mX (Memref.isWhole_whole _) arg1 harg1 mW (Memref.isWhole_whole _)
      arg3 harg3 arg4 harg4 arg5 harg5 arg6 harg6 sX (Memref.isWhole_whole _) sT (Memref.isWhole_whole _) sM (Memref.isWhole_whole _) sZ (Memref.isWhole_whole _)
      sW (Memref.isWhole_whole _) sA (Memref.isWhole_whole _) cc0_scratch6 cc0_scratch7 v205 cst_122) >>= kk) Q) := by
  have h := exec_loop _ _ _ _ _ _ _ _ _ (loopInv_t4 c arg1 harg1 arg3 harg3 arg4 harg4 arg5 harg5 arg6 harg6 fZ fs fd P v205 cst_122 hP) (kk := kk) (Q := Q)
  rw [show Scf.trips k0_t4_loop.lb k0_t4_loop.ub k0_t4_loop.st = 28 from by decide] at h
  refine BIBase.Entails.trans (show _ ⊢ iprop(pt c sZ fZ ∗ (∃ f g, ⌜P 0 f g⌝ ∗ pt c arg5 f ∗ pt c sA g) ∗ bigSep Finset.univ (chunk c fs fd 0) ∗ (∃ W, owes (c : Thread nD τ) 0 W)) from ?_) h
  iintro ⟨HZ, ⟨H5, HA⟩, HR, HO⟩
  isplitl [HZ]; · iexact HZ
  isplitl [H5 HA]
  · iexists f5; iexists fA; isplitr; · ipureintro; exact h0
    isplitl [H5]; · iexact H5
    iexact HA
  isplitl [HR]; · iexact HR
  iexact HO

end Loops

end Cert.KernelIdeal.HandV

end
-- ==== Proof.Spec.lean ====
/- The mathematics of the problem over extended reals, with every array read at natural-number coordinates: the butterfly
   stage, the rotation as nine stages after the head mix, the scale, the codes and the projection, and the identities by
   which a sum against a signed matrix is four butterfly stages, and a sum in chunks is the whole sum. -/
module

public import Idealize.ShloMosaic.PureOps.Ideal.Laws
public import Mathlib.Data.EReal.Inv
public import Mathlib.Algebra.BigOperators.Fin
public import Mathlib.Algebra.BigOperators.Intervals
public import Mathlib.Tactic.IntervalCases
public import Mathlib.Tactic.Ring
public import Mathlib.Tactic.NormNum

@[expose] public section

noncomputable section

namespace Cert.Spec

open Idealize.ShloMosaic Finset

/-! ## The butterfly stage -/

/-- One butterfly stage of stride `h`: the lower partner gets the sum, the upper partner the difference. -/
def bf {α : Type} [Add α] [Sub α] (h : ℕ) (z : ℕ → α) (p : ℕ) : α :=
  if p / h % 2 = 0 then z p + z (p + h) else z (p - h) - z p

/-- A stage at stride `h` commutes with moving the origin by a multiple of `2 h`. -/
theorem bf_shift {α : Type} [Add α] [Sub α] (h m j : ℕ) (hh : 0 < h) (z : ℕ → α) :
    bf h z (2 * h * m + j) = bf h (fun q => z (2 * h * m + q)) j := by
  have e : (2 * h * m + j) / h % 2 = j / h % 2 := by
    rw [show 2 * h * m = h * (2 * m) by ring, Nat.mul_add_div hh]; omega
  unfold bf
  rw [e]
  by_cases h0 : j / h % 2 = 0
  · rw [if_pos h0, if_pos h0, Nat.add_assoc]
  · rw [if_neg h0, if_neg h0]
    have : h ≤ j := by
      by_contra hc
      rw [Nat.div_eq_of_lt (by omega)] at h0; exact h0 rfl
    rw [Nat.add_sub_assoc this]

/-- A stage at stride `16 h` on rows is the stage at stride `h` on groups of sixteen rows. -/
theorem bf_group {α : Type} [Add α] [Sub α] (h g r : ℕ) (hr : r < 16) (z : ℕ → α) :
    bf (16 * h) z (16 * g + r) = bf h (fun g => z (16 * g + r)) g := by
  have e : (16 * g + r) / (16 * h) = g / h := by
    rw [← Nat.div_div_eq_div_mul]; congr 1; omega
  unfold bf
  rw [e]
  by_cases h0 : g / h % 2 = 0
  · rw [if_pos h0, if_pos h0]; congr 2; ring
  · rw [if_neg h0, if_neg h0]
    have : h ≤ g := by
      by_contra hc
      rw [Nat.div_eq_of_lt (by omega)] at h0; exact h0 rfl
    congr 2
    rw [Nat.mul_sub]
    omega

/-- A stage reads only the 512 rows it is in. -/
theorem bf_congr {α : Type} [Add α] [Sub α] (h m : ℕ) (hh : 0 < h) (hm : 2 * h * m = 512) {z z' : ℕ → α}
    (hz : ∀ q < 512, z q = z' q) {p : ℕ} (hp : p < 512) : bf h z p = bf h z' p := by
  unfold bf
  have hq : p / h < 2 * m := by
    rw [Nat.div_lt_iff_lt_mul hh, show 2 * m * h = 2 * h * m by ring, hm]; exact hp
  by_cases h0 : p / h % 2 = 0
  · rw [if_pos h0, if_pos h0, hz p hp, hz (p + h) ?_]
    have h1 : p / h + 2 ≤ 2 * m := by omega
    have h2 : p < (p / h + 1) * h := by
      have := Nat.lt_div_mul_add hh (a := p); rw [Nat.add_mul, Nat.one_mul]; exact this
    have h3 : (p / h + 2) * h ≤ 2 * m * h := Nat.mul_le_mul_right h h1
    rw [show 2 * m * h = 2 * h * m by ring, hm] at h3
    rw [Nat.add_mul] at h2 h3
    omega
  · rw [if_neg h0, if_neg h0, hz p hp, hz (p - h) (by omega)]

/-- A stage over reals is the stage over extended reals. -/
theorem bf_coe (h : ℕ) (w : ℕ → ℝ) : bf h (fun q => ((w q : ℝ) : EReal)) = fun p => ((bf h w p : ℝ) : EReal) := by
  funext p
  unfold bf
  by_cases h0 : p / h % 2 = 0
  · rw [if_pos h0, if_pos h0, EReal.coe_add]
  · rw [if_neg h0, if_neg h0, EReal.coe_sub]

/-! ## Sixteen rows at once -/

/-- Whether entry (j, p) of the sixteen-by-sixteen sign matrix is negative: the parity of the bits `j` and `p` share. -/
def neg (j p : ℕ) : Bool :=
  let v := j &&& p
  let v := v ^^^ (v >>> 2)
  let v := v ^^^ (v >>> 1)
  (v &&& 1) == 1

/-- Four stages at a position of a group of sixteen read that group alone. -/
theorem bf4_group {α : Type} [Add α] [Sub α] (w : ℕ → α) (c j : ℕ) :
    bf 8 (bf 4 (bf 2 (bf 1 w))) (16 * c + j) = bf 8 (bf 4 (bf 2 (bf 1 (fun q => w (16 * c + q))))) j := by
  have e1 : ∀ j, bf 1 w (16 * c + j) = bf 1 (fun q => w (16 * c + q)) j := fun j => by
    have := bf_shift 1 (8 * c) j Nat.one_pos w
    rwa [show 2 * 1 * (8 * c) = 16 * c by ring] at this
  have e2 : ∀ j, bf 2 (bf 1 w) (16 * c + j) = bf 2 (bf 1 (fun q => w (16 * c + q))) j := fun j => by
    have := bf_shift 2 (4 * c) j (by decide) (bf 1 w)
    rw [show 2 * 2 * (4 * c) = 16 * c by ring] at this
    rw [this]; congr 1; funext q; exact e1 q
  have e3 : ∀ j, bf 4 (bf 2 (bf 1 w)) (16 * c + j) = bf 4 (bf 2 (bf 1 (fun q => w (16 * c + q)))) j := fun j => by
    have := bf_shift 4 (2 * c) j (by decide) (bf 2 (bf 1 w))
    rw [show 2 * 4 * (2 * c) = 16 * c by ring] at this
    rw [this]; congr 1; funext q; exact e2 q
  have := bf_shift 8 c j (by decide) (bf 4 (bf 2 (bf 1 w)))
  rw [show 2 * 8 * c = 16 * c by ring] at this
  rw [this]; congr 1; funext q; exact e3 q

/-- Four stages are a sum against the sign matrix. -/
theorem wht16 (w : ℕ → ℝ) (c j : ℕ) (hj : j < 16) :
    bf 8 (bf 4 (bf 2 (bf 1 w))) (16 * c + j) = ∑ p ∈ range 16, (if neg j p then -1 else 1) * w (16 * c + p) := by
  rw [bf4_group]
  obtain ⟨u, hu⟩ : ∃ u : ℕ → ℝ, u = fun q => w (16 * c + q) := ⟨_, rfl⟩
  have ew : ∀ p, w (16 * c + p) = u p := fun p => by rw [hu]
  rw [← hu]
  simp only [ew]
  show bf 8 (bf 4 (bf 2 (bf 1 u))) j = ∑ p ∈ range 16, (if neg j p then -1 else 1) * u p
  simp only [sum_range_succ, sum_range_zero]
  interval_cases j <;> simp [bf, neg] <;> ring

/-! ## Sums -/

/-- A finite sum of reals, as extended reals. -/
theorem coe_sum (n : ℕ) (f : ℕ → ℝ) : ((∑ k ∈ range n, f k : ℝ) : EReal) = ∑ k ∈ range n, (f k : EReal) := by
  induction n with
  | zero => simp
  | succ n ih => rw [sum_range_succ, sum_range_succ, EReal.coe_add, ih]

/-- A sum over `b m` indices is the sum over `m` blocks of `b`. -/
theorem sum_blocks {α : Type} [AddCommMonoid α] (b m : ℕ) (f : ℕ → α) :
    ∑ q ∈ range (b * m), f q = ∑ k ∈ range m, ∑ p ∈ range b, f (b * k + p) := by
  induction m with
  | zero => simp
  | succ m ih => rw [Nat.mul_succ, sum_range_add, ih, sum_range_succ]

/-- A sum over `2 m` indices is the sum over the even ones plus the sum over the odd ones. -/
theorem sum_even_odd {α : Type} [AddCommMonoid α] (m : ℕ) (f : ℕ → α) :
    ∑ q ∈ range (2 * m), f q = (∑ i ∈ range m, f (2 * i)) + ∑ i ∈ range m, f (2 * i + 1) := by
  induction m with
  | zero => simp
  | succ m ih =>
    rw [show 2 * (m + 1) = 2 * m + 1 + 1 by ring, sum_range_succ, sum_range_succ, ih, sum_range_succ, sum_range_succ]
    abel

/-- THE MIXING SUM: the product of the signed 448-wide row with the 448 rows of a group is the head mix followed by the first
    four stages, when the entries are real. -/
theorem mix_sum (H : ℕ → ℝ) (X : ℕ → ℕ → ℝ) (c j : ℕ) (hj : j < 16) :
    ∑ q ∈ range 448, (if neg j (q % 16) then -((H (q / 16) : ℝ) : EReal) else ((H (q / 16) : ℝ) : EReal))
        * ((X (q / 16) (16 * c + q % 16) : ℝ) : EReal)
      = bf 8 (bf 4 (bf 2 (bf 1 (fun p => ∑ k ∈ range 28, ((H k : ℝ) : EReal) * ((X k p : ℝ) : EReal))))) (16 * c + j) := by
  have eR : (fun p => ∑ k ∈ range 28, ((H k : ℝ) : EReal) * ((X k p : ℝ) : EReal))
      = fun p => ((∑ k ∈ range 28, H k * X k p : ℝ) : EReal) := by
    funext p; rw [coe_sum]; simp only [EReal.coe_mul]
  rw [eR, bf_coe, bf_coe, bf_coe, bf_coe]
  dsimp only
  rw [wht16 _ c j hj]
  have eL : ∀ q, (if neg j (q % 16) then -((H (q / 16) : ℝ) : EReal) else ((H (q / 16) : ℝ) : EReal))
        * ((X (q / 16) (16 * c + q % 16) : ℝ) : EReal)
      = (((if neg j (q % 16) then -1 else 1) * (H (q / 16) * X (q / 16) (16 * c + q % 16)) : ℝ) : EReal) := by
    intro q
    by_cases hn : neg j (q % 16) = true
    · rw [if_pos hn, if_pos hn, ← EReal.coe_neg, ← EReal.coe_mul]; congr 1; ring
    · rw [if_neg hn, if_neg hn, ← EReal.coe_mul]; congr 1; ring
  simp only [eL]
  rw [← coe_sum, show (448 : ℕ) = 16 * 28 from rfl, sum_blocks 16 28]
  congr 1
  rw [sum_comm]
  refine sum_congr rfl fun p hp => ?_
  have hp' := mem_range.mp hp
  rw [mul_sum]
  refine sum_congr rfl fun k _ => ?_
  rw [show (16 * k + p) % 16 = p by omega, show (16 * k + p) / 16 = k by omega]

/-! ## The problem's values -/

section Values

variable (x : ℕ → ℕ → EReal) (hd : ℕ → ℕ → EReal) (w : ℕ → ℕ → BitVec 8) (ws : ℕ → EReal)

/-- The head mix: head `a` of token `s` at position `p`. -/
def Z0 (a s p : ℕ) : EReal := ∑ k ∈ range 28, hd a k * x s (512 * k + p)

/-- The first four stages. -/
def Z4 (a s : ℕ) : ℕ → EReal := bf 8 (bf 4 (bf 2 (bf 1 (Z0 x hd a s))))

/-- The fifth stage. -/
def Z5 (a s : ℕ) : ℕ → EReal := bf 16 (Z4 x hd a s)

/-- All nine stages: the rotated activations. -/
def Z9 (a s : ℕ) : ℕ → EReal := bf 256 (bf 128 (bf 64 (bf 32 (Z5 x hd a s))))

/-- The constant both programs multiply the rotation by. -/
def inv : EReal := Ideal.ofBits .f32 0x3C08D677#32

/-- The normalised rotated activations. -/
def Y (a s p : ℕ) : EReal := Z9 x hd a s p * inv

/-- The greatest absolute value of a token's activations. -/
def amax (s : ℕ) : EReal := ⨆ n : Fin 14336, max (Y x hd (n.val / 512) s (n.val % 512)) (-(Y x hd (n.val / 512) s (n.val % 512)))

/-- The scale made of a greatest absolute value. -/
def scaleOf (a : EReal) : EReal := if a = 0 then 1 else Ideal.div a (Ideal.ofBits .f32 0x40E00000#32)

/-- A token's scale. -/
def scale (s : ℕ) : EReal := scaleOf (amax x hd s)

/-- Rounding to a whole number clamped to [-7, 7]. -/
def clampRound (v : EReal) : EReal :=
  min (Ideal.ofBits .f32 0x40E00000#32) (max (Ideal.ofBits .f32 0xC0E00000#32) (Ideal.liftRound Ideal.roundHalfEven v))

/-- A token's quantised activation. -/
def qv (s n : ℕ) : EReal := clampRound (Ideal.div (Y x hd (n / 512) s (n % 512)) (scale x hd s))

/-- A weight: the low nibble of its byte for an even row, the high one for an odd row, read as a signed number. -/
def nib (b : BitVec 8) (n : ℕ) : EReal := ((((b >>> (4 * (n % 2))).setWidth 4).toInt : ℝ) : EReal)

/-- The projection's accumulator after the first `n` rows. -/
def acc (n s d : ℕ) : EReal := ∑ i ∈ range n, qv x hd s i * nib (w (i / 2) d) i

/-- The output. -/
def out (s d : ℕ) : EReal := acc x hd w 14336 s d * scale x hd s * ws d

end Values

/-- The constant is a positive real. -/
theorem inv_real : ∃ r : ℝ, 0 < r ∧ inv = (r : EReal) := by
  unfold inv
  refine ⟨_, ?_, by simp [Ideal.ofBits, Ideal.ieee]; rfl⟩
  norm_num

/-- The absolute value scales by a positive real. -/
theorem abs_mul_inv (z : EReal) : max (z * inv) (-(z * inv)) = max z (-z) * inv := by
  obtain ⟨r, hr, he⟩ := inv_real
  rw [he]
  have h0 : (0 : EReal) ≤ (r : EReal) := by exact_mod_cast hr.le
  rw [← EReal.neg_mul]
  exact ((monotone_mul_right_of_nonneg h0).map_max).symm

/-- THE GREATEST ABSOLUTE VALUE, taken before the constant is multiplied in. -/
theorem amax_eq (x hd : ℕ → ℕ → EReal) (s : ℕ) (A : EReal)
    (hA : ∀ b : EReal, A ≤ b ↔ 0 ≤ b ∧ ∀ a < 28, ∀ p < 512, max (Z9 x hd a s p) (-(Z9 x hd a s p)) ≤ b) :
    A * inv = amax x hd s := by
  obtain ⟨r, hr, he⟩ := inv_real
  have h0 : (0 : EReal) < (r : EReal) := by exact_mod_cast hr
  have ht : (r : EReal) ≠ ⊤ := EReal.coe_ne_top r
  obtain ⟨hA0, hA1⟩ := (hA A).mp le_rfl
  have hY : ∀ a p, max (Y x hd a s p) (-(Y x hd a s p)) = max (Z9 x hd a s p) (-(Z9 x hd a s p)) * inv := fun a p => abs_mul_inv _
  apply le_antisymm
  · rw [he, ← EReal.le_div_iff_mul_le h0 ht, hA]
    have key : ∀ a < 28, ∀ p < 512, max (Z9 x hd a s p) (-(Z9 x hd a s p)) ≤ amax x hd s / (r : EReal) := by
      intro a ha p hp
      rw [EReal.le_div_iff_mul_le h0 ht, ← he, ← hY]
      have := le_iSup (fun n : Fin 14336 => max (Y x hd (n.val / 512) s (n.val % 512)) (-(Y x hd (n.val / 512) s (n.val % 512)))) ⟨512 * a + p, by omega⟩
      simp only [show (512 * a + p) / 512 = a by omega, show (512 * a + p) % 512 = p by omega] at this
      exact this
    refine ⟨le_trans ?_ (key 0 (by decide) 0 (by decide)), key⟩
    rcases le_total 0 (Z9 x hd 0 s 0) with h | h
    · exact le_max_of_le_left h
    · exact le_max_of_le_right (by rw [← neg_zero]; exact EReal.neg_le_neg_iff.mpr h)
  · refine iSup_le fun n => ?_
    rw [hY, he]
    exact mul_le_mul_of_nonneg_right (hA1 _ (by omega) _ (by omega)) h0.le

end Cert.Spec

end
-- ==== Proof.Infinite.lean ====
/- Infinite activations. The kernel adds the entries of a head mix and of four butterfly stages in one sum, with signs, where the reference
   adds them stage by stage; over extended reals the two agree wherever they are finite, and are infinite at the same places. -/
module

public import proofs.«01_k».proof.Proof.Spec

@[expose] public section

noncomputable section

namespace Cert.Spec

open Idealize.ShloMosaic Finset

/-- The value is one of the two infinities. -/
def Infinite (v : EReal) : Prop := v = ⊤ ∨ v = ⊥

/-- A sum is infinite when one of its two terms is. -/
theorem infinite_add (u v : EReal) : Infinite (u + v) ↔ Infinite u ∨ Infinite v := by
  unfold Infinite
  induction u <;> induction v <;> simp [← EReal.coe_add]

/-- So is a negation, -/
theorem infinite_neg (u : EReal) : Infinite (-u) ↔ Infinite u := by
  unfold Infinite
  induction u <;> simp [← EReal.coe_neg]

/-- and a difference, -/
theorem infinite_sub (u v : EReal) : Infinite (u - v) ↔ Infinite u ∨ Infinite v := by
  rw [sub_eq_add_neg, infinite_add, infinite_neg]

/-- and a sum of many terms. -/
theorem infinite_sum (n : ℕ) (f : ℕ → EReal) : Infinite (∑ k ∈ range n, f k) ↔ ∃ k < n, Infinite (f k) := by
  induction n with
  | zero => simp [Infinite]
  | succ n ih =>
    rw [sum_range_succ, infinite_add, ih]
    constructor
    · rintro (⟨k, hk, h⟩ | h)
      · exact ⟨k, by omega, h⟩
      · exact ⟨n, by omega, h⟩
    · rintro ⟨k, hk, h⟩
      rcases Nat.lt_succ_iff_lt_or_eq.mp hk with h' | rfl
      · exact Or.inl ⟨k, h', h⟩
      · exact Or.inr h

/-- A value that is not infinite is a real number. -/
theorem real_of_not_infinite {v : EReal} (h : ¬ Infinite v) : v = ((v.toReal : ℝ) : EReal) :=
  (EReal.coe_toReal (fun e => h (Or.inl e)) (fun e => h (Or.inr e))).symm

/-- Two values are equal or both infinite. -/
def Near (u v : EReal) : Prop := u = v ∨ (Infinite u ∧ Infinite v)

/-- Sums of such values are such values, -/
theorem near_add {u u' v v' : EReal} (h : Near u u') (h' : Near v v') : Near (u + v) (u' + v') := by
  unfold Near at *
  rw [infinite_add, infinite_add]
  rcases h with rfl | h <;> rcases h' with rfl | h' <;> tauto

/-- differences too, -/
theorem near_sub {u u' v v' : EReal} (h : Near u u') (h' : Near v v') : Near (u - v) (u' - v') := by
  unfold Near at *
  rw [infinite_sub, infinite_sub]
  rcases h with rfl | h <;> rcases h' with rfl | h' <;> tauto

/-- and so are the results of a butterfly stage. -/
theorem near_bf (h : ℕ) {z z' : ℕ → EReal} (hz : ∀ p, Near (z p) (z' p)) (p : ℕ) : Near (bf h z p) (bf h z' p) := by
  unfold bf
  by_cases h0 : p / h % 2 = 0
  · rw [if_pos h0, if_pos h0]; exact near_add (hz _) (hz _)
  · rw [if_neg h0, if_neg h0]; exact near_sub (hz _) (hz _)

/-- Their absolute values are equal. -/
theorem near_abs {u v : EReal} (h : Near u v) : max u (-u) = max v (-v) := by
  rcases h with rfl | ⟨rfl | rfl, rfl | rfl⟩ <;> simp

/-- A stage at `h` within the first `2 h m` positions reads only those. -/
theorem bf_within (h m : ℕ) (hh : 0 < h) {z z' : ℕ → EReal} (hz : ∀ q < 2 * h * m, z q = z' q) : ∀ p < 2 * h * m, bf h z p = bf h z' p := by
  intro p hp
  unfold bf
  have hq : p / h < 2 * m := by
    rw [Nat.div_lt_iff_lt_mul hh, show 2 * m * h = 2 * h * m by ring]; exact hp
  by_cases h0 : p / h % 2 = 0
  · rw [if_pos h0, if_pos h0, hz p hp, hz (p + h) ?_]
    have h1 : p / h + 2 ≤ 2 * m := by omega
    have h2 : p < (p / h + 1) * h := by
      have := Nat.lt_div_mul_add hh (a := p); rw [Nat.add_mul, Nat.one_mul]; exact this
    calc p + h < (p / h + 1) * h + h := by omega
      _ = (p / h + 2) * h := by ring
      _ ≤ 2 * m * h := Nat.mul_le_mul_right _ h1
      _ = 2 * h * m := by ring
  · rw [if_neg h0, if_neg h0, hz p hp, hz (p - h) (by omega)]

/-- A stage makes an infinite entry's two positions infinite. -/
theorem bf_infinite (h : ℕ) (z : ℕ → EReal) (q p : ℕ) (hpq : p = q ∨ (p / h % 2 = 0 ∧ q = p + h) ∨ (p / h % 2 = 1 ∧ q + h = p)) (hz : Infinite (z q)) :
    Infinite (bf h z p) := by
  unfold bf
  by_cases h0 : p / h % 2 = 0
  · rw [if_pos h0, infinite_add]
    rcases hpq with rfl | ⟨-, rfl⟩ | ⟨h1, -⟩
    · exact Or.inl hz
    · exact Or.inr hz
    · rw [h0] at h1; exact absurd h1 (by decide)
  · rw [if_neg h0, infinite_sub]
    rcases hpq with rfl | ⟨h1, -⟩ | ⟨-, e⟩
    · exact Or.inr hz
    · exact absurd h1 h0
    · left; rw [← e, Nat.add_sub_cancel]; exact hz

/-- An infinite entry of a group of sixteen makes all sixteen infinite in four stages. -/
theorem bf4_infinite (u : ℕ → EReal) (j q : ℕ) (hj : j < 16) (hq : q < 16) (h : Infinite (u q)) :
    Infinite (bf 8 (bf 4 (bf 2 (bf 1 u))) j) :=
  bf_infinite 8 _ (8 * (q / 8) + j % 8) j (by omega)
    (bf_infinite 4 _ (4 * (q / 4) + j % 4) (8 * (q / 8) + j % 8) (by omega)
      (bf_infinite 2 _ (2 * (q / 2) + j % 2) (4 * (q / 4) + j % 4) (by omega)
        (bf_infinite 1 u q (2 * (q / 2) + j % 2) (by omega) h)))

/-- Four stages over a group whose sixteen entries are sums of reals are one signed sum of all the terms. -/
theorem signed_sum (T : ℕ → ℕ → ℝ) (j : ℕ) (hj : j < 16) :
    ∑ q ∈ range 448, (if neg j (q % 16) then -((T (q / 16) (q % 16) : ℝ) : EReal) else ((T (q / 16) (q % 16) : ℝ) : EReal))
      = bf 8 (bf 4 (bf 2 (bf 1 (fun p => ∑ k ∈ range 28, ((T k p : ℝ) : EReal))))) j := by
  have h := mix_sum (fun _ => 1) T 0 j hj
  simp only [EReal.coe_one, one_mul, Nat.mul_zero, Nat.zero_add] at h
  refine Eq.trans (sum_congr rfl fun q _ => ?_) h
  by_cases hn : neg j (q % 16) = true
  · rw [if_pos hn, if_pos hn, EReal.neg_mul, one_mul]
  · rw [if_neg hn, if_neg hn, one_mul]

section Values

variable (x : ℕ → ℕ → EReal) (hd : ℕ → ℕ → EReal)

/-- The head mix and the first four stages as the kernel adds them: one signed sum over the heads and the sixteen positions of a group. -/
def K4 (a s p : ℕ) : EReal :=
  ∑ q ∈ range 448, (if neg (p % 16) (q % 16) then -(hd a (q / 16)) else hd a (q / 16)) * x s (512 * (q / 16) + (16 * (p / 16) + q % 16))

/-- The fifth stage after it. -/
def K5 (a s : ℕ) : ℕ → EReal := bf 16 (K4 x hd a s)

/-- All nine stages. -/
def K9 (a s : ℕ) : ℕ → EReal := bf 256 (bf 128 (bf 64 (bf 32 (K5 x hd a s))))

/-- The signed sum equals the stages, or both are infinite. -/
theorem near4 (a s p : ℕ) : Near (K4 x hd a s p) (Z4 x hd a s p) := by
  obtain ⟨T, hT⟩ : ∃ T : ℕ → ℕ → EReal, T = fun k q => hd a k * x s (512 * k + (16 * (p / 16) + q)) := ⟨_, rfl⟩
  have hj : p % 16 < 16 := Nat.mod_lt _ (by decide)
  have eK : K4 x hd a s p = ∑ q ∈ range 448, (if neg (p % 16) (q % 16) then -(T (q / 16) (q % 16)) else T (q / 16) (q % 16)) := by
    unfold K4
    refine sum_congr rfl fun q _ => ?_
    rw [hT]
    by_cases hn : neg (p % 16) (q % 16) = true
    · rw [if_pos hn, if_pos hn, EReal.neg_mul]
    · rw [if_neg hn, if_neg hn]
  have eZ : Z4 x hd a s p = bf 8 (bf 4 (bf 2 (bf 1 (fun q => ∑ k ∈ range 28, T k q)))) (p % 16) := by
    have e := bf4_group (Z0 x hd a s) (p / 16) (p % 16)
    rw [Nat.div_add_mod] at e
    unfold Z4
    rw [e, hT]
    rfl
  rw [eK, eZ]
  by_cases hi : ∃ k < 28, ∃ q < 16, Infinite (T k q)
  · obtain ⟨k, hk, q, hq, h⟩ := hi
    refine Or.inr ⟨(infinite_sum _ _).mpr ⟨16 * k + q, by omega, ?_⟩, bf4_infinite _ _ q hj hq ((infinite_sum _ _).mpr ⟨k, hk, h⟩)⟩
    rw [show (16 * k + q) % 16 = q by omega, show (16 * k + q) / 16 = k by omega]
    by_cases hn : neg (p % 16) q = true
    · rw [if_pos hn, infinite_neg]; exact h
    · rw [if_neg hn]; exact h
  · have hr : ∀ k < 28, ∀ q < 16, T k q = (((T k q).toReal : ℝ) : EReal) := fun k hk q hq =>
      real_of_not_infinite fun h => hi ⟨k, hk, q, hq, h⟩
    left
    have h := signed_sum (fun k q => (T k q).toReal) (p % 16) hj
    refine Eq.trans (sum_congr rfl fun q hq => ?_) (h.trans ?_)
    · have hq' := mem_range.mp hq
      rw [← hr (q / 16) (by omega) (q % 16) (by omega)]
    · have e : ∀ q < 2 * 8 * 1, (fun p => ∑ k ∈ range 28, (((T k p).toReal : ℝ) : EReal)) q = ∑ k ∈ range 28, T k q := fun q hq =>
        sum_congr rfl fun k hk => (hr k (mem_range.mp hk) q (by omega)).symm
      exact bf_within 8 1 (by decide) (bf_within 4 2 (by decide) (bf_within 2 4 (by decide) (bf_within 1 8 (by decide) e))) _ (by omega)

/-- So after all nine stages. -/
theorem near9 (a s p : ℕ) : Near (K9 x hd a s p) (Z9 x hd a s p) :=
  near_bf 256 (near_bf 128 (near_bf 64 (near_bf 32 (near_bf 16 (near4 x hd a s))))) p

/-- The absolute values are the reference's. -/
theorem abs9 (a s p : ℕ) : max (K9 x hd a s p) (-(K9 x hd a s p)) = max (Z9 x hd a s p) (-(Z9 x hd a s p)) := near_abs (near9 x hd a s p)

/-- Next to an infinite entry the greatest absolute value and the scale are infinite. -/
theorem scale_infinite (a s p : ℕ) (ha : a < 28) (hp : p < 512) (h : Infinite (Z9 x hd a s p)) : scale x hd s = ⊤ := by
  obtain ⟨r, hr, he⟩ := inv_real
  have h0 : (0 : EReal) < (r : EReal) := by exact_mod_cast hr
  have hm : max (Z9 x hd a s p) (-(Z9 x hd a s p)) = ⊤ := by rcases h with e | e <;> rw [e] <;> simp
  have hA : amax x hd s = ⊤ := by
    refine top_le_iff.mp (le_trans (le_of_eq ?_)
      (le_iSup (fun n : Fin 14336 => max (Y x hd (n.val / 512) s (n.val % 512)) (-(Y x hd (n.val / 512) s (n.val % 512)))) ⟨512 * a + p, by omega⟩))
    dsimp only
    rw [show (512 * a + p) / 512 = a by omega, show (512 * a + p) % 512 = p by omega]
    refine Eq.trans ?_ (abs_mul_inv (Z9 x hd a s p)).symm
    rw [hm, he, EReal.top_mul_of_pos h0]
  unfold scale scaleOf
  rw [hA, if_neg EReal.top_ne_zero]
  have e7 : ∃ q : ℝ, 0 < q ∧ Ideal.ofBits .f32 0x40E00000#32 = (q : EReal) := by
    refine ⟨_, ?_, by simp [Ideal.ofBits, Ideal.ieee]; rfl⟩
    norm_num
  obtain ⟨q, hq, e⟩ := e7
  unfold Ideal.div
  rw [e, if_neg (by exact_mod_cast hq.ne'), ← EReal.coe_inv, EReal.top_mul_of_pos (by exact_mod_cast inv_pos.mpr hq)]

/-- So the quantised activations are the reference's: both zero next to an infinite entry. -/
theorem quotient9 (a s p : ℕ) (ha : a < 28) (hp : p < 512) :
    Ideal.div (K9 x hd a s p * inv) (scale x hd s) = Ideal.div (Z9 x hd a s p * inv) (scale x hd s) := by
  rcases near9 x hd a s p with e | ⟨-, h⟩
  · rw [e]
  · rw [scale_infinite x hd a s p ha hp h]
    unfold Ideal.div
    rw [if_neg EReal.top_ne_zero, if_neg EReal.top_ne_zero, EReal.inv_top, mul_zero, mul_zero]

end Values

end Cert.Spec

end
-- ==== Proof.KernelIdealValueA.lean ====
/- What the first and the second counted loop of `KernelIdeal` compute, over extended reals: the transposes, the mixing matrix, and the
   first five butterfly stages as one product and one sum and difference. -/
module

public import proofs.«01_k».proof.Proof.KernelIdealSteps
public import proofs.«01_k».proof.Proof.Infinite
public import Idealize.ShloMosaic.Lib.MatmulPlain
public import Idealize.ShloMosaic.Lib.Pipeline.Value

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

theorem t1off_eq (k : Fin k0_t1_loop.trips) (i : Fin 4) : t1off k i = ![k.val, 128 * i.val, 0] := by
  match i with
  | ⟨0, _⟩ => exact k0_off2_eq k
  | ⟨1, _⟩ => exact k0_off3_eq k
  | ⟨2, _⟩ => exact k0_off4_eq k
  | ⟨3, _⟩ => exact k0_off5_eq k
  | ⟨n + 4, h⟩ => exact absurd h (by omega)

/-- A read through a unit-stride rectangle is the view's read at the shifted index. -/
theorem readAt_unit {F : FTy → Type} {s : Shape} {e : EltTy} {sp : Space} (v : View sig .tc sp s e) {off off' size : Fin s.rank → ℕ}
    (inb : ∀ a, off a + size a ≤ s.size a) (f : v.ty.Contents (Elt F)) (x : (Rect.unit off size inb).toLoadRect.shape.Idx) (y : s.Idx)
    (heq : off = off') (hy : ∀ a, (y a).val = off' a + (x a).val) :
    View.readAt (Elt F) v (Rect.unit off size inb).toLoadRect f x = v.read (Elt F) f y := by
  subst heq
  show v.read (Elt F) f _ = _
  congr 1
  funext a
  apply Fin.ext
  show off a + 1 * (x a).val = (y a).val
  rw [hy a, Nat.one_mul]

/-- One trip of the first loop puts head `k`'s activations, transposed, in slab `k`. -/
theorem t1_step (X : ℕ → ℕ → EReal) (c : Dev nD) (k : Fin k0_t1_loop.trips) (fX : BufOf (F := Ideal) c sX) (f : BufOf (F := Ideal) c sT)
    (hX : ∀ (s : Fin 128) (q : Fin 14336), sX.view.read (Elt Ideal) fX (ix2 s q) = X s.val q.val)
    (h : ∀ (a : Fin 28) (p : Fin 512) (s : Fin 128), a.val < k.val → sT.view.read (Elt Ideal) f (ix3 a p s) = X s.val (512 * a.val + p.val)) :
    ∀ (a : Fin 28) (p : Fin 512) (s : Fin 128), a.val < k.val + 1 → sT.view.read (Elt Ideal) (t1New c k fX f) (ix3 a p s) = X s.val (512 * a.val + p.val) := by
  intro a p s hy
  have hk : k.val < 28 := Nat.lt_of_lt_of_le k.isLt k0_t1_abs.2.1
  have y1 : p.val < 512 := p.isLt
  unfold t1New
  by_cases h0 : a.val = k.val
  · refine (View.read_tilePieces sT.view f _ _ (t1inb k) _ 4 (le_refl _) (ix3 a p s) ⟨p.val / 128, by omega⟩ (by show _ / 128 < 4; omega)
      (ix3 (n0 := 1) (n1 := 128) (n2 := 128) ⟨0, by decide⟩ ⟨p.val % 128, Nat.mod_lt _ (by decide)⟩ s) ?hx 1 ?hd).trans ?_
    case hx =>
      intro a
      rw [t1off_eq]
      match a with
      | ⟨0, _⟩ => exact h0
      | ⟨1, _⟩ => show p.val = 128 * (p.val / 128) + p.val % 128; omega
      | ⟨2, _⟩ => show s.val = 0 + s.val; omega
    case hd =>
      intro i' hi'
      rw [t1off_eq]
      have : i'.val ≠ p.val / 128 := fun e => hi' (Fin.ext e)
      show p.val < 128 * i'.val ∨ 128 * i'.val + 128 ≤ p.val
      omega
    unfold t1piece
    refine (shapeCast_addUnit_apply (d := ![128, 128]) _ _ _).trans ?_
    refine (transpose_apply _ _ _ _ (ix2 s (⟨p.val % 128, Nat.mod_lt _ (by decide)⟩ : Fin 128)) (fun b => by
      match b with
      | ⟨0, _⟩ => rfl
      | ⟨1, _⟩ => rfl)).trans ?_
    refine (readAt_unit sX.view _ fX _ (ix2 s (⟨512 * a.val + p.val, by omega⟩ : Fin 14336)) (k0_off1_eq k ⟨p.val / 128, by omega⟩) (fun b => by
      match b with
      | ⟨0, _⟩ => show s.val = 0 + s.val; omega
      | ⟨1, _⟩ => show 512 * a.val + p.val = 512 * k.val + 128 * (p.val / 128) + p.val % 128; omega)).trans ?_
    exact hX _ _
  · refine (View.read_tilePieces_miss sT.view f _ _ (t1inb k) _ 4 (le_refl _) (ix3 a p s) 0 (fun i' _ => by
      rw [t1off_eq]; left; show a.val < k.val; omega)).trans ?_
    exact h a p s (by omega)

end Cert.KernelIdeal.HandV

end
-- ==== Proof.KernelIdealValueC.lean ====
/- What the third counted loop of `KernelIdeal` computes, over extended reals: the last four butterfly stages of one head a trip, in place,
   and the running maximum of the absolute values. -/
module

public import proofs.«01_k».proof.Proof.KernelIdealT3
public import proofs.«01_k».proof.Proof.KernelIdealValueA

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

theorem t3off_eq : ∀ (k : Fin k0_t3_loop.trips) (i : Fin 64), t3off k i = ![k.val, 16 * (i.val % 32) + 8 * (i.val / 32), 0] := by decide +kernel

/-- The block a position is in, and where. -/
theorem blk (p : ℕ) (hp : p < 512) : (32 * (p / 8 % 2) + p / 16) % 32 = p / 16 ∧ (32 * (p / 8 % 2) + p / 16) / 32 = p / 8 % 2
    ∧ 16 * (p / 16) + (8 * (p / 8 % 2) + p % 8) = p ∧ 32 * (p / 8 % 2) + p / 16 < 64 := by
  have h1 : p / 16 < 32 := by omega
  have h2 : p / 8 % 2 < 2 := by omega
  refine ⟨?_, ?_, by omega, by omega⟩
  · rw [Nat.mul_add_mod, Nat.mod_eq_of_lt h1]
  · rw [Nat.mul_add_div (by omega), Nat.div_eq_of_lt h1, Nat.add_zero]

/-- Two blocks are the same or apart. -/
theorem blk_apart (p i : ℕ) (hp : p < 512) (hi : i < 64) (h : i ≠ 32 * (p / 8 % 2) + p / 16) :
    p < 16 * (i % 32) + 8 * (i / 32) ∨ 16 * (i % 32) + 8 * (i / 32) + 8 ≤ p := by
  have h1 := (blk p hp).2.2.1
  have h2 : p / 8 % 2 < 2 := by omega
  have h3 : i = 32 * (i / 32) + i % 32 := by omega
  have h4 : i / 32 < 2 := by omega
  have h5 : p % 8 < 8 := by omega
  generalize i / 32 = u at *
  generalize i % 32 = v at *
  generalize p / 8 % 2 = u' at *
  generalize p / 16 = v' at *
  generalize p % 8 = w at *
  omega

/-- A stage over a family of vectors is the stage at each entry. -/
theorem bfv_apply (h : ℕ) (v : ℕ → FVec Ideal S8x128 .f32) (j : S8x128.Idx) (g : ℕ) : bfv h v g j = bf h (fun g => v g j) g := by
  unfold bfv bf
  by_cases h0 : g / h % 2 = 0
  · rw [if_pos h0, if_pos h0]; rfl
  · rw [if_neg h0, if_neg h0]; rfl

/-- The last four stages, sixteen positions apart. -/
theorem K9_group (x hd : ℕ → ℕ → EReal) (a s g r : ℕ) (hr : r < 16) :
    K9 x hd a s (16 * g + r) = bf 16 (bf 8 (bf 4 (bf 2 (fun g => K5 x hd a s (16 * g + r))))) g := by
  have e : ∀ (h : ℕ) (z : ℕ → EReal), (fun g => bf (16 * h) z (16 * g + r)) = bf h (fun g => z (16 * g + r)) := fun h z => funext fun g => bf_group h g r hr z
  have e' := congrFun (e 16 (bf (16 * 8) (bf (16 * 4) (bf (16 * 2) (K5 x hd a s))))) g
  rw [e 8, e 4, e 2] at e'
  exact e'

section
variable (x hd : ℕ → ℕ → EReal) (c : Dev nD) (k : Fin k0_t3_loop.trips) (f : BufOf (F := Ideal) c sZ)

/-- The value a trip stores, at one entry. -/
theorem t3val_apply (hf : ∀ (p : Fin 512) (s : Fin 128), sZ.view.read (Elt Ideal) f (ix3 (⟨k.val, Nat.lt_of_lt_of_le k.isLt k0_t3_abs.2.1⟩ : Fin 28) p s) = K5 x hd k.val s.val p.val)
    (i : ℕ) (hi : i < 64) (r : Fin 8) (s : Fin 128) :
    t3val c k f i (ix2 r s) = K9 x hd k.val s.val (16 * (i % 32) + (8 * (i / 32) + r.val)) := by
  have hl : ∀ g < 32, t3leaf c k f (i / 32) g (ix2 r s) = K5 x hd k.val s.val (16 * g + (8 * (i / 32) + r.val)) := by
    intro g hg
    unfold t3leaf
    rw [dif_pos (show g < 32 ∧ i / 32 < 2 by omega)]
    refine (shapeCast_dropUnit_apply (d := ![8, 128]) _ _ _).trans ?_
    refine (readAt_unit sZ.view _ f _ (ix3 (⟨k.val, Nat.lt_of_lt_of_le k.isLt k0_t3_abs.2.1⟩ : Fin 28) (⟨16 * g + (8 * (i / 32) + r.val), by omega⟩ : Fin 512) s) (t3off_eq k _) (fun b => by
      match b with
      | ⟨0, _⟩ => show k.val = k.val + 0; omega
      | ⟨1, _⟩ =>
        show 16 * g + (8 * (i / 32) + r.val) = 16 * ((32 * (i / 32) + g) % 32) + 8 * ((32 * (i / 32) + g) / 32) + r.val
        omega
      | ⟨2, _⟩ => show s.val = 0 + s.val; omega)).trans ?_
    exact hf _ _
  rw [K9_group x hd k.val s.val (i % 32) (8 * (i / 32) + r.val) (by omega)]
  have e : ∀ (h : ℕ) (v : ℕ → FVec Ideal S8x128 .f32), (fun g => bfv h v g (ix2 r s)) = bf h (fun g => v g (ix2 r s)) := fun h v => funext fun g => bfv_apply h v _ g
  unfold t3val
  rw [bfv_apply, e 8, e 4, e 2]
  exact bf_within 16 1 (by omega) (bf_within 8 2 (by omega) (bf_within 4 4 (by omega) (bf_within 2 8 (by omega) hl))) (i % 32) (by omega)

/-- The running maximum over the first `n` values of a trip, as an upper bound. -/
theorem t3acc_le (acc : FVec Ideal S8x128 .f32) (j : S8x128.Idx) (b : EReal) : ∀ n, t3acc c k f acc n j ≤ b ↔ acc j ≤ b ∧ ∀ i < n, max (t3val c k f i j) (-(t3val c k f i j)) ≤ b
  | 0 => by
    unfold t3acc
    exact ⟨fun h => ⟨h, fun i hi => absurd hi (Nat.not_lt_zero _)⟩, fun h => h.1⟩
  | n + 1 => by
    have ih := t3acc_le acc j b n
    show max (t3acc c k f acc n j) (max (t3val c k f n j) (-(t3val c k f n j))) ≤ b ↔ _
    rw [max_le_iff, ih]
    constructor
    · rintro ⟨⟨h1, h2⟩, h3⟩
      refine ⟨h1, fun i hi => ?_⟩
      rcases Nat.lt_succ_iff_lt_or_eq.mp hi with h | h
      · exact h2 i h
      · rw [h]; exact h3
    · rintro ⟨h1, h2⟩
      exact ⟨⟨h1, fun i hi => h2 i (by omega)⟩, h2 n (by omega)⟩

/-- One trip of the third loop finishes head `k`'s butterflies in place and takes its absolute values into the maximum. -/
theorem t3_step (acc : FVec Ideal S8x128 .f32)
    (hf : ∀ (a : Fin 28) (p : Fin 512) (s : Fin 128), sZ.view.read (Elt Ideal) f (ix3 a p s) = if a.val < k.val then K9 x hd a.val s.val p.val else K5 x hd a.val s.val p.val)
    (ha : ∀ (r : Fin 8) (s : Fin 128) (b : EReal), acc (ix2 r s) ≤ b ↔ 0 ≤ b ∧ ∀ a < k.val, ∀ p < 512, p % 8 = r.val → max (K9 x hd a s.val p) (-(K9 x hd a s.val p)) ≤ b) :
    (∀ (a : Fin 28) (p : Fin 512) (s : Fin 128), sZ.view.read (Elt Ideal) (t3New c k f) (ix3 a p s) = if a.val < k.val + 1 then K9 x hd a.val s.val p.val else K5 x hd a.val s.val p.val)
    ∧ (∀ (r : Fin 8) (s : Fin 128) (b : EReal), t3acc c k f acc 64 (ix2 r s) ≤ b ↔ 0 ≤ b ∧ ∀ a < k.val + 1, ∀ p < 512, p % 8 = r.val → max (K9 x hd a s.val p) (-(K9 x hd a s.val p)) ≤ b) := by
  have hk : k.val < 28 := Nat.lt_of_lt_of_le k.isLt k0_t3_abs.2.1
  have hv := t3val_apply x hd c k f (fun p s => (hf ⟨k.val, hk⟩ p s).trans (if_neg (Nat.lt_irrefl _)))
  constructor
  · intro a p s
    obtain ⟨b1, b2, b3, b4⟩ := blk p.val p.isLt
    unfold t3New
    by_cases h0 : a.val = k.val
    · rw [if_pos (by omega)]
      refine (View.read_tilePieces sZ.view f _ _ (t3inb k) _ 64 (le_refl _) (ix3 a p s) (⟨32 * (p.val / 8 % 2) + p.val / 16, by omega⟩ : Fin 64) (by show 32 * (p.val / 8 % 2) + p.val / 16 < 64; omega)
        (ix3 (n0 := 1) (n1 := 8) (n2 := 128) ⟨0, by decide⟩ ⟨p.val % 8, Nat.mod_lt _ (by decide)⟩ s) ?hx 1 ?hd).trans ?_
      case hx =>
        intro b
        rw [t3off_eq]
        match b with
        | ⟨0, _⟩ => exact h0
        | ⟨1, _⟩ =>
          show p.val = 16 * ((32 * (p.val / 8 % 2) + p.val / 16) % 32) + 8 * ((32 * (p.val / 8 % 2) + p.val / 16) / 32) + p.val % 8
          rw [b1, b2, Nat.add_assoc, b3]
        | ⟨2, _⟩ => show s.val = 0 + s.val; omega
      case hd =>
        intro i' hi'
        rw [t3off_eq]
        have : i'.val ≠ 32 * (p.val / 8 % 2) + p.val / 16 := fun e => hi' (Fin.ext e)
        exact blk_apart p.val i'.val p.isLt i'.isLt this
      unfold t3piece
      refine (shapeCast_addUnit_apply (d := ![8, 128]) _ _ _).trans ?_
      show t3val c k f (32 * (p.val / 8 % 2) + p.val / 16) _ = _
      refine (congrArg (t3val c k f (32 * (p.val / 8 % 2) + p.val / 16)) (show _ = ix2 (⟨p.val % 8, Nat.mod_lt _ (by decide)⟩ : Fin 8) s from
        funext fun b => by match b with | ⟨0, _⟩ => rfl | ⟨1, _⟩ => rfl)).trans ?_
      refine (hv (32 * (p.val / 8 % 2) + p.val / 16) b4 (⟨p.val % 8, Nat.mod_lt _ (by decide)⟩ : Fin 8) s).trans ?_
      rw [h0, b1, b2]
      exact congrArg _ b3
    · refine (View.read_tilePieces_miss sZ.view f _ _ (t3inb k) _ 64 (le_refl _) (ix3 a p s) 0 (fun i' _ => by
        rw [t3off_eq]
        show a.val < k.val ∨ k.val + 1 ≤ a.val; omega)).trans ?_
      refine (hf a p s).trans ?_
      by_cases h1 : a.val < k.val
      · rw [if_pos h1, if_pos (by omega)]
      · rw [if_neg h1, if_neg (by omega)]
  · intro r s b
    rw [t3acc_le, ha]
    constructor
    · rintro ⟨⟨h0, h1⟩, h2⟩
      refine ⟨h0, fun a hak p hp hpr => ?_⟩
      by_cases hk' : a < k.val
      · exact h1 a hk' p hp hpr
      · obtain ⟨b1, b2, b3, b4⟩ := blk p hp
        have h3 := h2 (32 * (p / 8 % 2) + p / 16) b4
        rw [hv _ b4, b1, b2, ← hpr, b3] at h3
        rw [show a = k.val by omega]
        exact h3
    · rintro ⟨h0, h1⟩
      refine ⟨⟨h0, fun a hak => h1 a (by omega)⟩, fun i hi => ?_⟩
      rw [hv i hi]
      have := r.isLt
      exact h1 k.val (by omega) _ (by omega) (by omega)
end

end Cert.KernelIdeal.HandV

end
-- ==== Proof.KernelIdealValueM.lean ====
/- The mixing matrix of `KernelIdeal` and what the second counted loop computes with it, over extended reals: the first five butterfly stages
   as one product with a signed matrix and one sum and difference. -/
module

public import proofs.«01_k».proof.Proof.KernelIdealValueA

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

/-! ## Words -/

/-- Division by sixteen rounded down, as the kernel spells it on a nonnegative word. -/
def fdiv16 (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 16#32 0#32)) (Scalar.extui (Scalar.cmpi .slt 16#32 0#32))))
    (IntOp.cmpi .ne (IntOp.remsi .vector x 16#32) 0#32)) (IntOp.subi (IntOp.divsi .vector x 16#32) 1#32) (IntOp.divsi .vector x 16#32)

theorem fdiv16_eq : ∀ r : Fin 448, fdiv16 (BitVec.ofNat 32 r.val) = BitVec.ofNat 32 (r.val / 16) := by decide +kernel

/-- The comparison of two small words, as the number one or zero. -/
theorem eqBit (a b : ℕ) (ha : a < 448) (hb : b < 448) :
    (((BitVec.setWidth 32 (IntOp.cmpi .eq (BitVec.ofNat 32 a) (BitVec.ofNat 32 b))).toInt : ℝ) : EReal) = if b = a then 1 else 0 := by
  have hab : ((BitVec.ofNat 32 a) == (BitVec.ofNat 32 b)) = decide (b = a) := by
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact this.symm
    · rintro rfl; rfl
  show (((BitVec.setWidth 32 (BitVec.ofBool ((BitVec.ofNat 32 a) == (BitVec.ofNat 32 b)))).toInt : ℝ) : EReal) = _
  rw [hab]
  by_cases h : b = a
  · rw [if_pos h, decide_eq_true h]; rw [show (BitVec.setWidth 32 (BitVec.ofBool true)).toInt = 1 from by decide]; simp
  · rw [if_neg h, decide_eq_false h]; rw [show (BitVec.setWidth 32 (BitVec.ofBool false)).toInt = 0 from by decide]; simp

/-- The sign bit of a pair of positions, as the kernel spells it. -/
def sgnBit (x y : BitVec 32) : BitVec 1 :=
  let v := IntOp.andi (IntOp.andi x y) 15#32
  let v' := IntOp.xori v (IntOp.shrsi .vector v 2#32)
  IntOp.cmpi .eq (IntOp.andi (IntOp.xori v' (IntOp.shrsi .vector v' 1#32)) 1#32) 1#32

theorem sgnBit_small : ∀ r q : Fin 16, sgnBit (BitVec.ofNat 32 r.val) (BitVec.ofNat 32 q.val) = BitVec.ofBool (neg r.val q.val) := by decide +kernel

theorem sgnBit_eq (r q : ℕ) (hr : r < 448) (hq : q < 448) : sgnBit (BitVec.ofNat 32 r) (BitVec.ofNat 32 q) = BitVec.ofBool (neg (r % 16) (q % 16)) := by
  rw [← sgnBit_small ⟨r % 16, by omega⟩ ⟨q % 16, by omega⟩]
  have : IntOp.andi (IntOp.andi (BitVec.ofNat 32 r) (BitVec.ofNat 32 q)) 15#32
      = IntOp.andi (IntOp.andi (BitVec.ofNat 32 (r % 16)) (BitVec.ofNat 32 (q % 16))) 15#32 := by
    apply BitVec.eq_of_toNat_eq
    show ((BitVec.ofNat 32 r &&& BitVec.ofNat 32 q) &&& 15#32).toNat = ((BitVec.ofNat 32 (r % 16) &&& BitVec.ofNat 32 (q % 16)) &&& 15#32).toNat
    simp only [BitVec.toNat_and, BitVec.toNat_ofNat]
    rw [
      Nat.mod_eq_of_lt (show r < 2 ^ 32 by omega), Nat.mod_eq_of_lt (show q < 2 ^ 32 by omega), Nat.mod_eq_of_lt (show r % 16 < 2 ^ 32 by omega), Nat.mod_eq_of_lt (show q % 16 < 2 ^ 32 by omega)]
    show (r &&& q) &&& (2 ^ 4 - 1) = (r % 2 ^ 4 &&& q % 2 ^ 4) &&& (2 ^ 4 - 1)
    rw [Nat.and_two_pow_sub_one_eq_mod, Nat.and_two_pow_sub_one_eq_mod, Nat.and_mod_two_pow, Nat.and_mod_two_pow]
    simp
  unfold sgnBit
  rw [this]

/-! ## The mixing matrix -/

/-- The selector the program builds on the left, as it is passed to the mixing. -/
abbrev selL : FVec Ideal S448x28 .bf16 :=
  k0_pay412 (iota .tc S448x28 32 [0] iota_S448x28_d0_w32) 16#32 k0_pay410 k0_pay411 (Scalar.cmpi .sgt 16#32 0#32)

theorem selL_apply (r : Fin 448) (a : Fin 28) : selL (ix2 r a) = if r.val / 16 = a.val then 1 else 0 := by
  have h : selL (ix2 r a)
      = (((BitVec.setWidth 32 (IntOp.cmpi .eq (fdiv16 (iota .tc S448x28 32 [0] iota_S448x28_d0_w32 (ix2 r a))) (iota .tc S448x28 32 [1] iota_S448x28_d1_w32 (ix2 r a)))).toInt : ℝ) : EReal) := rfl
  rw [h, iota_single_apply, iota_single_apply]
  refine (congrArg (fun z => (((BitVec.setWidth 32 (IntOp.cmpi .eq z (BitVec.ofNat 32 a.val))).toInt : ℝ) : EReal)) (fdiv16_eq r)).trans ?_
  have := r.isLt; have := a.isLt
  refine (eqBit _ _ (by omega) (by omega)).trans ?_
  simp only [eq_comm]

theorem selR_apply (a : Fin 28) (q : Fin 448) : k0_pay413 (F := Ideal) (ix2 a q) = if q.val / 16 = a.val then 1 else 0 := by
  have h : k0_pay413 (F := Ideal) (ix2 a q)
      = (((BitVec.setWidth 32 (IntOp.cmpi .eq (iota .tc S28x448 32 [0] iota_S28x448_d0_w32 (ix2 a q)) (fdiv16 (iota .tc S28x448 32 [1] iota_S28x448_d1_w32 (ix2 a q))))).toInt : ℝ) : EReal) := rfl
  rw [h, iota_single_apply, iota_single_apply]
  refine (congrArg (fun z => (((BitVec.setWidth 32 (IntOp.cmpi .eq (BitVec.ofNat 32 a.val) z)).toInt : ℝ) : EReal)) (fdiv16_eq q)).trans ?_
  have := q.isLt; have := a.isLt
  exact eqBit _ _ (by omega) (by omega)

/-- The matrix of zeros the products start from. -/
theorem zero_const (s : Shape) (j : s.Idx) : constant (F := Ideal) s .f32 0x00000000#32 j = 0 := Ideal.ofBits_zero_f32

/-- An entry of the mixing matrix: the head matrix's entry for the two heads, negated by the parity of the two positions. -/
theorem mix_apply (had : FVec Ideal S28x28 .bf16) (r q : Fin 448) :
    k0_pay414 had selL (k0_pay413 (F := Ideal)) (constant S448x28 .f32 0x00000000#32) (ix2 r q)
      = if neg (r.val % 16) (q.val % 16) then -(had (ix2 (⟨r.val / 16, by omega⟩ : Fin 28) (⟨q.val / 16, by omega⟩ : Fin 28)))
        else had (ix2 (⟨r.val / 16, by omega⟩ : Fin 28) (⟨q.val / 16, by omega⟩ : Fin 28)) := by
  have e1 : ∀ a' : Fin 28, FloatOps.matmul (F := Ideal) (DotDims.plain 448 28 28) none selL had (constant (F := Ideal) S448x28 .f32 0x00000000#32) (ix2 r a')
      = had (ix2 (⟨r.val / 16, by omega⟩ : Fin 28) a') := by
    intro a'
    rw [Ideal.matmul_plain_apply, zero_const, zero_add]
    rw [Finset.sum_eq_single (⟨r.val / 16, by omega⟩ : Fin 28)]
    · rw [selL_apply, if_pos rfl, one_mul]
    · intro b _ hb
      rw [selL_apply, if_neg (fun e => hb (Fin.ext e.symm)), zero_mul]
    · intro hn; exact absurd (Finset.mem_univ _) hn
  have e2 : FloatOps.matmul (F := Ideal) (DotDims.plain 448 28 448) none
        (FloatOps.matmul (F := Ideal) (DotDims.plain 448 28 28) none selL had (constant (F := Ideal) S448x28 .f32 0x00000000#32)) (k0_pay413 (F := Ideal))
        (constant (F := Ideal) S448x448 .f32 0x00000000#32) (ix2 r q)
      = had (ix2 (⟨r.val / 16, by omega⟩ : Fin 28) (⟨q.val / 16, by omega⟩ : Fin 28)) := by
    rw [Ideal.matmul_plain_apply, zero_const, zero_add]
    rw [Finset.sum_eq_single (⟨q.val / 16, by omega⟩ : Fin 28)]
    · rw [selR_apply, if_pos rfl, mul_one, e1]
    · intro b _ hb
      rw [selR_apply, if_neg (fun e => hb (Fin.ext e.symm)), mul_zero]
    · intro hn; exact absurd (Finset.mem_univ _) hn
  have h : k0_pay414 had selL (k0_pay413 (F := Ideal)) (constant S448x28 .f32 0x00000000#32)
      = shapeCast S448x448 (fun j => Scalar.select (sgnBit (iota .tc S448x448 32 [0] iota_S448x448_d0_w32 j) (iota .tc S448x448 32 [1] iota_S448x448_d1_w32 j))
          (FloatOps.subf (F := Ideal) (φ := .f32) (FloatOps.ofBits (F := Ideal) .f32 0x00000000#32) (FloatOps.matmul (F := Ideal) (DotDims.plain 448 28 448) none
            (FloatOps.matmul (F := Ideal) (DotDims.plain 448 28 28) none selL had (constant (F := Ideal) S448x28 .f32 0x00000000#32)) (k0_pay413 (F := Ideal))
            (constant (F := Ideal) S448x448 .f32 0x00000000#32) j))
          (FloatOps.matmul (F := Ideal) (DotDims.plain 448 28 448) none
            (FloatOps.matmul (F := Ideal) (DotDims.plain 448 28 28) none selL had (constant (F := Ideal) S448x28 .f32 0x00000000#32)) (k0_pay413 (F := Ideal))
            (constant (F := Ideal) S448x448 .f32 0x00000000#32) j)) shapeCasts_S448x448_S448x448 := rfl
  rw [h, shapeCast_self]
  dsimp only
  rw [e2, iota_single_apply, iota_single_apply]
  refine (congrArg (fun z => Scalar.select z _ _) (sgnBit_eq r.val q.val r.isLt q.isLt)).trans ?_
  by_cases hn : neg (r.val % 16) (q.val % 16) = true
  · rw [if_pos hn, hn]
    show Ideal.ofBits .f32 0x00000000#32 - had (ix2 (⟨r.val / 16, by omega⟩ : Fin 28) (⟨q.val / 16, by omega⟩ : Fin 28)) = _
    rw [Ideal.ofBits_zero_f32]
    exact zero_sub _
  · rw [if_neg hn, (Bool.not_eq_true _).mp hn]
    rfl

end Cert.KernelIdeal.HandV

end
-- ==== Proof.KernelIdealValueB.lean ====
/- What the second counted loop of `KernelIdeal` computes, over extended reals: the first five butterfly stages of every head, thirty-two
   positions a trip, as one product with the mixing matrix and one sum and difference. -/
module

public import proofs.«01_k».proof.Proof.KernelIdealValueM

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

/-- The two blocks of a trip side by side, the left one; -/
theorem cat_left (A B : FVec Ideal S28x16x128 .bf16) (k : Fin 448) (s : Fin 128) :
    concatenate S448x256 1 [⟨S448x128, shapeCast S448x128 A shapeCasts_S28x16x128_S448x128⟩, ⟨S448x128, shapeCast S448x128 B shapeCasts_S28x16x128_S448x128⟩]
        concatenates_S448x128_S448x128_S448x256_d1 (ix2 k (⟨s.val, by omega⟩ : Fin 256))
      = A (ix3 (⟨k.val / 16, by omega⟩ : Fin 28) (⟨k.val % 16, by omega⟩ : Fin 16) s) := by
  refine (concatenate_pair_apply_left (t := S448x256) (s₁ := S448x128) (s₂ := S448x128) 1 _ _ _ _ rfl (ix2 (n0 := 448) (n1 := 128) k s) (fun b => by
    match b with
    | ⟨0, _⟩ => rfl
    | ⟨1, _⟩ => rfl)).trans ?_
  refine shapeCast_apply _ _ _ _ ?_
  rw [Shape.rowMajor_val_three, Shape.rowMajor_val_two]
  show (k.val / 16 * 16 + k.val % 16) * 128 + s.val = k.val * 128 + s.val
  omega

/-- and the right one. -/
theorem cat_right (A B : FVec Ideal S28x16x128 .bf16) (k : Fin 448) (s : Fin 128) :
    concatenate S448x256 1 [⟨S448x128, shapeCast S448x128 A shapeCasts_S28x16x128_S448x128⟩, ⟨S448x128, shapeCast S448x128 B shapeCasts_S28x16x128_S448x128⟩]
        concatenates_S448x128_S448x128_S448x256_d1 (ix2 k (⟨128 + s.val, by omega⟩ : Fin 256))
      = B (ix3 (⟨k.val / 16, by omega⟩ : Fin 28) (⟨k.val % 16, by omega⟩ : Fin 16) s) := by
  refine (concatenate_pair_apply_right (t := S448x256) (s₁ := S448x128) (s₂ := S448x128) 1 _ _ _ _ rfl rfl (ix2 (n0 := 448) (n1 := 128) k s) (fun b hb => by
    match b with
    | ⟨0, _⟩ => rfl
    | ⟨1, _⟩ => exact absurd rfl hb) (by show s.val + 128 = 128 + s.val; omega)).trans ?_
  refine shapeCast_apply _ _ _ _ ?_
  rw [Shape.rowMajor_val_three, Shape.rowMajor_val_two]
  show (k.val / 16 * 16 + k.val % 16) * 128 + s.val = k.val * 128 + s.val
  omega

/-- The product of the mixing matrix with both blocks. -/
theorem mixC_apply (M : FVec Ideal S448x448 .bf16) (C : FVec Ideal S448x256 .bf16) (r : Fin 448) (q : Fin 256) :
    matmul (F := Ideal) dot_S448x448_S448x256_S448x256_1_0_0_1_n_n none M C (constant (F := Ideal) S448x256 .f32 0x00000000#32) (ix2 r q)
      = ∑ k : Fin 448, M (ix2 r k) * C (ix2 k q) := by
  show FloatOps.matmul (F := Ideal) (DotDims.plain 448 448 256) none M C (constant (F := Ideal) S448x256 .f32 0x00000000#32) (ix2 r q) = _
  rw [Ideal.matmul_plain_apply, zero_const, zero_add]

/-- The product of the mixing matrix with the left block; -/
theorem mixU_apply (A B : FVec Ideal S28x16x128 .bf16) (M : FVec Ideal S448x448 .bf16) (r : Fin 448) (s : Fin 128) :
    k0_pay417 (F := Ideal) A B M (ix2 r s)
      = ∑ k : Fin 448, M (ix2 r k) * A (ix3 (⟨k.val / 16, by omega⟩ : Fin 28) (⟨k.val % 16, by omega⟩ : Fin 16) s) := by
  refine (congrFun (show k0_pay417 (F := Ideal) A B M = extractStridedSlice S448x128 ![0, 0] (k0_pay416 (F := Ideal) A B M) slices_S448x256_o0_0_S448x128 from rfl) _).trans ?_
  refine (extractStridedSlice_apply (s := S448x256) (t := S448x128) ![0, 0] (k0_pay416 (F := Ideal) A B M) slices_S448x256_o0_0_S448x128 (ix2 r s) (ix2 r (⟨s.val, by omega⟩ : Fin 256)) (fun b => by
    match b with
    | ⟨0, _⟩ => show r.val = 0 + r.val; omega
    | ⟨1, _⟩ => show s.val = 0 + s.val; omega)).trans ?_
  refine (congrFun (show k0_pay416 (F := Ideal) A B M = matmul (F := Ideal) dot_S448x448_S448x256_S448x256_1_0_0_1_n_n none M (concatenate S448x256 1 [⟨S448x128, shapeCast S448x128 A shapeCasts_S28x16x128_S448x128⟩, ⟨S448x128, shapeCast S448x128 B shapeCasts_S28x16x128_S448x128⟩]
        concatenates_S448x128_S448x128_S448x256_d1) (constant (F := Ideal) S448x256 .f32 0x00000000#32) from rfl) _).trans ?_
  refine (mixC_apply M _ r _).trans ?_
  exact Finset.sum_congr rfl fun k _ => congrArg (M (ix2 r k) * ·) (cat_left A B k s)

/-- and with the right one. -/
theorem mixV_apply (A B : FVec Ideal S28x16x128 .bf16) (M : FVec Ideal S448x448 .bf16) (r : Fin 448) (s : Fin 128) :
    k0_pay418 (F := Ideal) A B M (ix2 r s)
      = ∑ k : Fin 448, M (ix2 r k) * B (ix3 (⟨k.val / 16, by omega⟩ : Fin 28) (⟨k.val % 16, by omega⟩ : Fin 16) s) := by
  refine (congrFun (show k0_pay418 (F := Ideal) A B M = extractStridedSlice S448x128 ![0, 128] (k0_pay416 (F := Ideal) A B M) slices_S448x256_o0_128_S448x128 from rfl) _).trans ?_
  refine (extractStridedSlice_apply (s := S448x256) (t := S448x128) ![0, 128] (k0_pay416 (F := Ideal) A B M) slices_S448x256_o0_128_S448x128 (ix2 r s) (ix2 r (⟨128 + s.val, by omega⟩ : Fin 256)) (fun b => by
    match b with
    | ⟨0, _⟩ => show r.val = 0 + r.val; omega
    | ⟨1, _⟩ => rfl)).trans ?_
  refine (congrFun (show k0_pay416 (F := Ideal) A B M = matmul (F := Ideal) dot_S448x448_S448x256_S448x256_1_0_0_1_n_n none M (concatenate S448x256 1 [⟨S448x128, shapeCast S448x128 A shapeCasts_S28x16x128_S448x128⟩, ⟨S448x128, shapeCast S448x128 B shapeCasts_S28x16x128_S448x128⟩]
        concatenates_S448x128_S448x128_S448x256_d1) (constant (F := Ideal) S448x256 .f32 0x00000000#32) from rfl) _).trans ?_
  refine (mixC_apply M _ r _).trans ?_
  exact Finset.sum_congr rfl fun k _ => congrArg (M (ix2 r k) * ·) (cat_right A B k s)

/-- The block stored in the lower half of a trip's positions; -/
theorem t2sum_apply (A B : FVec Ideal S28x16x128 .bf16) (M : FVec Ideal S448x448 .bf16) (a : Fin 28) (p : Fin 16) (s : Fin 128) :
    k0_pay419 (F := Ideal) A B M (ix3 a p s) = k0_pay417 (F := Ideal) A B M (ix2 (⟨16 * a.val + p.val, by omega⟩ : Fin 448) s) + k0_pay418 (F := Ideal) A B M (ix2 (⟨16 * a.val + p.val, by omega⟩ : Fin 448) s) := by
  refine (congrFun (shapeCast_self (shapeCast S28x16x128 (addf (k0_pay417 (F := Ideal) A B M) (k0_pay418 (F := Ideal) A B M)) shapeCasts_S448x128_S28x16x128) _) _).trans ?_
  refine (shapeCast_apply _ _ _ (ix2 (⟨16 * a.val + p.val, by omega⟩ : Fin 448) s) ?_).trans rfl
  rw [Shape.rowMajor_val_three, Shape.rowMajor_val_two]
  show (16 * a.val + p.val) * 128 + s.val = (a.val * 16 + p.val) * 128 + s.val
  omega

/-- and the one stored in the upper half. -/
theorem t2diff_apply (A B : FVec Ideal S28x16x128 .bf16) (M : FVec Ideal S448x448 .bf16) (a : Fin 28) (p : Fin 16) (s : Fin 128) :
    k0_pay420 (F := Ideal) A B M (ix3 a p s) = k0_pay417 (F := Ideal) A B M (ix2 (⟨16 * a.val + p.val, by omega⟩ : Fin 448) s) - k0_pay418 (F := Ideal) A B M (ix2 (⟨16 * a.val + p.val, by omega⟩ : Fin 448) s) := by
  refine (congrFun (shapeCast_self (shapeCast S28x16x128 (subf (k0_pay417 (F := Ideal) A B M) (k0_pay418 (F := Ideal) A B M)) shapeCasts_S448x128_S28x16x128) _) _).trans ?_
  refine (shapeCast_apply _ _ _ (ix2 (⟨16 * a.val + p.val, by omega⟩ : Fin 448) s) ?_).trans rfl
  rw [Shape.rowMajor_val_three, Shape.rowMajor_val_two]
  show (16 * a.val + p.val) * 128 + s.val = (a.val * 16 + p.val) * 128 + s.val
  omega

/-- The product of a row of the mixing matrix with a block of sixteen positions of all heads is the signed sum there. -/
theorem mixRow (x hd : ℕ → ℕ → EReal)
    (M : FVec Ideal S448x448 .bf16) (A : FVec Ideal S28x16x128 .bf16) (g : ℕ)
    (hM : ∀ r q : Fin 448, M (ix2 r q) = if neg (r.val % 16) (q.val % 16) then -(hd (r.val / 16) (q.val / 16)) else hd (r.val / 16) (q.val / 16))
    (hA : ∀ (a : Fin 28) (p : Fin 16) (s : Fin 128), A (ix3 a p s) = x s.val (512 * a.val + (16 * g + p.val)))
    (a : Fin 28) (p : Fin 16) (s : Fin 128) :
    ∑ k : Fin 448, M (ix2 (⟨16 * a.val + p.val, by omega⟩ : Fin 448) k) * A (ix3 (⟨k.val / 16, by omega⟩ : Fin 28) (⟨k.val % 16, by omega⟩ : Fin 16) s)
      = K4 x hd a.val s.val (16 * g + p.val) := by
  unfold K4
  rw [Finset.sum_range]
  refine Finset.sum_congr rfl fun k _ => ?_
  rw [hM, hA]
  have h1 : (16 * a.val + p.val) % 16 = p.val := by omega
  have h2 : (16 * a.val + p.val) / 16 = a.val := by omega
  have h3 : (16 * g + p.val) % 16 = p.val := by omega
  have h4 : (16 * g + p.val) / 16 = g := by omega
  dsimp only
  rw [h1, h2, h3, h4]

/-- One trip of the second loop puts the first five stages' values at its thirty-two positions of every head. -/
theorem t2_step (x hd : ℕ → ℕ → EReal)
    (c : Dev nD) (k : Fin k0_t2_loop.trips) (fT : BufOf (F := Ideal) c sT) (fM : BufOf (F := Ideal) c sM) (f : BufOf (F := Ideal) c sZ)
    (hT : ∀ (a : Fin 28) (p : Fin 512) (s : Fin 128), sT.view.read (Elt Ideal) fT (ix3 a p s) = x s.val (512 * a.val + p.val))
    (hM : ∀ r q : Fin 448, sM.view.read (Elt Ideal) fM (ix2 r q) = if neg (r.val % 16) (q.val % 16) then -(hd (r.val / 16) (q.val / 16)) else hd (r.val / 16) (q.val / 16))
    (h : ∀ (a : Fin 28) (p : Fin 512) (s : Fin 128), p.val < 32 * k.val → sZ.view.read (Elt Ideal) f (ix3 a p s) = K5 x hd a.val s.val p.val) :
    ∀ (a : Fin 28) (p : Fin 512) (s : Fin 128), p.val < 32 * (k.val + 1) → sZ.view.read (Elt Ideal) (t2New c k fT fM f) (ix3 a p s) = K5 x hd a.val s.val p.val := by
  intro a p s hp
  have hk : k.val < 16 := Nat.lt_of_lt_of_le k.isLt k0_t2_abs.2.1
  have hMm : ∀ r q : Fin 448, t2m c fM (ix2 r q) = if neg (r.val % 16) (q.val % 16) then -(hd (r.val / 16) (q.val / 16)) else hd (r.val / 16) (q.val / 16) := fun r q =>
    (readAt_unit sM.view _ fM (ix2 r q) (ix2 r q) rfl (fun b => by
      match b with
      | ⟨0, _⟩ => show r.val = 0 + r.val; omega
      | ⟨1, _⟩ => show q.val = 0 + q.val; omega)).trans (hM r q)
  have hA : ∀ (a : Fin 28) (p : Fin 16) (s : Fin 128), t2a c k fT (ix3 a p s) = x s.val (512 * a.val + (16 * (2 * k.val) + p.val)) := fun a p s =>
    (readAt_unit sT.view _ fT (ix3 a p s) (ix3 a (⟨16 * (2 * k.val) + p.val, by omega⟩ : Fin 512) s) (k0_off6_eq k) (fun b => by
      match b with
      | ⟨0, _⟩ => show a.val = 0 + a.val; omega
      | ⟨1, _⟩ => show 16 * (2 * k.val) + p.val = 32 * k.val + p.val; omega
      | ⟨2, _⟩ => show s.val = 0 + s.val; omega)).trans (hT _ _ _)
  have hB : ∀ (a : Fin 28) (p : Fin 16) (s : Fin 128), t2b c k fT (ix3 a p s) = x s.val (512 * a.val + (16 * (2 * k.val + 1) + p.val)) := fun a p s =>
    (readAt_unit sT.view _ fT (ix3 a p s) (ix3 a (⟨16 * (2 * k.val + 1) + p.val, by omega⟩ : Fin 512) s) (k0_off7_eq k) (fun b => by
      match b with
      | ⟨0, _⟩ => show a.val = 0 + a.val; omega
      | ⟨1, _⟩ => show 16 * (2 * k.val + 1) + p.val = 32 * k.val + 16 + p.val; omega
      | ⟨2, _⟩ => show s.val = 0 + s.val; omega)).trans (hT _ _ _)
  have hu : ∀ (a : Fin 28) (p : Fin 16) (s : Fin 128), k0_pay417 (t2a c k fT) (t2b c k fT) (t2m c fM) (ix2 (⟨16 * a.val + p.val, by omega⟩ : Fin 448) s)
      = K4 x hd a.val s.val (16 * (2 * k.val) + p.val) := fun a p s =>
    (mixU_apply _ _ _ _ s).trans (mixRow x hd (t2m c fM) (t2a c k fT) (2 * k.val) hMm hA a p s)
  have hv : ∀ (a : Fin 28) (p : Fin 16) (s : Fin 128), k0_pay418 (t2a c k fT) (t2b c k fT) (t2m c fM) (ix2 (⟨16 * a.val + p.val, by omega⟩ : Fin 448) s)
      = K4 x hd a.val s.val (16 * (2 * k.val + 1) + p.val) := fun a p s =>
    (mixV_apply _ _ _ _ s).trans (mixRow x hd (t2m c fM) (t2b c k fT) (2 * k.val + 1) hMm hB a p s)
  unfold t2New
  by_cases h1 : 32 * k.val + 16 ≤ p.val
  · refine (View.read_writes_cons_unit_of_mem sZ.view f _ _ _ (ix3 a p s) (ix3 (n0 := 28) (n1 := 16) (n2 := 128) a ⟨p.val - (32 * k.val + 16), by omega⟩ s) (k0_off7_eq k) (fun b => by
      match b with
      | ⟨0, _⟩ => show a.val = 0 + a.val; omega
      | ⟨1, _⟩ => show p.val = 32 * k.val + 16 + (p.val - (32 * k.val + 16)); omega
      | ⟨2, _⟩ => show s.val = 0 + s.val; omega)).trans ?_
    refine (t2diff_apply _ _ _ _ _ _).trans ?_
    rw [hu, hv]
    unfold K5 bf
    rw [if_neg (by omega)]
    congr 2 <;> (dsimp only; omega)
  · refine (View.read_writes_cons_unit_of_not_mem sZ.view f _ _ _ (ix3 a p s) (k0_off7_eq k) 1 (by left; show p.val < 32 * k.val + 16; omega)).trans ?_
    by_cases h0 : 32 * k.val ≤ p.val
    · refine (View.read_writes_cons_unit_of_mem sZ.view f _ _ _ (ix3 a p s) (ix3 (n0 := 28) (n1 := 16) (n2 := 128) a ⟨p.val - 32 * k.val, by omega⟩ s) (k0_off6_eq k) (fun b => by
        match b with
        | ⟨0, _⟩ => show a.val = 0 + a.val; omega
        | ⟨1, _⟩ => show p.val = 32 * k.val + (p.val - 32 * k.val); omega
        | ⟨2, _⟩ => show s.val = 0 + s.val; omega)).trans ?_
      refine (t2sum_apply _ _ _ _ _ _).trans ?_
      rw [hu, hv]
      unfold K5 bf
      rw [if_pos (by omega)]
      congr 2 <;> (dsimp only; omega)
    · refine (View.read_writes_cons_unit_of_not_mem sZ.view f _ _ _ (ix3 a p s) (k0_off6_eq k) 1 (by left; show p.val < 32 * k.val; omega)).trans ?_
      exact h a p s (by omega)

end Cert.KernelIdeal.HandV

end
-- ==== Proof.KernelIdealValueD.lean ====
/- What the last counted loop of `KernelIdeal` computes, over extended reals: the codes of one head's activations a trip, and their product
   with the unpacked weights added to the accumulator; and the scale made of the running maximum. -/
module

public import proofs.«01_k».proof.Proof.KernelIdealValueB
public import Idealize.ShloMosaic.Lib.IdealHost

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

/-! ## The nibbles -/

theorem nibLow (b : BitVec 8) : (BitVec.setWidth 32 b).setWidth 4 = (b >>> 0).setWidth 4 := by
  have : ∀ b : Fin 256, (BitVec.setWidth 32 (BitVec.ofFin b : BitVec 8)).setWidth 4 = ((BitVec.ofFin b : BitVec 8) >>> 0).setWidth 4 := by decide +kernel
  exact this b.toFin

theorem nibHigh (b : BitVec 8) : (IntOp.shrsi .vector (BitVec.setWidth 32 b) 4#32).setWidth 4 = (b >>> 4).setWidth 4 := by
  have : ∀ b : Fin 256, (IntOp.shrsi .vector (BitVec.setWidth 32 (BitVec.ofFin b : BitVec 8)) 4#32).setWidth 4 = ((BitVec.ofFin b : BitVec 8) >>> 4).setWidth 4 := by decide +kernel
  exact this b.toFin

/-- The weights of a chunk, unpacked. -/
def unpacked (b : IVec S256x4096 8) : FVec Ideal S512x4096 .bf16 :=
  sitofp (F := Ideal) .bf16 (trunci 4 (shapeCast S512x4096 (concatenate S256x2x4096 1
    [⟨S256x1x4096, shapeCast S256x1x4096 (extui 32 b natLt_8_32) shapeCasts_S256x4096_S256x1x4096⟩,
     ⟨S256x1x4096, shapeCast S256x1x4096 (shrsi (extui 32 b natLt_8_32) (broadcast S256x4096 4#32)) shapeCasts_S256x4096_S256x1x4096⟩]
    concatenates_S256x1x4096_S256x1x4096_S256x2x4096_d1) shapeCasts_S256x2x4096_S512x4096) natLt_4_32)

theorem unpacked_apply (b : IVec S256x4096 8) (p : Fin 512) (d : Fin 4096) : unpacked b (ix2 p d) = nib (b (ix2 (⟨p.val / 2, by omega⟩ : Fin 256) d)) p.val := by
  obtain ⟨C, hC⟩ : ∃ C : IVec S256x2x4096 32, C = concatenate S256x2x4096 1
    [⟨S256x1x4096, shapeCast S256x1x4096 (extui 32 b natLt_8_32) shapeCasts_S256x4096_S256x1x4096⟩,
     ⟨S256x1x4096, shapeCast S256x1x4096 (shrsi (extui 32 b natLt_8_32) (broadcast S256x4096 4#32)) shapeCasts_S256x4096_S256x1x4096⟩]
    concatenates_S256x1x4096_S256x1x4096_S256x2x4096_d1 := ⟨_, rfl⟩
  have e0 : unpacked b (ix2 p d) = ((((shapeCast S512x4096 C shapeCasts_S256x2x4096_S512x4096 (ix2 p d)).setWidth 4).toInt : ℝ) : EReal) := by rw [hC]; rfl
  have e1 : shapeCast S512x4096 C shapeCasts_S256x2x4096_S512x4096 (ix2 p d) = C (ix3 (⟨p.val / 2, by omega⟩ : Fin 256) (⟨p.val % 2, by omega⟩ : Fin 2) d) := by
    refine shapeCast_apply _ _ _ _ ?_
    rw [Shape.rowMajor_val_three, Shape.rowMajor_val_two]
    show (p.val / 2 * 2 + p.val % 2) * 4096 + d.val = p.val * 4096 + d.val
    omega
  have e2 : ∀ (v : IVec S256x4096 32) (i : Fin 256), shapeCast S256x1x4096 v shapeCasts_S256x4096_S256x1x4096 (ix3 i (⟨0, by decide⟩ : Fin 1) d) = v (ix2 i d) := by
    intro v i
    refine shapeCast_apply _ _ _ _ ?_
    rw [Shape.rowMajor_val_three, Shape.rowMajor_val_two]
    show i.val * 4096 + d.val = (i.val * 1 + 0) * 4096 + d.val
    omega
  rw [e0, e1]
  unfold nib
  by_cases h : p.val % 2 = 0
  · have e3 : C (ix3 (⟨p.val / 2, by omega⟩ : Fin 256) (⟨p.val % 2, by omega⟩ : Fin 2) d) = BitVec.setWidth 32 (b (ix2 (⟨p.val / 2, by omega⟩ : Fin 256) d)) := by
      rw [hC]
      refine (concatenate_pair_apply_left (t := S256x2x4096) (s₁ := S256x1x4096) (s₂ := S256x1x4096) 1 _ _ _ _ rfl
        (ix3 (n0 := 256) (n1 := 1) (n2 := 4096) ⟨p.val / 2, by omega⟩ ⟨0, by decide⟩ d) (fun a => by
        match a with
        | ⟨0, _⟩ => rfl
        | ⟨1, _⟩ => show 0 = p.val % 2; omega
        | ⟨2, _⟩ => rfl)).trans ?_
      exact e2 _ _
    rw [e3, h, nibLow]
  · have h1 : p.val % 2 = 1 := by omega
    have e3 : C (ix3 (⟨p.val / 2, by omega⟩ : Fin 256) (⟨p.val % 2, by omega⟩ : Fin 2) d)
        = IntOp.shrsi .vector (BitVec.setWidth 32 (b (ix2 (⟨p.val / 2, by omega⟩ : Fin 256) d))) 4#32 := by
      rw [hC]
      refine (concatenate_pair_apply_right (t := S256x2x4096) (s₁ := S256x1x4096) (s₂ := S256x1x4096) 1 _ _ _ _ rfl rfl
        (ix3 (n0 := 256) (n1 := 1) (n2 := 4096) ⟨p.val / 2, by omega⟩ ⟨0, by decide⟩ d) (fun a ha => by
        match a with
        | ⟨0, _⟩ => rfl
        | ⟨1, _⟩ => exact absurd rfl ha
        | ⟨2, _⟩ => rfl) (by show 0 + 1 = p.val % 2; omega)).trans ?_
      exact e2 _ _
    rw [e3, h1, nibHigh]

/-! ## The codes -/

/-- The rounded and clamped activations of a slab. -/
theorem codeVal_apply (sc : FVec Ideal S1x128 .f32) (z : FVec Ideal S1x512x128 .f32) (s : Fin 128) (p : Fin 512) :
    k0_pay406 (F := Ideal) sc z (ix2 s p)
      = clampRound (Ideal.div (z (ix3 (⟨0, by decide⟩ : Fin 1) p s) * inv) (sc (ix2 (⟨0, by decide⟩ : Fin 1) s))) := by
  have h : k0_pay406 (F := Ideal) sc z = transpose S128x512 [1, 0] (fun j => clampRound (Ideal.div (shapeCast S512x128 z shapeCasts_S1x512x128_S512x128 j * inv)
      (broadcastTo S512x128 sc broadcasts_S1x128_S512x128 j))) transposes_S512x128_p1_0_S128x512 := rfl
  refine (congrFun h _).trans ?_
  refine (transpose_apply _ _ _ _ (ix2 p s) (fun b => by
    match b with
    | ⟨0, _⟩ => rfl
    | ⟨1, _⟩ => rfl)).trans ?_
  have e1 : shapeCast S512x128 z shapeCasts_S1x512x128_S512x128 (ix2 p s) = z (ix3 (⟨0, by decide⟩ : Fin 1) p s) := by
    refine shapeCast_apply _ _ _ _ ?_
    rw [Shape.rowMajor_val_three, Shape.rowMajor_val_two]
    show (0 * 512 + p.val) * 128 + s.val = p.val * 128 + s.val
    omega
  have e2 : broadcastTo S512x128 sc broadcasts_S1x128_S512x128 (ix2 p s) = sc (ix2 (⟨0, by decide⟩ : Fin 1) s) :=
    broadcastTo_apply _ _ _ _ (fun a => by
      match a with
      | ⟨0, _⟩ => rfl
      | ⟨1, _⟩ => rfl)
  rw [e1, e2]

/-- The product of the codes' values with a chunk of the weights. -/
theorem proj_apply (L : FVec Ideal S128x512 .bf16) (R : FVec Ideal S512x4096 .bf16) (s : Fin 128) (d : Fin 4096) :
    matmul (F := Ideal) dot_S128x512_S512x4096_S128x4096_1_0_0_1_n_n none L R (constant (F := Ideal) S128x4096 .f32 0x00000000#32) (ix2 s d)
      = ∑ k : Fin 512, L (ix2 s k) * R (ix2 k d) := by
  show FloatOps.matmul (F := Ideal) (DotDims.plain 128 512 4096) none L R (constant (F := Ideal) S128x4096 .f32 0x00000000#32) (ix2 s d) = _
  rw [Ideal.matmul_plain_apply, zero_const, zero_add]

/-- The accumulator a trip stores. -/
theorem newAcc_apply (sc : FVec Ideal S1x128 .f32) (z : FVec Ideal S1x512x128 .f32) (b : IVec S256x4096 8) (g : FVec Ideal S128x4096 .f32) (s : Fin 128) (d : Fin 4096) :
    k0_pay3 (F := Ideal) (k0_pay408 (F := Ideal) sc z b g) (ix2 s d)
      = g (ix2 s d) + ∑ p : Fin 512, clampRound (Ideal.div (z (ix3 (⟨0, by decide⟩ : Fin 1) p s) * inv) (sc (ix2 (⟨0, by decide⟩ : Fin 1) s)))
          * nib (b (ix2 (⟨p.val / 2, by omega⟩ : Fin 256) d)) p.val := by
  have h1 : k0_pay3 (F := Ideal) (k0_pay408 (F := Ideal) sc z b g) = k0_pay408 (F := Ideal) sc z b g := shapeCast_self _ _
  have h2 : k0_pay408 (F := Ideal) sc z b g = fun j => g j
      + matmul (F := Ideal) dot_S128x512_S512x4096_S128x4096_1_0_0_1_n_n none (k0_pay406 (F := Ideal) sc z : FVec Ideal S128x512 .bf16) (unpacked b) (constant (F := Ideal) S128x4096 .f32 0x00000000#32) j := rfl
  refine (congrFun (h1.trans h2) _).trans ?_
  refine (congrArg (g (ix2 s d) + ·) (proj_apply _ _ s d)).trans ?_
  refine congrArg (g (ix2 s d) + ·) (Finset.sum_congr rfl fun p _ => ?_)
  rw [unpacked_apply]
  exact congrArg (· * _) (codeVal_apply sc z s p)

/-! ## One trip -/

section
variable (x hd : ℕ → ℕ → EReal) (w : ℕ → ℕ → BitVec 8) (c : Dev nD) (k : Fin k0_t4_loop.trips) (fZ : BufOf (F := Ideal) c sZ) (sc : FVec Ideal S1x128 .f32)
  (hZ : ∀ (a : Fin 28) (p : Fin 512) (s : Fin 128), sZ.view.read (Elt Ideal) fZ (ix3 a p s) = K9 x hd a.val s.val p.val)
  (hsc : ∀ s : Fin 128, sc (ix2 (⟨0, by decide⟩ : Fin 1) s) = scale x hd s.val)

include hZ in
theorem t4z_apply (p : Fin 512) (s : Fin 128) : t4z c k fZ (ix3 (⟨0, by decide⟩ : Fin 1) p s) = K9 x hd k.val s.val p.val :=
  (readAt_unit sZ.view _ fZ _ (ix3 (⟨k.val, Nat.lt_of_lt_of_le k.isLt k0_t4_abs.2.1⟩ : Fin 28) p s) (k0_off72_eq k) (fun b => by
    match b with
    | ⟨0, _⟩ => show k.val = k.val + 0; omega
    | ⟨1, _⟩ => show p.val = 0 + p.val; omega
    | ⟨2, _⟩ => show s.val = 0 + s.val; omega)).trans (hZ _ _ _)

include hZ hsc in
theorem qv_apply (p : Fin 512) (s : Fin 128) :
    clampRound (Ideal.div (t4z c k fZ (ix3 (⟨0, by decide⟩ : Fin 1) p s) * inv) (sc (ix2 (⟨0, by decide⟩ : Fin 1) s))) = qv x hd s.val (512 * k.val + p.val) := by
  rw [t4z_apply x hd c k fZ hZ, hsc, quotient9 x hd _ _ _ (Nat.lt_of_lt_of_le k.isLt k0_t4_abs.2.1) p.isLt]
  unfold qv Y
  rw [show (512 * k.val + p.val) / 512 = k.val by omega, show (512 * k.val + p.val) % 512 = p.val by omega]

/-- The weight rows a trip reads, once landed. -/
theorem t4w_apply (fs : BufOf (F := Ideal) c mW) (fd : BufOf (F := Ideal) c sW) (hW : ∀ (i : Fin 7168) (d : Fin 4096), mW.view.read (Elt Ideal) fs (ix2 i d) = w i.val d.val)
    (i : Fin 256) (d : Fin 4096) : t4w c k fs fd (ix2 i d) = w (256 * k.val + i.val) d.val := by
  have hk : k.val < 28 := Nat.lt_of_lt_of_le k.isLt k0_t4_abs.2.1
  refine (readAt_unit sW.view _ (landed c fs fd ⟨k.val, lt_of_lt_of_eq k.isLt trips4⟩) _ (ix2 (⟨256 * k.val + i.val, by omega⟩ : Fin 7168) d) (k0_off76_eq k) (fun b => by
    match b with
    | ⟨0, _⟩ => rfl
    | ⟨1, _⟩ => show d.val = 0 + d.val; omega)).trans ?_
  refine (View.read_writes_cons_unit_of_mem sW.view fd (k0_off75_inb k) (View.readAt (Elt Ideal) mW.view (Rect.unit (s := S7168x4096) (k0_off75 k) S256x4096.size (k0_off75_inb k)).toLoadRect fs) []
    (ix2 (⟨256 * k.val + i.val, by omega⟩ : Fin 7168) d) (ix2 (n0 := 256) (n1 := 4096) i d) (k0_off75_eq k) (fun b => by
    match b with
    | ⟨0, _⟩ => rfl
    | ⟨1, _⟩ => show d.val = 0 + d.val; omega)).trans ?_
  refine (readAt_unit mW.view _ fs _ (ix2 (⟨256 * k.val + i.val, by omega⟩ : Fin 7168) d) (k0_off75_eq k) (fun b => by
    match b with
    | ⟨0, _⟩ => rfl
    | ⟨1, _⟩ => show d.val = 0 + d.val; omega)).trans ?_
  exact hW _ _

include hZ hsc in
/-- One trip of the last loop writes head `k`'s codes, -/
theorem t4_codes (arg5 : Memref sig .tc .vmem S128x14336 .i8) (f : BufOf (F := Ideal) c arg5)
    (h : ∀ (s : Fin 128) (n : Fin 14336), n.val < 512 * k.val → arg5.view.read (Elt Ideal) f (ix2 s n) = Ideal.fptosi 8 (qv x hd s.val n.val)) :
    ∀ (s : Fin 128) (n : Fin 14336), n.val < 512 * (k.val + 1) → arg5.view.read (Elt Ideal) (t4New5 c arg5 k fZ sc f) (ix2 s n) = Ideal.fptosi 8 (qv x hd s.val n.val) := by
  intro s n hn
  unfold t4New5
  by_cases h0 : 512 * k.val ≤ n.val
  · refine (View.read_writes_cons_unit_of_mem arg5.view f _ _ _ (ix2 s n) (ix2 (n0 := 128) (n1 := 512) s ⟨n.val - 512 * k.val, by omega⟩) (k0_off73_eq k) (fun b => by
      match b with
      | ⟨0, _⟩ => show s.val = 0 + s.val; omega
      | ⟨1, _⟩ => show n.val = 512 * k.val + (n.val - 512 * k.val); omega)).trans ?_
    show Ideal.fptosi 8 (k0_pay406 (F := Ideal) sc (t4z c k fZ) (ix2 s (⟨n.val - 512 * k.val, by omega⟩ : Fin 512))) = _
    refine congrArg (Ideal.fptosi 8) ?_
    refine (codeVal_apply sc _ s _).trans ?_
    refine (qv_apply x hd c k fZ sc hZ hsc _ s).trans ?_
    congr 1
    show 512 * k.val + (n.val - 512 * k.val) = n.val
    omega
  · refine (View.read_writes_cons_unit_of_not_mem arg5.view f _ _ _ (ix2 s n) (k0_off73_eq k) 1 (by left; show n.val < 512 * k.val; omega)).trans ?_
    exact h s n (by omega)

include hZ hsc in
/-- and adds its rows of the projection to the accumulator. -/
theorem t4_acc (fs : BufOf (F := Ideal) c mW) (fd : BufOf (F := Ideal) c sW) (hW : ∀ (i : Fin 7168) (d : Fin 4096), mW.view.read (Elt Ideal) fs (ix2 i d) = w i.val d.val)
    (g : BufOf (F := Ideal) c sA)
    (h : ∀ (s : Fin 128) (d : Fin 4096), sA.view.read (Elt Ideal) g (ix2 s d) = acc x hd w (512 * k.val) s.val d.val) :
    ∀ (s : Fin 128) (d : Fin 4096), sA.view.read (Elt Ideal) (t4NewA c k fZ fs fd sc g) (ix2 s d) = acc x hd w (512 * (k.val + 1)) s.val d.val := by
  intro s d
  unfold t4NewA
  refine (View.read_writes_cons_unit_of_mem sA.view g _ _ _ (ix2 s d) (ix2 (n0 := 128) (n1 := 4096) s d) rfl (fun b => by
    match b with
    | ⟨0, _⟩ => show s.val = 0 + s.val; omega
    | ⟨1, _⟩ => show d.val = 0 + d.val; omega)).trans ?_
  refine (newAcc_apply sc (t4z c k fZ) (t4w c k fs fd) (t4a c g) s d).trans ?_
  have e1 : t4a c g (ix2 s d) = acc x hd w (512 * k.val) s.val d.val :=
    (readAt_unit sA.view _ g (ix2 s d) (ix2 s d) rfl (fun b => by
      match b with
      | ⟨0, _⟩ => show s.val = 0 + s.val; omega
      | ⟨1, _⟩ => show d.val = 0 + d.val; omega)).trans (h s d)
  rw [e1]
  have e2 : acc x hd w (512 * (k.val + 1)) s.val d.val = acc x hd w (512 * k.val) s.val d.val
      + ∑ p ∈ Finset.range 512, qv x hd s.val (512 * k.val + p) * nib (w ((512 * k.val + p) / 2) d.val) (512 * k.val + p) := by
    unfold acc
    rw [show 512 * (k.val + 1) = 512 * k.val + 512 by ring, Finset.sum_range_add]
  rw [e2, Finset.sum_range]
  refine congrArg (acc x hd w (512 * k.val) s.val d.val + ·) (Finset.sum_congr rfl fun p _ => ?_)
  rw [qv_apply x hd c k fZ sc hZ hsc, t4w_apply w c k fs fd hW]
  have e3 : (512 * k.val + p.val) / 2 = 256 * k.val + p.val / 2 := by omega
  have e4 : (512 * k.val + p.val) % 2 = p.val % 2 := by omega
  unfold nib
  rw [e3, e4]
end

/-! ## The scale -/

/-- The scale the kernel makes of the running maximum over the eight lanes of rows. -/
theorem scale_apply (x hd : ℕ → ℕ → EReal) (m : FVec Ideal S8x128 .f32)
    (hm : ∀ (r : Fin 8) (s : Fin 128) (b : EReal), m (ix2 r s) ≤ b ↔ 0 ≤ b ∧ ∀ a < 28, ∀ p < 512, p % 8 = r.val → max (Z9 x hd a s.val p) (-(Z9 x hd a s.val p)) ≤ b) (s : Fin 128) :
    k0_pay1 (F := Ideal) (k0_pay425 (F := Ideal) m) (FloatOps.ofBits (F := Ideal) .f32 0x3C08D677#32) (ix2 (⟨0, by decide⟩ : Fin 1) s) = scale x hd s.val := by
  have h1 : k0_pay1 (F := Ideal) (k0_pay425 (F := Ideal) m) (FloatOps.ofBits (F := Ideal) .f32 0x3C08D677#32) (ix2 (⟨0, by decide⟩ : Fin 1) s)
      = scaleOf (k0_pay425 (F := Ideal) m (ix2 (⟨0, by decide⟩ : Fin 1) s) * inv) := by
    obtain ⟨y, hy⟩ : ∃ y : EReal, y = k0_pay425 (F := Ideal) m (ix2 (⟨0, by decide⟩ : Fin 1) s) * inv := ⟨_, rfl⟩
    have e : k0_pay1 (F := Ideal) (k0_pay425 (F := Ideal) m) (FloatOps.ofBits (F := Ideal) .f32 0x3C08D677#32) (ix2 (⟨0, by decide⟩ : Fin 1) s)
        = Scalar.select (FloatOps.cmpf (F := Ideal) (φ := .f32) .oeq (k0_pay425 (F := Ideal) m (ix2 (⟨0, by decide⟩ : Fin 1) s) * inv) (Ideal.ofBits .f32 0x00000000#32)) (Ideal.ofBits .f32 0x3F800000#32)
          (Ideal.div (k0_pay425 (F := Ideal) m (ix2 (⟨0, by decide⟩ : Fin 1) s) * inv) (Ideal.ofBits .f32 0x40E00000#32)) := rfl
    rw [e, ← hy, Ideal.ofBits_zero_f32, Idealize.ShloMosaic.Ideal.ofBits_one_f32]
    unfold scaleOf
    by_cases h0 : y = 0
    · rw [if_pos h0, show FloatOps.cmpf (F := Ideal) (φ := .f32) .oeq y 0 = 1#1 by
        show Ideal.cmp .oeq y 0 = 1#1
        simp [Ideal.cmp, h0]]
      rfl
    · rw [if_neg h0, show FloatOps.cmpf (F := Ideal) (φ := .f32) .oeq y 0 = 0#1 by
        show Ideal.cmp .oeq y 0 = 0#1
        simp [Ideal.cmp, h0]]
      rfl
  rw [h1]
  unfold scale
  rw [← amax_eq x hd s.val (k0_pay425 (F := Ideal) m (ix2 (⟨0, by decide⟩ : Fin 1) s))]
  intro b
  have h2 : k0_pay425 (F := Ideal) m (ix2 (⟨0, by decide⟩ : Fin 1) s)
      = (Finset.univ : Finset (Fin 8)).fold max (FloatOps.ofBits (F := Ideal) .f32 0xFF800000#32) (fun r => m (ix2 r s)) := by
    refine (congrFun (show k0_pay425 (F := Ideal) m = shapeCast S1x128 (multiReduction (F := Ideal) (φ := .f32) .maximumf [0] S128 m 0xFF800000#32 reduces_S8x128_S128 (.inl rfl) rfl)
      shapeCasts_S128_S1x128 from rfl) _).trans ?_
    refine (shapeCast_apply _ _ _ (ix1 s) ?_).trans ?_
    · rw [Shape.rowMajor_val_one, Shape.rowMajor_val_two]
      show s.val = 0 * 128 + s.val
      omega
    refine (Ideal.multiReduction_maximumf_single (a := (0 : Fin 2)) m _ reduces_S8x128_S128 (.inl rfl) rfl (ix1 s)).trans ?_
    refine congrArg (fun f => Finset.fold max (FloatOps.ofBits (F := Ideal) .f32 0xFF800000#32) f Finset.univ) (funext fun r => congrArg m (funext fun a => Fin.ext ?_))
    match a with
    | ⟨0, _⟩ => rfl
    | ⟨1, _⟩ => rfl
  have h3 : FloatOps.ofBits (F := Ideal) .f32 0xFF800000#32 = (⊥ : EReal) := by
    show Ideal.ofBits .f32 0xFF800000#32 = ⊥
    simp [Ideal.ofBits, Ideal.ieee]
  rw [h2, Finset.fold_max_le, h3]
  constructor
  · rintro ⟨-, h⟩
    refine ⟨((hm ⟨0, by decide⟩ s b).mp (h _ (Finset.mem_univ _))).1, fun a ha p hp => ?_⟩
    exact ((hm ⟨p % 8, Nat.mod_lt _ (by decide)⟩ s b).mp (h _ (Finset.mem_univ _))).2 a ha p hp rfl
  · rintro ⟨h0, h⟩
    exact ⟨bot_le, fun r _ => (hm r s b).mpr ⟨h0, fun a ha p hp _ => h a ha p hp⟩⟩

end Cert.KernelIdeal.HandV

end
-- ==== Proof.KernelIdealValueE.lean ====
/- What the straight-line parts of `KernelIdeal`'s body leave in its buffers, over extended reals. -/
module

public import proofs.«01_k».proof.Proof.KernelIdealValueC
public import proofs.«01_k».proof.Proof.KernelIdealValueD

@[expose] public section

set_option maxRecDepth 16384

noncomputable section

namespace Cert.KernelIdeal.HandV

open Cert.KernelIdeal Cert.KernelIdeal.Gen Cert.KernelIdeal.Hand
open Idealize.ShloMosaic Idealize.ShloMosaic.ValueIdx
open Cert.Spec

/-- A read of a whole matrix is the view's read. -/
theorem readAt_full {F : FTy → Type} {n0 n1 : ℕ} {e : EltTy} {sp : Space} (v : View sig .tc sp ⟨2, ![n0, n1]⟩ e)
    (inb : ∀ a, (![0, 0] : Fin 2 → ℕ) a + (![n0, n1] : Fin 2 → ℕ) a ≤ (![n0, n1] : Fin 2 → ℕ) a) (f : v.ty.Contents (Elt F)) (i : Fin n0) (j : Fin n1) :
    View.readAt (Elt F) v (Rect.unit (s := ⟨2, ![n0, n1]⟩) ![0, 0] ![n0, n1] inb).toLoadRect f (ix2 i j) = v.read (Elt F) f (ix2 i j) :=
  readAt_unit v inb f (ix2 i j) (ix2 i j) rfl (fun b => by
    match b with
    | ⟨0, _⟩ => show i.val = 0 + i.val; omega
    | ⟨1, _⟩ => show j.val = 0 + j.val; omega)

/-- A store of a whole matrix reads back. -/
theorem read_full {F : FTy → Type} {n0 n1 : ℕ} {e : EltTy} {sp : Space} (v : View sig .tc sp ⟨2, ![n0, n1]⟩ e)
    (inb : ∀ a, (![0, 0] : Fin 2 → ℕ) a + (![n0, n1] : Fin 2 → ℕ) a ≤ (![n0, n1] : Fin 2 → ℕ) a) (f : v.ty.Contents (Elt F))
    (w : (⟨2, ![n0, n1]⟩ : Shape).Idx → Elt F e) (i : Fin n0) (j : Fin n1) :
    v.read (Elt F) (v.writes (Elt F) f [⟨Rect.unit (s := ⟨2, ![n0, n1]⟩) ![0, 0] ![n0, n1] inb, w⟩]) (ix2 i j) = w (ix2 i j) :=
  View.read_writes_cons_unit_of_mem v f inb w [] (ix2 i j) (ix2 i j) rfl (fun b => by
    match b with
    | ⟨0, _⟩ => show i.val = 0 + i.val; omega
    | ⟨1, _⟩ => show j.val = 0 + j.val; omega)

/-- The activations once copied in. -/
theorem landX (c : Dev nD) (g : BufOf (F := Ideal) c sX) (D : S128x14336.Idx → Elt Ideal .bf16) (s : Fin 128) (q : Fin 14336) :
    sX.view.read (Elt Ideal) (sX.view.writes (Elt Ideal) g [⟨Rect.whole S128x14336, D⟩]) (ix2 s q) = D (ix2 s q) :=
  View.read_writes_cons_unit_of_mem sX.view g _ D [] (ix2 s q) (ix2 s q) rfl (fun b => by
    match b with
    | ⟨0, _⟩ => show s.val = 0 + s.val; omega
    | ⟨1, _⟩ => show q.val = 0 + q.val; omega)

/-- The mixing matrix once stored. -/
theorem landM (c : Dev nD) (g : BufOf (F := Ideal) c sM) (had : FVec Ideal S28x28 .bf16) (hd : ℕ → ℕ → EReal) (h : ∀ a b : Fin 28, had (ix2 a b) = hd a.val b.val)
    (r q : Fin 448) :
    sM.view.read (Elt Ideal) (sM.view.writes (Elt Ideal) g [⟨Rect.unit (s := S448x448) ![0, 0] S448x448.size inb_S448x448_S448x448_0_0,
        k0_pay414 had selL (k0_pay413 (F := Ideal)) (constant S448x28 .f32 0x00000000#32)⟩]) (ix2 r q)
      = if neg (r.val % 16) (q.val % 16) then -(hd (r.val / 16) (q.val / 16)) else hd (r.val / 16) (q.val / 16) := by
  refine (read_full sM.view _ g _ r q).trans ((mix_apply had r q).trans ?_)
  rw [h]

/-- The zeroed accumulator. -/
theorem landA (x hd : ℕ → ℕ → EReal) (w : ℕ → ℕ → BitVec 8) (c : Dev nD) (g : BufOf (F := Ideal) c sA) (s : Fin 128) (d : Fin 4096) :
    sA.view.read (Elt Ideal) (sA.view.writes (Elt Ideal) g [⟨Rect.unit (s := S128x4096) ![0, 0] S128x4096.size inb_S128x4096_S128x4096_0_0, k0_pay2 (F := Ideal)⟩]) (ix2 s d)
      = acc x hd w (512 * 0) s.val d.val := by
  refine (read_full sA.view _ g _ s d).trans ?_
  refine (congrFun (shapeCast_self (broadcast S128x4096 (Scalar.ofBits (F := Ideal) .f32 0x00000000#32)) _) _).trans ?_
  refine (Ideal.ofBits_zero_f32 : Ideal.ofBits .f32 0x00000000#32 = 0).trans ?_
  unfold acc
  simp

/-- The output the body stores. -/
theorem out_apply (v205 : FVec Ideal S1x128 .f32) (cst : Ideal .f32) (g : FVec Ideal S128x4096 .f32) (ws : FVec Ideal S1x4096 .f32) (s : Fin 128) (d : Fin 4096) :
    k0_pay4 (F := Ideal) v205 cst g ws (ix2 s d)
      = g (ix2 s d) * k0_pay1 (F := Ideal) v205 cst (ix2 (⟨0, by decide⟩ : Fin 1) s) * ws (ix2 (⟨0, by decide⟩ : Fin 1) d) := by
  obtain ⟨sc, hsc⟩ : ∃ sc : FVec Ideal S1x128 .f32, sc = k0_pay1 (F := Ideal) v205 cst := ⟨_, rfl⟩
  have h : k0_pay4 (F := Ideal) v205 cst g ws = fun j => g j
      * broadcastTo S128x4096 (extractStridedSlice S128x1 ![0, 0] (transpose S128x8 [1, 0] (broadcastTo S8x128 (shapeCast S1x128 sc shapeCasts_S1x128_S1x128) broadcasts_S1x128_S8x128)
          transposes_S8x128_p1_0_S128x8) slices_S128x8_o0_0_S128x1) broadcasts_S128x1_S128x4096 j
      * broadcastTo S128x4096 (shapeCast S1x4096 ws shapeCasts_S1x4096_S1x4096) broadcasts_S1x4096_S128x4096 j := by rw [hsc]; rfl
  refine (congrFun h _).trans ?_
  rw [← hsc, shapeCast_self, shapeCast_self]
  have e1 : broadcastTo S128x4096 (extractStridedSlice S128x1 ![0, 0] (transpose S128x8 [1, 0] (broadcastTo S8x128 sc broadcasts_S1x128_S8x128)
          transposes_S8x128_p1_0_S128x8) slices_S128x8_o0_0_S128x1) broadcasts_S128x1_S128x4096 (ix2 s d) = sc (ix2 (⟨0, by decide⟩ : Fin 1) s) := by
    refine (broadcastTo_apply _ _ _ (ix2 s (⟨0, by decide⟩ : Fin 1)) (fun a => by
      match a with
      | ⟨0, _⟩ => rfl
      | ⟨1, _⟩ => rfl)).trans ?_
    refine (extractStridedSlice_apply (s := S128x8) (t := S128x1) ![0, 0] _ _ _ (ix2 (n0 := 128) (n1 := 8) s ⟨0, by decide⟩) (fun a => by
      match a with
      | ⟨0, _⟩ => show s.val = 0 + s.val; omega
      | ⟨1, _⟩ => rfl)).trans ?_
    refine (transpose_apply _ _ _ _ (ix2 (n0 := 8) (n1 := 128) ⟨0, by decide⟩ s) (fun b => by
      match b with
      | ⟨0, _⟩ => rfl
      | ⟨1, _⟩ => rfl)).trans ?_
    exact broadcastTo_apply _ _ _ _ (fun a => by
      match a with
      | ⟨0, _⟩ => rfl
      | ⟨1, _⟩ => rfl)
  have e2 : broadcastTo S128x4096 ws broadcasts_S1x4096_S128x4096 (ix2 s d) = ws (ix2 (⟨0, by decide⟩ : Fin 1) d) :=
    broadcastTo_apply _ _ _ _ (fun a => by
      match a with
      | ⟨0, _⟩ => rfl
      | ⟨1, _⟩ => rfl)
  exact congrArg₂ (· * ·) (congrArg (g (ix2 s d) * ·) e1) e2

end Cert.KernelIdeal.HandV

end
-- ==== Proof.KernelIdealRun.lean ====
/- The body of `KernelIdeal` runs and leaves the specified values in its results, over extended reals. -/
module

public import proofs.«01_k».proof.Proof.KernelIdealValueE

@[expose] public section

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Spec

local notation "𝕄" => MT nD τ sig Unit (Elt Ideal) ℕ (Pipeline.UD sig nD τ) ℕ

section
variable (x hd : ℕ → ℕ → EReal) (w : ℕ → ℕ → BitVec 8) (ws : ℕ → EReal)

/-- What the three results hold: the output, -/
def Q4v (f : S128x4096.Idx → Elt Ideal .bf16) : Prop := ∀ (s : Fin 128) (d : Fin 4096), f (ix2 s d) = out x hd w ws s.val d.val
/-- the codes, -/
def Q5v (f : S128x14336.Idx → Elt Ideal .i8) : Prop := ∀ (s : Fin 128) (n : Fin 14336), f (ix2 s n) = Ideal.fptosi 8 (qv x hd s.val n.val)
/-- and the scales. -/
def Q6v (f : S1x128.Idx → Elt Ideal .f32) : Prop := ∀ s : Fin 128, f (ix2 (⟨0, by decide⟩ : Fin 1) s) = scale x hd s.val

/-- The transposed activations after `k` trips; -/
def P1 (c : Dev nD) (k : ℕ) (f : BufOf (F := Ideal) c sT) : Prop :=
  ∀ (a : Fin 28) (p : Fin 512) (s : Fin 128), a.val < k → sT.view.read (Elt Ideal) f (ix3 a p s) = x s.val (512 * a.val + p.val)
/-- the rotated activations after `k` trips of the second loop, -/
def P2 (c : Dev nD) (k : ℕ) (f : BufOf (F := Ideal) c sZ) : Prop :=
  ∀ (a : Fin 28) (p : Fin 512) (s : Fin 128), p.val < 32 * k → sZ.view.read (Elt Ideal) f (ix3 a p s) = K5 x hd a.val s.val p.val
/-- and of the third, with the running maximum; -/
def P3 (c : Dev nD) (k : ℕ) (acc : FVec Ideal S8x128 .f32) (f : BufOf (F := Ideal) c sZ) : Prop :=
  (∀ (a : Fin 28) (p : Fin 512) (s : Fin 128), sZ.view.read (Elt Ideal) f (ix3 a p s) = if a.val < k then K9 x hd a.val s.val p.val else K5 x hd a.val s.val p.val)
  ∧ (∀ (r : Fin 8) (s : Fin 128) (b : EReal), acc (ix2 r s) ≤ b ↔ 0 ≤ b ∧ ∀ a < k, ∀ p < 512, p % 8 = r.val → max (K9 x hd a s.val p) (-(K9 x hd a s.val p)) ≤ b)
/-- the codes and the accumulator after `k` trips of the last. -/
def P4 (c : Dev nD) (arg5 : Memref sig .tc .vmem S128x14336 .i8) (k : ℕ) (f : BufOf (F := Ideal) c arg5) (g : BufOf (F := Ideal) c sA) : Prop :=
  (∀ (s : Fin 128) (n : Fin 14336), n.val < 512 * k → arg5.view.read (Elt Ideal) f (ix2 s n) = Ideal.fptosi 8 (qv x hd s.val n.val))
  ∧ (∀ (s : Fin 128) (d : Fin 4096), sA.view.read (Elt Ideal) g (ix2 s d) = acc x hd w (512 * k) s.val d.val)

set_option maxHeartbeats 2000000 in
/-- THE BODY'S VALUES. -/
theorem body_value (c : Dev nD) (X1 : S28x28.Idx → Elt Ideal .f32) (X3 : S1x4096.Idx → Elt Ideal .f32) (fx : BufOf (F := Ideal) c mX) (fs : BufOf (F := Ideal) c mW)
    (hX : ∀ (s : Fin 128) (n : Fin 14336), mX.view.read (Elt Ideal) fx (ix2 s n) = x s.val n.val)
    (hH : ∀ a b : Fin 28, X1 (ix2 a b) = hd a.val b.val)
    (hW : ∀ (i : Fin 7168) (d : Fin 4096), mW.view.read (Elt Ideal) fs (ix2 i d) = w i.val d.val)
    (hS : ∀ d : Fin 4096, X3 (ix2 (⟨0, by decide⟩ : Fin 1) d) = ws d.val) :
    BodyRuns c X1 X3 fx fs (Q4v x hd w ws) (Q5v x hd) (Q6v x hd) := by
  intro arg1 harg1 arg3 harg3 arg4 harg4 arg5 harg5 arg6 harg6 f1 f3 fd W K h1 h3
  have hv113 : ∀ a b : Fin 28, k0_pay409 (F := Ideal) (View.readAt (Elt Ideal) arg1.view (Rect.unit (s := S28x28) ![0, 0] S28x28.size inb_S28x28_S28x28_0_0).toLoadRect f1) (ix2 a b)
      = hd a.val b.val := fun a b => (readAt_full arg1.view _ f1 a b).trans ((congrFun h1 _).trans (hH a b))
  simp only [cc0_hadamard_int4_down_proj_eq_skeleton]; unfold cc0_hadamard_int4_down_proj_skel
  iintro ⟨H1, H3, ⟨%f4, H4⟩, ⟨%f5, H5⟩, ⟨%f6, H6⟩, ⟨%gX, HX⟩, ⟨%gT, HT⟩, ⟨%gM, HM⟩, ⟨%gZ, HZ⟩, ⟨%gA, HA⟩, HS, Hx, HR, HO, Hk⟩
  sl_open_parts
  simp only [Prog.bind_assoc]
  sl_exec
  iterate 28
    iapply (issue_step c fs fd _ ?hn _ _ ?ho ?ho') $$ HR
    case hn => decide
    case ho => rw [k0_off75_eq]; rfl
    case ho' => rw [k0_off74_eq]
    iintro HR
  dsimp only [prog_ret_bind, prog_bind]
  sl_exec
  iapply (t1_run c arg1 harg1 arg3 harg3 arg4 harg4 arg5 harg5 arg6 harg6 _ _ (P1 x c) ?hP1 _ _ _ _ ?h01) $$ [HX HT]
  rotate_left 2
  · isplitl [HX]; · iexact HX
    iexact HT
  case hP1 => exact fun k f h => t1_step x c k _ f (fun s q => (landX c _ _ s q).trans (hX s q)) h
  case h01 => exact fun a p s h => absurd h (Nat.not_lt_zero _)
  iintro %_ ⟨HX, ⟨%fT, %hT, HT⟩⟩
  dsimp only [prog_ret_bind, prog_bind]
  iapply (t2_run c arg1 harg1 arg3 harg3 arg4 harg4 arg5 harg5 arg6 harg6 _ _ _ (P2 x hd c) ?hP2 _ _ _ _ ?h02) $$ [HT HM HZ]
  rotate_left 2
  · isplitl [HT]; · iexact HT
    isplitl [HM]; · iexact HM
    iexact HZ
  case hP2 => exact fun k f h => t2_step x hd c k fT _ f (fun a p s => hT a p s a.isLt) (fun r q => landM c _ _ hd hv113 r q) h
  case h02 => exact fun a p s h => absurd h (Nat.not_lt_zero _)
  iintro %_ ⟨HT, HM, ⟨%fZ, %hZ, HZ⟩⟩
  dsimp only [prog_ret_bind, prog_bind]
  iapply (t3_run c arg1 harg1 arg3 harg3 arg4 harg4 arg5 harg5 arg6 harg6 _ (P3 x hd c) ?hP3 _ _ _ _ _ ?h03) $$ HZ
  case hP3 => exact fun k acc f h => t3_step x hd c k f acc h.1 h.2
  case h03 =>
    refine ⟨fun a p s => (hZ a p s p.isLt).trans (if_neg (Nat.not_lt_zero _)).symm, fun r s b => ?_⟩
    have e : ∀ j, k0_pay421 (F := Ideal) j = (0 : EReal) := fun j => Ideal.ofBits_zero_f32
    refine Iff.trans (show _ ↔ (0 : EReal) ≤ b from ?_) ⟨fun h => ⟨h, fun a ha => absurd ha (Nat.not_lt_zero _)⟩, fun h => h.1⟩
    exact iff_of_eq (congrArg (· ≤ b) (e _))
  iintro %v203 ⟨%fZ', %hZ', HZ⟩
  dsimp only [prog_ret_bind, prog_bind]
  have hsc := scale_apply x hd v203 (fun r s b => (hZ'.2 r s b).trans (by simp only [abs9]))
  have hZ9 : ∀ (a : Fin 28) (p : Fin 512) (s : Fin 128), sZ.view.read (Elt Ideal) fZ' (ix3 a p s) = K9 x hd a.val s.val p.val := fun a p s => (hZ'.1 a p s).trans (if_pos a.isLt)
  sl_exec
  iapply (t4_run c arg1 harg1 arg3 harg3 arg4 harg4 arg5 harg5 arg6 harg6 _ fs fd _ _ (P4 x hd w c arg5) _ _ ?hP4 ?h04) $$ [HZ H5 HA HR HO]
  rotate_left 2
  · isplitl [HZ]; · iexact HZ
    isplitl [H5 HA]
    · isplitl [H5]; · iexact H5
      iexact HA
    isplitl [HR]; · iapply (Entails.of_eq (ready_done c fs fd)); iexact HR
    iexists _; iexact HO
  case hP4 => exact fun k f g h => ⟨t4_codes x hd c k fZ' _ hZ9 hsc arg5 f h.1, t4_acc x hd w c k fZ' _ hZ9 hsc fs fd hW g h.2⟩
  case h04 => exact ⟨fun s n h => absurd h (Nat.not_lt_zero _), fun s d => landA x hd w c _ s d⟩
  iintro %_ ⟨HZ, ⟨%f5', %f12, %h4, H5, HA⟩, HR, ⟨%W', HO⟩⟩
  sl_exec
  sl_step
  iapply Hk
  isplitl [H1]; · iexact H1
  isplitl [H3]; · iexact H3
  isplitl [H4]
  · iexists _; isplitr; swap; · iexact H4
    ipureintro
    intro s d
    refine (read_full arg4.view _ f4 _ s d).trans ((out_apply _ _ _ _ s d).trans ?_)
    unfold out
    exact congrArg₂ (· * ·) (congrArg₂ (· * ·) ((readAt_full sA.view _ f12 s d).trans (h4.2 s d)) (hsc s))
      ((readAt_full arg3.view _ f3 (⟨0, by decide⟩ : Fin 1) d).trans ((congrFun h3 _).trans (hS d)))
  isplitl [H5]
  · iexists _; isplitr; swap; · iexact H5
    ipureintro
    exact fun s n => h4.1 s n n.isLt
  isplitl [H6]
  · iexists _; isplitr; swap; · iexact H6
    ipureintro
    exact fun s => (read_full arg6.view _ _ _ (⟨0, by decide⟩ : Fin 1) s).trans (hsc s)
  isplitl [HX]; · iexists _; iexact HX
  isplitl [HT]; · iexists _; iexact HT
  isplitl [HM]; · iexists _; iexact HM
  isplitl [HZ]; · iexists _; iexact HZ
  isplitl [HA]; · iexists _; iexact HA
  isplitl [HS]; · iexact HS
  isplitl [Hx]; · iexact Hx
  isplitl [HR]; · iexact HR
  iexists _; iexact HO
end

end Cert.KernelIdeal.HandV

end
-- ==== Proof.Inputs.lean ====
/- The argument arrays as functions of plain coordinates: what both programs' specifications read. -/
module

public import proofs.«01_k».proof.Proof.Spec
public import Idealize.ShloMosaic.Lib.ValueIdxCore

@[expose] public section

noncomputable section

namespace Cert.Inputs

open Idealize.ShloMosaic Idealize.ShloMosaic.ValueIdx

/-- The activations: token `s`, feature `n`; zero outside the array. -/
def inX (f : (⟨3, ![1, 128, 14336]⟩ : Shape).Idx → EReal) (s n : ℕ) : EReal :=
  if h : s < 128 ∧ n < 14336 then f (ix3 (⟨0, Nat.one_pos⟩ : Fin 1) (⟨s, h.1⟩ : Fin 128) (⟨n, h.2⟩ : Fin 14336)) else 0

/-- The small orthogonal matrix: output row `a`, input row `k`; zero outside the array. -/
def inH (f : (⟨2, ![28, 28]⟩ : Shape).Idx → EReal) (a k : ℕ) : EReal :=
  if h : a < 28 ∧ k < 28 then f (ix2 (⟨a, h.1⟩ : Fin 28) (⟨k, h.2⟩ : Fin 28)) else 0

/-- The packed weights: byte `i` of column `d`; zero outside the array. -/
def inW (f : (⟨2, ![7168, 4096]⟩ : Shape).Idx → BitVec 8) (i d : ℕ) : BitVec 8 :=
  if h : i < 7168 ∧ d < 4096 then f (ix2 (⟨i, h.1⟩ : Fin 7168) (⟨d, h.2⟩ : Fin 4096)) else 0

/-- The weights' scales: column `d`; zero outside the array. -/
def inS (f : (⟨1, ![4096]⟩ : Shape).Idx → EReal) (d : ℕ) : EReal :=
  if h : d < 4096 then f (ix1 (⟨d, h⟩ : Fin 4096)) else 0

/-- The activations inside the array. -/
theorem inX_apply (f : (⟨3, ![1, 128, 14336]⟩ : Shape).Idx → EReal) (s : Fin 128) (n : Fin 14336) :
    inX f s.val n.val = f (ix3 (⟨0, Nat.one_pos⟩ : Fin 1) s n) := dif_pos ⟨s.isLt, n.isLt⟩

/-- The orthogonal matrix inside the array. -/
theorem inH_apply (f : (⟨2, ![28, 28]⟩ : Shape).Idx → EReal) (a k : Fin 28) : inH f a.val k.val = f (ix2 a k) :=
  dif_pos ⟨a.isLt, k.isLt⟩

/-- The weights inside the array. -/
theorem inW_apply (f : (⟨2, ![7168, 4096]⟩ : Shape).Idx → BitVec 8) (i : Fin 7168) (d : Fin 4096) :
    inW f i.val d.val = f (ix2 i d) := dif_pos ⟨i.isLt, d.isLt⟩

/-- The weights' scales inside the array. -/
theorem inS_apply (f : (⟨1, ![4096]⟩ : Shape).Idx → EReal) (d : Fin 4096) : inS f d.val = f (ix1 d) :=
  dif_pos d.isLt

end Cert.Inputs

end
-- ==== Proof.KernelIdealPost.lean ====
/- `KernelIdeal`'s run over extended reals: its three results are the specified values of its argument arrays. -/
module

public import proofs.«01_k».proof.Proof.KernelIdealRun
public import proofs.«01_k».proof.Proof.KernelIdealLaunch
public import proofs.«01_k».proof.Proof.Inputs
public import Idealize.ShloMosaic.Lib.StableHlo.RunRead

@[expose] public section

set_option maxRecDepth 16384

noncomputable section

namespace Cert.KernelIdeal.HandP

open Cert.KernelIdeal Cert.KernelIdeal.Gen Cert.KernelIdeal.Hand Cert.KernelIdeal.HandV
open Idealize.ShloMosaic Idealize.ShloMosaic.ValueIdx Idealize.ShloMosaic.TcCoe Idealize.SL.Sem
open Cert.Spec Cert.Inputs

variable (m : (ℓ : Loc nD τ sig) → Buf (Elt Ideal) ℓ) (ρ : Dev nD → PrngReg)

/-- Core `c`'s activations as a function of coordinates. -/
abbrev pX (c : Dev nD) : ℕ → ℕ → EReal := inX (m ((c.tc : Thread nD τ).loc main_arg0))
/-- Core `c`'s orthogonal matrix as a function of coordinates. -/
abbrev pH (c : Dev nD) : ℕ → ℕ → EReal := inH (m ((c.tc : Thread nD τ).loc main_arg1))
/-- Core `c`'s packed weights as a function of coordinates. -/
abbrev pW (c : Dev nD) : ℕ → ℕ → BitVec 8 := inW (m ((c.tc : Thread nD τ).loc main_arg2))
/-- Core `c`'s weight scales as a function of coordinates. -/
abbrev pS (c : Dev nD) : ℕ → EReal := inS (m ((c.tc : Thread nD τ).loc main_arg3))

/-- The region finds the activations as the argument, its unit axis dropped. -/
theorem V_x (c : Dev nD) (s : Fin 128) (n : Fin 14336) : V m c main_v0 (ix2 s n) = pX m c s.val n.val := by
  have e : V m c main_v0 = shapeCast S128x14336 (m ((c.tc : Thread nD τ).loc main_arg0)) shapeCasts_S1x128x14336_S128x14336 := by
    show StableHlo.after _ _ _ = _
    after_results
    rfl
  rw [e]
  refine (shapeCast_apply (s := S1x128x14336) (t := S128x14336) _ _ _ (ix3 (⟨0, Nat.one_pos⟩ : Fin 1) s n) ?_).trans (inX_apply _ s n).symm
  rw [Shape.rowMajor_val_three, Shape.rowMajor_val_two]
  show (0 * 128 + s.val) * 14336 + n.val = s.val * 14336 + n.val
  omega

/-- The region finds the weights' scales as the argument, a unit axis put in front. -/
theorem V_s (c : Dev nD) (d : Fin 4096) : V m c main_v1 (ix2 (⟨0, Nat.one_pos⟩ : Fin 1) d) = pS m c d.val := by
  have e : V m c main_v1 = shapeCast S1x4096 (m ((c.tc : Thread nD τ).loc main_arg3)) shapeCasts_S4096_S1x4096 := by
    show StableHlo.after _ _ _ = _
    after_results
    rfl
  rw [e]
  refine (shapeCast_apply (s := S4096) (t := S1x4096) _ _ _ (ix1 d) ?_).trans (inS_apply _ d).symm
  rw [Shape.rowMajor_val_one, Shape.rowMajor_val_two]
  show d.val = 0 * 4096 + d.val
  omega

/-- The run: arguments unchanged, the three results the specified ones. -/
theorem run :
    θ_run defs (onTc (τ := τ) (main (F := Ideal))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, Q4v (pX m c) (pH m c) (pW m c) (pS m c) (r.2.mem ((c.tc : Thread nD τ).loc main_v2_0))
        ∧ Q5v (pX m c) (pH m c) (r.2.mem ((c.tc : Thread nD τ).loc main_v2_1))
        ∧ Q6v (pX m c) (pH m c) (r.2.mem ((c.tc : Thread nD τ).loc main_v2_2))) :=
  run_post m ρ (fun c => Q4v (pX m c) (pH m c) (pW m c) (pS m c)) (fun c => Q5v (pX m c) (pH m c)) (fun c => Q6v (pX m c) (pH m c))
    fun c t => body_value (pX m c) (pH m c) (pW m c) (pS m c) c _ _ _ _
      (fun s n => V_x m c s n)
      (fun a b => by
        refine Eq.trans ?_ (inH_apply _ a b).symm
        have e : iblk m c 0 t (ix2 a b) = V m c main_arg1 (ix2 a b) := by
          refine congrArg (V m c main_arg1) (funext fun k => Fin.ext ?_)
          match k with
          | ⟨0, _⟩ => show 0 * 28 + 1 * a.val = a.val; omega
          | ⟨1, _⟩ => show 0 * 28 + 1 * b.val = b.val; omega
        exact e.trans (congrFun (V_main_arg1 m c) _))
      (fun i d => by
        refine Eq.trans ?_ (inW_apply _ i d).symm
        exact congrFun (V_main_arg2 m c) _)
      (fun d => by
        refine Eq.trans ?_ (V_s m c d)
        refine congrArg (V m c main_v1) (funext fun k => Fin.ext ?_)
        match k with
        | ⟨0, _⟩ => show 0 * 1 + 1 * 0 = 0; omega
        | ⟨1, _⟩ => show 0 * 4096 + 1 * d.val = d.val; omega)

end Cert.KernelIdeal.HandP

end
-- ==== Proof.ReferenceStage.lean ====
/- One stage of the reference's transform, as the reference computes it (reshape to pairs, slice the two partners, sum and
   difference, interleave, reshape back), read entry by entry: it is the specified butterfly. -/
module

public import proofs.«01_k».proof.Proof.Spec
public import Idealize.ShloMosaic.Lib.ValueIdxCore
public import Idealize.ShloMosaic.Lib.Pipeline.Value

@[expose] public section

noncomputable section

namespace Cert.Stage

open Idealize.ShloMosaic Idealize.ShloMosaic.ValueIdx Cert.Spec

/-- The transform's array: token, head row, position. -/
abbrev T3 : Shape := ⟨3, ![128, 28, 512]⟩
/-- Its positions cut into `g` groups of `k` partners of `h`. -/
abbrev T5 (g k h : ℕ) : Shape := ⟨5, ![128, 28, g, k, h]⟩
/-- One partner of each group. -/
abbrev T4 (g h : ℕ) : Shape := ⟨4, ![128, 28, g, h]⟩

variable (g h : ℕ)

/-- Partner `r` of every group. -/
def half (r : ℕ) (c1 : T3.ShapeCasts (T5 g 2 h)) (s : (T5 g 2 h).Slices ![0, 0, 0, r, 0] (T5 g 1 h))
    (c2 : (T5 g 1 h).ShapeCasts (T4 g h)) (X : FVec Ideal T3 .f32) : FVec Ideal (T4 g h) .f32 :=
  shapeCast (T4 g h) (extractStridedSlice (T5 g 1 h) ![0, 0, 0, r, 0] (shapeCast (T5 g 2 h) X c1) s) c2

/-- One stage: the sum of the partners beside their difference. -/
def stage (c1 : T3.ShapeCasts (T5 g 2 h)) (s0 : (T5 g 2 h).Slices ![0, 0, 0, 0, 0] (T5 g 1 h))
    (s1 : (T5 g 2 h).Slices ![0, 0, 0, 1, 0] (T5 g 1 h)) (c2 : (T5 g 1 h).ShapeCasts (T4 g h))
    (b : (T4 g h).BroadcastsInDim (T5 g 1 h) (![0, 1, 2, 4] : Fin 4 → Fin (T5 g 1 h).rank))
    (cc : Shape.Concatenates [T5 g 1 h, T5 g 1 h] (T5 g 2 h) 3) (c3 : (T5 g 2 h).ShapeCasts T3) (X : FVec Ideal T3 .f32) :
    FVec Ideal T3 .f32 :=
  shapeCast T3 (concatenate (T5 g 2 h) 3
    [⟨T5 g 1 h, broadcastInDim (T5 g 1 h) ![0, 1, 2, 4] b (addf (half g h 0 c1 s0 c2 X) (half g h 1 c1 s1 c2 X))⟩,
     ⟨T5 g 1 h, broadcastInDim (T5 g 1 h) ![0, 1, 2, 4] b (subf (half g h 0 c1 s0 c2 X) (half g h 1 c1 s1 c2 X))⟩] cc) c3

/-- A position from its group, partner and offset lies inside the 512. -/
theorem pos_lt (hg : 2 * h * g = 512) {q r i : ℕ} (hq : q < g) (hr : r < 2) (hi : i < h) : (q * 2 + r) * h + i < 512 := by
  have h1 : q * 2 + r + 1 ≤ g * 2 := by omega
  have h2 := Nat.mul_le_mul_right h h1
  rw [Nat.add_mul, Nat.one_mul, show g * 2 * h = 2 * h * g by ring, hg] at h2
  omega

/-- Where a group, partner and offset sit in the whole array. -/
theorem pos_eq (hg : 2 * h * g = 512) (A q r i : ℕ) : ((A * g + q) * 2 + r) * h + i = A * 512 + ((q * 2 + r) * h + i) := by
  rw [← hg]; ring

/-- Partner `r` of group `q` at offset `i`. -/
theorem half_apply (hg : 2 * h * g = 512) (r : ℕ) (hr : r < 2) (c1 : T3.ShapeCasts (T5 g 2 h))
    (s : (T5 g 2 h).Slices ![0, 0, 0, r, 0] (T5 g 1 h)) (c2 : (T5 g 1 h).ShapeCasts (T4 g h)) (X : FVec Ideal T3 .f32)
    (a : Fin 128) (k : Fin 28) (q : Fin g) (i : Fin h) :
    half g h r c1 s c2 X (ix4 a k q i) = X (ix3 a k (⟨(q.val * 2 + r) * h + i.val, pos_lt g h hg q.isLt hr i.isLt⟩ : Fin 512)) := by
  unfold half
  refine (shapeCast_apply (s := T5 g 1 h) (t := T4 g h) _ c2 (ix4 a k q i) (ix5 a k q (⟨0, Nat.one_pos⟩ : Fin 1) i) ?_).trans ?_
  · rw [Shape.rowMajor_val_five, Shape.rowMajor_val_four]
    show (((a.val * 28 + k.val) * g + q.val) * 1 + 0) * h + i.val = ((a.val * 28 + k.val) * g + q.val) * h + i.val
    rw [Nat.mul_one, Nat.add_zero]
  refine (extractStridedSlice_apply (s := T5 g 2 h) (t := T5 g 1 h) _ _ s _ (ix5 a k q (⟨r, hr⟩ : Fin 2) i) ?_).trans ?_
  · intro b
    match b with
    | ⟨0, _⟩ => show a.val = 0 + a.val; omega
    | ⟨1, _⟩ => show k.val = 0 + k.val; omega
    | ⟨2, _⟩ => show q.val = 0 + q.val; omega
    | ⟨3, _⟩ => show r = r + 0; omega
    | ⟨4, _⟩ => show i.val = 0 + i.val; omega
  refine shapeCast_apply (s := T3) (t := T5 g 2 h) X c1 _ _ ?_
  rw [Shape.rowMajor_val_five, Shape.rowMajor_val_three]
  show (a.val * 28 + k.val) * 512 + ((q.val * 2 + r) * h + i.val) = (((a.val * 28 + k.val) * g + q.val) * 2 + r) * h + i.val
  exact (pos_eq g h hg _ _ _ _).symm

/-- Giving a partner array a unit axis changes no entry. -/
theorem unit_apply (b : (T4 g h).BroadcastsInDim (T5 g 1 h) (![0, 1, 2, 4] : Fin 4 → Fin (T5 g 1 h).rank)) (U : FVec Ideal (T4 g h) .f32)
    (a : Fin 128) (k : Fin 28) (q : Fin g) (i : Fin h) :
    broadcastInDim (T5 g 1 h) ![0, 1, 2, 4] b U (ix5 a k q (⟨0, Nat.one_pos⟩ : Fin 1) i) = U (ix4 a k q i) := by
  refine broadcastInDim_apply (s := T4 g h) (t := T5 g 1 h) ![0, 1, 2, 4] b U _ (ix4 a k q i) ?_
  intro e
  match e with
  | ⟨0, _⟩ => show a.val = if 128 = 1 then 0 else a.val; exact (if_neg (show ¬ (128 : ℕ) = 1 by decide)).symm
  | ⟨1, _⟩ => show k.val = if 28 = 1 then 0 else k.val; exact (if_neg (show ¬ (28 : ℕ) = 1 by decide)).symm
  | ⟨2, _⟩ => show q.val = if g = 1 then 0 else q.val; have := q.isLt; split <;> omega
  | ⟨3, _⟩ => show i.val = if h = 1 then 0 else i.val; have := i.isLt; split <;> omega

variable (c1 : T3.ShapeCasts (T5 g 2 h)) (s0 : (T5 g 2 h).Slices ![0, 0, 0, 0, 0] (T5 g 1 h))
    (s1 : (T5 g 2 h).Slices ![0, 0, 0, 1, 0] (T5 g 1 h)) (c2 : (T5 g 1 h).ShapeCasts (T4 g h))
    (b : (T4 g h).BroadcastsInDim (T5 g 1 h) (![0, 1, 2, 4] : Fin 4 → Fin (T5 g 1 h).rank))
    (cc : Shape.Concatenates [T5 g 1 h, T5 g 1 h] (T5 g 2 h) 3) (c3 : (T5 g 2 h).ShapeCasts T3) (X : FVec Ideal T3 .f32)

/-- The lower partner gets the sum. -/
theorem stage_low (hg : 2 * h * g = 512) (a : Fin 128) (k : Fin 28) (q : Fin g) (i : Fin h) :
    stage g h c1 s0 s1 c2 b cc c3 X (ix3 a k (⟨(q.val * 2 + 0) * h + i.val, pos_lt g h hg q.isLt (by decide) i.isLt⟩ : Fin 512))
      = X (ix3 a k (⟨(q.val * 2 + 0) * h + i.val, pos_lt g h hg q.isLt (by decide) i.isLt⟩ : Fin 512))
        + X (ix3 a k (⟨(q.val * 2 + 1) * h + i.val, pos_lt g h hg q.isLt (by decide) i.isLt⟩ : Fin 512)) := by
  unfold stage
  refine (shapeCast_apply (s := T5 g 2 h) (t := T3) _ c3 _ (ix5 a k q (⟨0, by decide⟩ : Fin 2) i) ?_).trans ?_
  · rw [Shape.rowMajor_val_five, Shape.rowMajor_val_three]
    show (((a.val * 28 + k.val) * g + q.val) * 2 + 0) * h + i.val = (a.val * 28 + k.val) * 512 + ((q.val * 2 + 0) * h + i.val)
    exact pos_eq g h hg _ _ _ _
  refine (concatenate_pair_apply_left (t := T5 g 2 h) (s₁ := T5 g 1 h) (s₂ := T5 g 1 h) 3 _ _ _ _ rfl
    (ix5 a k q (⟨0, Nat.one_pos⟩ : Fin 1) i) ?_).trans ?_
  · intro e
    match e with
    | ⟨0, _⟩ => rfl
    | ⟨1, _⟩ => rfl
    | ⟨2, _⟩ => rfl
    | ⟨3, _⟩ => rfl
    | ⟨4, _⟩ => rfl
  refine (unit_apply g h b _ a k q i).trans ?_
  exact congrArg₂ (fun u v : EReal => u + v) (half_apply g h hg 0 (by decide) c1 s0 c2 X a k q i) (half_apply g h hg 1 (by decide) c1 s1 c2 X a k q i)

/-- The upper partner gets the difference. -/
theorem stage_high (hg : 2 * h * g = 512) (a : Fin 128) (k : Fin 28) (q : Fin g) (i : Fin h) :
    stage g h c1 s0 s1 c2 b cc c3 X (ix3 a k (⟨(q.val * 2 + 1) * h + i.val, pos_lt g h hg q.isLt (by decide) i.isLt⟩ : Fin 512))
      = X (ix3 a k (⟨(q.val * 2 + 0) * h + i.val, pos_lt g h hg q.isLt (by decide) i.isLt⟩ : Fin 512))
        - X (ix3 a k (⟨(q.val * 2 + 1) * h + i.val, pos_lt g h hg q.isLt (by decide) i.isLt⟩ : Fin 512)) := by
  unfold stage
  refine (shapeCast_apply (s := T5 g 2 h) (t := T3) _ c3 _ (ix5 a k q (⟨1, by decide⟩ : Fin 2) i) ?_).trans ?_
  · rw [Shape.rowMajor_val_five, Shape.rowMajor_val_three]
    show (((a.val * 28 + k.val) * g + q.val) * 2 + 1) * h + i.val = (a.val * 28 + k.val) * 512 + ((q.val * 2 + 1) * h + i.val)
    exact pos_eq g h hg _ _ _ _
  refine (concatenate_pair_apply_right (t := T5 g 2 h) (s₁ := T5 g 1 h) (s₂ := T5 g 1 h) 3 _ _ _ _ rfl rfl
    (ix5 a k q (⟨0, Nat.one_pos⟩ : Fin 1) i) ?_ ?_).trans ?_
  · intro e he
    match e with
    | ⟨0, _⟩ => rfl
    | ⟨1, _⟩ => rfl
    | ⟨2, _⟩ => rfl
    | ⟨3, _⟩ => exact absurd rfl he
    | ⟨4, _⟩ => rfl
  · rfl
  refine (unit_apply g h b _ a k q i).trans ?_
  exact congrArg₂ (fun u v : EReal => u - v) (half_apply g h hg 0 (by decide) c1 s0 c2 X a k q i) (half_apply g h hg 1 (by decide) c1 s1 c2 X a k q i)

/-- ONE STAGE IS THE BUTTERFLY: on a row holding `z`, it leaves the butterfly of `z`. -/
theorem stage_apply (hh : 0 < h) (hg : 2 * h * g = 512) (a : Fin 128) (k : Fin 28) (z : ℕ → EReal)
    (hz : ∀ p : Fin 512, X (ix3 a k p) = z p.val) (p : Fin 512) : stage g h c1 s0 s1 c2 b cc c3 X (ix3 a k p) = bf h z p.val := by
  have hi : p.val % h < h := Nat.mod_lt _ hh
  have hd : p.val / h < g * 2 := by
    rw [Nat.div_lt_iff_lt_mul hh, show g * 2 * h = 2 * h * g by ring, hg]; exact p.isLt
  have hq : p.val / h / 2 < g := by omega
  have hp := Nat.div_add_mod' p.val h
  have e2 : p.val / h = p.val / h / 2 * 2 + p.val / h % 2 := by omega
  generalize hqv : p.val / h / 2 = qv at hq e2
  generalize hiv : p.val % h = iv at hi hp
  unfold bf
  by_cases h0 : p.val / h % 2 = 0
  · rw [if_pos h0]
    rw [e2, h0] at hp
    have hs := stage_low g h c1 s0 s1 c2 b cc c3 X hg a k ⟨qv, hq⟩ ⟨iv, hi⟩
    rw [hz, hz] at hs
    have ep : p = (⟨(qv * 2 + 0) * h + iv, pos_lt g h hg hq (by decide) hi⟩ : Fin 512) := Fin.ext hp.symm
    refine ((congrArg (fun p => stage g h c1 s0 s1 c2 b cc c3 X (ix3 a k p)) ep).trans hs).trans ?_
    show z ((qv * 2 + 0) * h + iv) + z ((qv * 2 + 1) * h + iv) = _
    rw [hp, show (qv * 2 + 1) * h + iv = p.val + h by rw [← hp]; ring]
  · rw [if_neg h0]
    have h1 : p.val / h % 2 = 1 := by omega
    rw [e2, h1] at hp
    have hs := stage_high g h c1 s0 s1 c2 b cc c3 X hg a k ⟨qv, hq⟩ ⟨iv, hi⟩
    rw [hz, hz] at hs
    have ep : p = (⟨(qv * 2 + 1) * h + iv, pos_lt g h hg hq (by decide) hi⟩ : Fin 512) := Fin.ext hp.symm
    refine ((congrArg (fun p => stage g h c1 s0 s1 c2 b cc c3 X (ix3 a k p)) ep).trans hs).trans ?_
    show z ((qv * 2 + 0) * h + iv) - z ((qv * 2 + 1) * h + iv) = _
    have e3 : (qv * 2 + 1) * h + iv = (qv * 2 + 0) * h + iv + h := by ring
    rw [show (qv * 2 + 0) * h + iv = p.val - h by omega, hp]

end Cert.Stage

end
-- ==== Proof.ReferenceHost.lean ====
/- What the reference's host operations leave for its pipeline region and in its scales result, over extended reals. -/
module

public import proofs.«01_k».proof.Proof.Gen.ReferenceIdeal.Value
public import proofs.«01_k».proof.Proof.ReferenceStage
public import proofs.«01_k».proof.Proof.Inputs
public import Idealize.ShloMosaic.Lib.StableHlo.RunRead
public import Idealize.ShloMosaic.Lib.Pipeline.Frame
public import Idealize.ShloMosaic.Lib.KernelVsHost
public import Idealize.ShloMosaic.Lib.IdealHost

@[expose] public section

set_option maxRecDepth 16384

noncomputable section

namespace Cert.ReferenceIdeal.HandH

open Cert.ReferenceIdeal Cert.ReferenceIdeal.Gen
open Idealize.ShloMosaic Idealize.ShloMosaic.ValueIdx Idealize.ShloMosaic.TcCoe
open Cert.Spec Cert.Stage Cert.Inputs

variable (m : (ℓ : Loc nD τ sig) → Buf (Elt Ideal) ℓ) (c : Dev nD)

/-- The activations as a function of coordinates. -/
abbrev rX : ℕ → ℕ → EReal := inX (m ((c.tc : Thread nD τ).loc main_arg0))
/-- The orthogonal matrix as a function of coordinates. -/
abbrev rH : ℕ → ℕ → EReal := inH (m ((c.tc : Thread nD τ).loc main_arg1))
/-- The packed weights as a function of coordinates. -/
abbrev rW : ℕ → ℕ → BitVec 8 := inW (m ((c.tc : Thread nD τ).loc main_arg2))
/-- The weights' scales as a function of coordinates. -/
abbrev rS : ℕ → EReal := inS (m ((c.tc : Thread nD τ).loc main_arg3))

/-! ## The buffers, each as its operations' term -/

/-- The host operations before the region. -/
abbrev ops : List (HloOp τ sig (Elt Ideal)) := List.flatten [hostOps0, hostOps0_1, hostOps0_2]

/-- The contents the region finds, cut after the first `n` operations. -/
theorem cut (n : ℕ) (r : Ref sig .tc) :
    V m c r = StableHlo.after (List.drop n ops) (StableHlo.after (List.take n ops) (fun b => m (c, b))) (Proc.devRef .tc r) :=
  (congrFun (congrArg (fun l => StableHlo.after l (fun b => m (c, b))) (List.take_append_drop n ops).symm) _).trans
    (congrFun (StableHlo.after_append (List.take n ops) (List.drop n ops) _) _)

open StableHlo in
/-- The head mix. -/
theorem read_mix : V m c main_v3 = (transpose S128x28x512 [1, 0, 2]
    (Host.dotGeneral dot_S28x28_S128x28x512_S28x128x512_1_1_0_02_n_n (some .fp32) (φ₁ := .f32) (φ₂ := .f32) (m ((c.tc : Thread nD τ).loc main_arg1))
      (shapeCast S128x28x512 (extf .f32 (m ((c.tc : Thread nD τ).loc main_arg0) : FVec Ideal S1x128x14336 .bf16) bitsLt_bf16_f32) shapeCasts_S1x128x14336_S128x28x512))
    transposes_S28x128x512_S128x28x512_1_0_2 : FVec Ideal S128x28x512 .f32) := by
  after_reads_simp
  rfl

open StableHlo in
/-- The stage at stride 1. -/
theorem read_stage1 : V m c main_v14 = stage 256 1 shapeCasts_S128x28x512_S128x28x256x2x1 slices_S128x28x256x2x1_S128x28x256x1x1_0_0_0_0_0 slices_S128x28x256x2x1_S128x28x256x1x1_0_0_0_1_0 shapeCasts_S128x28x256x1x1_S128x28x256x1
    bcast_S128x28x256x1_S128x28x256x1x1_0_1_2_4 concatenates_S128x28x256x1x1_S128x28x256x1x1_S128x28x256x2x1_d3 shapeCasts_S128x28x256x2x1_S128x28x512
    (V m c main_v3) := by
  rw [cut m c 4 main_v14, cut m c 4 main_v3]
  generalize after (List.take 4 ops) (fun b => m (c, b)) = W
  unfold stage half
  after_reads_simp [↓ readPieces]
  rfl

open StableHlo in
/-- The stage at stride 2. -/
theorem read_stage2 : V m c main_v25 = stage 128 2 shapeCasts_S128x28x512_S128x28x128x2x2 slices_S128x28x128x2x2_S128x28x128x1x2_0_0_0_0_0 slices_S128x28x128x2x2_S128x28x128x1x2_0_0_0_1_0 shapeCasts_S128x28x128x1x2_S128x28x128x2
    bcast_S128x28x128x2_S128x28x128x1x2_0_1_2_4 concatenates_S128x28x128x1x2_S128x28x128x1x2_S128x28x128x2x2_d3 shapeCasts_S128x28x128x2x2_S128x28x512
    (V m c main_v14) := by
  rw [cut m c 15 main_v25, cut m c 15 main_v14]
  generalize after (List.take 15 ops) (fun b => m (c, b)) = W
  unfold stage half
  after_reads_simp [↓ readPieces]
  rfl

open StableHlo in
/-- The stage at stride 4. -/
theorem read_stage4 : V m c main_v36 = stage 64 4 shapeCasts_S128x28x512_S128x28x64x2x4 slices_S128x28x64x2x4_S128x28x64x1x4_0_0_0_0_0 slices_S128x28x64x2x4_S128x28x64x1x4_0_0_0_1_0 shapeCasts_S128x28x64x1x4_S128x28x64x4
    bcast_S128x28x64x4_S128x28x64x1x4_0_1_2_4 concatenates_S128x28x64x1x4_S128x28x64x1x4_S128x28x64x2x4_d3 shapeCasts_S128x28x64x2x4_S128x28x512
    (V m c main_v25) := by
  rw [cut m c 26 main_v36, cut m c 26 main_v25]
  generalize after (List.take 26 ops) (fun b => m (c, b)) = W
  unfold stage half
  after_reads_simp [↓ readPieces]
  rfl

open StableHlo in
/-- The stage at stride 8. -/
theorem read_stage8 : V m c main_v47 = stage 32 8 shapeCasts_S128x28x512_S128x28x32x2x8 slices_S128x28x32x2x8_S128x28x32x1x8_0_0_0_0_0 slices_S128x28x32x2x8_S128x28x32x1x8_0_0_0_1_0 shapeCasts_S128x28x32x1x8_S128x28x32x8
    bcast_S128x28x32x8_S128x28x32x1x8_0_1_2_4 concatenates_S128x28x32x1x8_S128x28x32x1x8_S128x28x32x2x8_d3 shapeCasts_S128x28x32x2x8_S128x28x512
    (V m c main_v36) := by
  rw [cut m c 37 main_v47, cut m c 37 main_v36]
  generalize after (List.take 37 ops) (fun b => m (c, b)) = W
  unfold stage half
  after_reads_simp [↓ readPieces]
  rfl

open StableHlo in
/-- The stage at stride 16. -/
theorem read_stage16 : V m c main_v58 = stage 16 16 shapeCasts_S128x28x512_S128x28x16x2x16 slices_S128x28x16x2x16_S128x28x16x1x16_0_0_0_0_0 slices_S128x28x16x2x16_S128x28x16x1x16_0_0_0_1_0 shapeCasts_S128x28x16x1x16_S128x28x16x16
    bcast_S128x28x16x16_S128x28x16x1x16_0_1_2_4 concatenates_S128x28x16x1x16_S128x28x16x1x16_S128x28x16x2x16_d3 shapeCasts_S128x28x16x2x16_S128x28x512
    (V m c main_v47) := by
  rw [cut m c 48 main_v58, cut m c 48 main_v47]
  generalize after (List.take 48 ops) (fun b => m (c, b)) = W
  unfold stage half
  after_reads_simp [↓ readPieces]
  rfl

open StableHlo in
/-- The stage at stride 32. -/
theorem read_stage32 : V m c main_v69 = stage 8 32 shapeCasts_S128x28x512_S128x28x8x2x32 slices_S128x28x8x2x32_S128x28x8x1x32_0_0_0_0_0 slices_S128x28x8x2x32_S128x28x8x1x32_0_0_0_1_0 shapeCasts_S128x28x8x1x32_S128x28x8x32
    bcast_S128x28x8x32_S128x28x8x1x32_0_1_2_4 concatenates_S128x28x8x1x32_S128x28x8x1x32_S128x28x8x2x32_d3 shapeCasts_S128x28x8x2x32_S128x28x512
    (V m c main_v58) := by
  rw [cut m c 59 main_v69, cut m c 59 main_v58]
  generalize after (List.take 59 ops) (fun b => m (c, b)) = W
  unfold stage half
  after_reads_simp [↓ readPieces]
  rfl

open StableHlo in
/-- The stage at stride 64. -/
theorem read_stage64 : V m c main_v80 = stage 4 64 shapeCasts_S128x28x512_S128x28x4x2x64 slices_S128x28x4x2x64_S128x28x4x1x64_0_0_0_0_0 slices_S128x28x4x2x64_S128x28x4x1x64_0_0_0_1_0 shapeCasts_S128x28x4x1x64_S128x28x4x64
    bcast_S128x28x4x64_S128x28x4x1x64_0_1_2_4 concatenates_S128x28x4x1x64_S128x28x4x1x64_S128x28x4x2x64_d3 shapeCasts_S128x28x4x2x64_S128x28x512
    (V m c main_v69) := by
  rw [cut m c 70 main_v80, cut m c 70 main_v69]
  generalize after (List.take 70 ops) (fun b => m (c, b)) = W
  unfold stage half
  after_reads_simp [↓ readPieces]
  rfl

open StableHlo in
/-- The stage at stride 128. -/
theorem read_stage128 : V m c main_v91 = stage 2 128 shapeCasts_S128x28x512_S128x28x2x2x128 slices_S128x28x2x2x128_S128x28x2x1x128_0_0_0_0_0 slices_S128x28x2x2x128_S128x28x2x1x128_0_0_0_1_0 shapeCasts_S128x28x2x1x128_S128x28x2x128
    bcast_S128x28x2x128_S128x28x2x1x128_0_1_2_4 concatenates_S128x28x2x1x128_S128x28x2x1x128_S128x28x2x2x128_d3 shapeCasts_S128x28x2x2x128_S128x28x512
    (V m c main_v80) := by
  rw [cut m c 81 main_v91, cut m c 81 main_v80]
  generalize after (List.take 81 ops) (fun b => m (c, b)) = W
  unfold stage half
  after_reads_simp [↓ readPieces]
  rfl

open StableHlo in
/-- The stage at stride 256. -/
theorem read_stage256 : V m c main_v102 = stage 1 256 shapeCasts_S128x28x512_S128x28x1x2x256 slices_S128x28x1x2x256_S128x28x1x1x256_0_0_0_0_0 slices_S128x28x1x2x256_S128x28x1x1x256_0_0_0_1_0 shapeCasts_S128x28x1x1x256_S128x28x1x256
    bcast_S128x28x1x256_S128x28x1x1x256_0_1_2_4 concatenates_S128x28x1x1x256_S128x28x1x1x256_S128x28x1x2x256_d3 shapeCasts_S128x28x1x2x256_S128x28x512
    (V m c main_v91) := by
  rw [cut m c 92 main_v102, cut m c 92 main_v91]
  generalize after (List.take 92 ops) (fun b => m (c, b)) = W
  unfold stage half
  after_reads_simp [↓ readPieces]
  rfl

open StableHlo in
/-- The activations after the transform and its constant. -/
theorem read_y : V m c main_v105 = shapeCast S128x14336 (mulf (F := Ideal) (φ := .f32) (V m c main_v102)
    (broadcastInDim S128x28x512 ![] bcast_S_S128x28x512 (constant S_ .f32 0x3C08D677#32))) shapeCasts_S128x28x512_S128x14336 := by
  rw [cut m c 103 main_v105, cut m c 103 main_v102]
  generalize after (List.take 103 ops) (fun b => m (c, b)) = W
  after_reads_simp
  rfl

/-- The greatest absolute values of the rows of a matrix. -/
def rowMax (y : FVec Ideal S128x14336 .f32) : FVec Ideal S128 .f32 :=
  Host.reduce FloatOps.maximumf (Host.absf y) (constant S_ .f32 0xFF800000#32) reducesTo_S128x14336_S128_d1 h_S_

open StableHlo in
/-- The greatest absolute values. -/
theorem read_max : V m c main_v107 = rowMax (V m c main_v105) := by
  rw [cut m c 107 main_v107, cut m c 107 main_v105]
  generalize after (List.take 107 ops) (fun b => m (c, b)) = W
  unfold rowMax
  after_reads_simp

/-- The scales made of greatest absolute values. -/
def scales (a : FVec Ideal S128 .f32) : FVec Ideal S128 .f32 :=
  select (cmpf .oeq a (broadcastInDim S128 ![] bcast_S_S128 (constant S_ .f32 0x00000000#32)))
    (broadcastInDim S128 ![] bcast_S_S128 (constant S_ .f32 0x3F800000#32))
    (Host.divf a (broadcastInDim S128 ![] bcast_S_S128 (constant S_ .f32 0x40E00000#32)))

open StableHlo in
/-- The scales. -/
theorem read_scales : V m c main_v112 = scales (V m c main_v107) := by
  rw [cut m c 110 main_v112, cut m c 110 main_v107]
  generalize after (List.take 110 ops) (fun b => m (c, b)) = W
  unfold scales
  after_reads_simp
  rfl

open StableHlo in
/-- The scales as a row. -/
theorem read_row : V m c main_v113 = shapeCast S1x128 (V m c main_v112 : FVec Ideal S128 .f32) shapeCasts_S128_S1x128 := by
  rw [cut m c 120 main_v113, cut m c 120 main_v112]
  generalize after (List.take 120 ops) (fun b => m (c, b)) = W
  after_reads_simp
  rfl

open StableHlo in
/-- The scales as a column. -/
theorem read_col : V m c main_v114 = shapeCast S128x1 (V m c main_v112 : FVec Ideal S128 .f32) shapeCasts_S128_S128x1 := by
  rw [cut m c 120 main_v114, cut m c 120 main_v112]
  generalize after (List.take 120 ops) (fun b => m (c, b)) = W
  after_reads_simp
  rfl

open StableHlo in
/-- The weights' scales as a row. -/
theorem read_ws : V m c main_v115 = shapeCast S1x4096 (m ((c.tc : Thread nD τ).loc main_arg3) : FVec Ideal S4096 .f32) shapeCasts_S4096_S1x4096 := by
  after_reads_simp
  rfl

end Cert.ReferenceIdeal.HandH

end
-- ==== Proof.ReferenceValue.lean ====
/- The values of the reference's host operations over extended reals: the activations after the transform, and the scales. -/
module

public import proofs.«01_k».proof.Proof.ReferenceHost

@[expose] public section

set_option maxRecDepth 16384

noncomputable section

namespace Cert.ReferenceIdeal.HandH

open Cert.ReferenceIdeal Cert.ReferenceIdeal.Gen
open Idealize.ShloMosaic Idealize.ShloMosaic.ValueIdx Idealize.ShloMosaic.TcCoe
open Cert.Spec Cert.Stage Cert.Inputs

/-- The head mix's product contracts one coordinate. -/
theorem mix_rank : dot_S28x28_S128x28x512_S28x128x512_1_1_0_02_n_n.contr.rank = 1 := rfl
/-- That coordinate runs over the 28 head rows. -/
theorem mix_size : dot_S28x28_S128x28x512_S28x128x512_1_1_0_02_n_n.contr.size ⟨0, Nat.one_pos⟩ = 28 := rfl

/-- The head mix's product at an entry. -/
theorem mixdot_apply (A : FVec Ideal S28x28 .f32) (B : FVec Ideal S128x28x512 .f32) (a : Fin 28) (s : Fin 128) (p : Fin 512) :
    Host.dotGeneral dot_S28x28_S128x28x512_S28x128x512_1_1_0_02_n_n (some .fp32) A B (ix3 a s p) = ∑ k : Fin 28, A (ix2 a k) * B (ix3 s k p) := by
  refine (Ideal.dotGeneral_apply dot_S28x28_S128x28x512_S28x128x512_1_1_0_02_n_n (some .fp32) .single A B (ix3 a s p)).trans ?_
  rw [← Equiv.sum_comp (contrEquiv1 dot_S28x28_S128x28x512_S28x128x512_1_1_0_02_n_n 28 mix_rank mix_size).symm]
  refine Finset.sum_congr rfl fun k _ => ?_
  have hk := contrEquiv1_symm_val dot_S28x28_S128x28x512_S28x128x512_1_1_0_02_n_n 28 mix_rank mix_size k
  refine congrArg₂ (fun u v : EReal => u * v) (congrArg A (funext fun b => Fin.ext ?_)) (congrArg B (funext fun b => Fin.ext ?_))
  · match b with
    | ⟨0, _⟩ => rfl
    | ⟨1, _⟩ => exact hk
  · match b with
    | ⟨0, _⟩ => rfl
    | ⟨1, _⟩ => exact hk
    | ⟨2, _⟩ => rfl

/-- The greatest absolute value of a row. -/
theorem rowMax_apply (y : FVec Ideal S128x14336 .f32) (s : Fin 128) :
    rowMax y (ix1 s) = ⨆ n : Fin 14336, max (y (ix2 s n)) (-(y (ix2 s n))) := by
  have hr : S128x14336.Reduces [1] S128 := by decide
  have e : rowMax y = multiReduction .maximumf [1] S128 (Host.absf y) 0xFF800000#32 hr (.inl rfl) rfl :=
    hostReduce_maximumf_eq_multiReduction (F := Ideal) (Host.absf y) 0xFF800000#32 reducesTo_S128x14336_S128_d1 h_S_ hr (.inl rfl) rfl
  have h3 : FloatOps.ofBits (F := Ideal) .f32 0xFF800000#32 = (⊥ : EReal) := by
    show Ideal.ofBits .f32 0xFF800000#32 = ⊥
    simp [Ideal.ofBits, Ideal.ieee]
  have h2 := Ideal.multiReduction_maximumf_single (a := (1 : Fin 2)) (Host.absf y) 0xFF800000#32 hr (.inl rfl) rfl (ix1 s)
  have h4 : ∀ r : Fin (S128x14336.size (1 : Fin 2)), hr.lift (ix1 s) r = ix2 s r := fun r => funext fun a => Fin.ext (by
    match a with
    | ⟨0, _⟩ => rfl
    | ⟨1, _⟩ => rfl)
  rw [h3] at h2
  refine (congrFun e _).trans (h2.trans (le_antisymm ?_ (iSup_le fun n => ?_)))
  · rw [Finset.fold_max_le]
    refine ⟨bot_le, fun r _ => ?_⟩
    refine le_trans (le_of_eq ?_) (le_iSup (fun n : Fin 14336 => max (y (ix2 s n)) (-(y (ix2 s n)))) r)
    exact congrArg (fun i => max (y i) (-(y i))) (h4 r)
  · rw [Finset.le_fold_max]
    refine Or.inr ⟨n, Finset.mem_univ _, le_of_eq ?_⟩
    exact (congrArg (fun i => max (y i) (-(y i))) (h4 n)).symm

/-- A scalar constant spread over the tokens. -/
theorem spread_apply (b : BitVec 32) (s : Fin 128) :
    broadcastInDim S128 ![] bcast_S_S128 (constant (F := Ideal) S_ .f32 b) (ix1 s) = Ideal.ofBits .f32 b := rfl

/-- The scale made of a greatest absolute value. -/
theorem scales_apply (a : FVec Ideal S128 .f32) (s : Fin 128) : scales a (ix1 s) = scaleOf (a (ix1 s)) := by
  unfold scaleOf
  show Scalar.select (Ideal.cmp .oeq (a (ix1 s)) (Ideal.ofBits .f32 0x00000000#32)) (Ideal.ofBits .f32 0x3F800000#32)
    (Ideal.div (a (ix1 s)) (Ideal.ofBits .f32 0x40E00000#32)) = _
  rw [Ideal.ofBits_zero_f32, Idealize.ShloMosaic.Ideal.ofBits_one_f32]
  show (if BitVec.ofBool (decide (a (ix1 s) = 0)) = 1#1 then _ else _) = _
  by_cases h : a (ix1 s) = 0
  · rw [decide_eq_true h, if_pos h]; rfl
  · rw [decide_eq_false h, if_neg h]; rfl

variable (m : (ℓ : Loc nD τ sig) → Buf (Elt Ideal) ℓ) (c : Dev nD)

/-- After the head mix. -/
theorem mix_value (s : Fin 128) (a : Fin 28) (p : Fin 512) :
    V m c main_v3 (ix3 s a p) = Z0 (rX m c) (rH m c) a.val s.val p.val := by
  refine (congrFun (read_mix m c) _).trans ?_
  refine (transpose_apply (s := S28x128x512) (t := S128x28x512) [1, 0, 2] _ _ (ix3 s a p) (ix3 a s p) ?_).trans ?_
  · intro b
    match b with
    | ⟨0, _⟩ => rfl
    | ⟨1, _⟩ => rfl
    | ⟨2, _⟩ => rfl
  refine (mixdot_apply _ _ a s p).trans ?_
  unfold Z0
  rw [← Fin.sum_univ_eq_sum_range (fun k => rH m c a.val k * rX m c s.val (512 * k + p.val)) 28]
  refine Finset.sum_congr rfl fun k _ => congrArg₂ (fun u v : EReal => u * v) (inH_apply _ a k).symm ?_
  have hn : 512 * k.val + p.val < 14336 := by have := k.isLt; have := p.isLt; omega
  refine (shapeCast_apply (s := S1x128x14336) (t := S128x28x512) _ _ (ix3 s k p) (ix3 (⟨0, Nat.one_pos⟩ : Fin 1) s (⟨512 * k.val + p.val, hn⟩ : Fin 14336)) ?_).trans ?_
  · rw [Shape.rowMajor_val_three, Shape.rowMajor_val_three]
    show (0 * 128 + s.val) * 14336 + (512 * k.val + p.val) = (s.val * 28 + k.val) * 512 + p.val
    omega
  · exact (inX_apply _ s (⟨512 * k.val + p.val, hn⟩ : Fin 14336)).symm

/-- After the nine stages. -/
theorem stages_value (s : Fin 128) (a : Fin 28) (p : Fin 512) :
    V m c main_v102 (ix3 s a p) = Z9 (rX m c) (rH m c) a.val s.val p.val := by
  have h0 := mix_value m c s a
  have h1 := fun p => (congrFun (read_stage1 m c) (ix3 s a p)).trans (stage_apply 256 1 _ _ _ _ _ _ _ _ (by decide) rfl s a _ h0 p)
  have h2 := fun p => (congrFun (read_stage2 m c) (ix3 s a p)).trans (stage_apply 128 2 _ _ _ _ _ _ _ _ (by decide) rfl s a _ h1 p)
  have h3 := fun p => (congrFun (read_stage4 m c) (ix3 s a p)).trans (stage_apply 64 4 _ _ _ _ _ _ _ _ (by decide) rfl s a _ h2 p)
  have h4 := fun p => (congrFun (read_stage8 m c) (ix3 s a p)).trans (stage_apply 32 8 _ _ _ _ _ _ _ _ (by decide) rfl s a _ h3 p)
  have h5 := fun p => (congrFun (read_stage16 m c) (ix3 s a p)).trans (stage_apply 16 16 _ _ _ _ _ _ _ _ (by decide) rfl s a _ h4 p)
  have h6 := fun p => (congrFun (read_stage32 m c) (ix3 s a p)).trans (stage_apply 8 32 _ _ _ _ _ _ _ _ (by decide) rfl s a _ h5 p)
  have h7 := fun p => (congrFun (read_stage64 m c) (ix3 s a p)).trans (stage_apply 4 64 _ _ _ _ _ _ _ _ (by decide) rfl s a _ h6 p)
  have h8 := fun p => (congrFun (read_stage128 m c) (ix3 s a p)).trans (stage_apply 2 128 _ _ _ _ _ _ _ _ (by decide) rfl s a _ h7 p)
  exact (congrFun (read_stage256 m c) (ix3 s a p)).trans (stage_apply 1 256 _ _ _ _ _ _ _ _ (by decide) rfl s a _ h8 p)

/-- The activations that are quantised. -/
theorem y_value (s : Fin 128) (n : Fin 14336) :
    V m c main_v105 (ix2 s n) = Y (rX m c) (rH m c) (n.val / 512) s.val (n.val % 512) := by
  have ha : n.val / 512 < 28 := by have := n.isLt; omega
  have hp : n.val % 512 < 512 := Nat.mod_lt _ (by decide)
  refine (congrFun (read_y m c) _).trans ?_
  refine (shapeCast_apply (s := S128x28x512) (t := S128x14336) _ _ (ix2 s n) (ix3 s (⟨n.val / 512, ha⟩ : Fin 28) (⟨n.val % 512, hp⟩ : Fin 512)) ?_).trans ?_
  · rw [Shape.rowMajor_val_three, Shape.rowMajor_val_two]
    show (s.val * 28 + n.val / 512) * 512 + n.val % 512 = s.val * 14336 + n.val
    omega
  · exact congrArg (fun u : EReal => u * inv) (stages_value m c s ⟨n.val / 512, ha⟩ ⟨n.val % 512, hp⟩)

/-- The scales. -/
theorem scale_value (s : Fin 128) : V m c main_v112 (ix1 s) = scale (rX m c) (rH m c) s.val := by
  refine (congrFun (read_scales m c) _).trans ((scales_apply _ s).trans ?_)
  unfold scale amax
  refine congrArg scaleOf ((congrFun (read_max m c) _).trans ((rowMax_apply _ s).trans ?_))
  exact iSup_congr fun n => congrArg (fun v : EReal => max v (-v)) (y_value m c s n)

/-- The scales as a row. -/
theorem row_value (s : Fin 128) : V m c main_v113 (ix2 (⟨0, Nat.one_pos⟩ : Fin 1) s) = scale (rX m c) (rH m c) s.val := by
  refine (congrFun (read_row m c) _).trans ((shapeCast_apply (s := S128) (t := S1x128) _ _ _ (ix1 s) ?_).trans (scale_value m c s))
  rw [Shape.rowMajor_val_one, Shape.rowMajor_val_two]
  show s.val = 0 * 128 + s.val
  omega

/-- The scales as a column. -/
theorem col_value (s : Fin 128) : V m c main_v114 (ix2 s (⟨0, Nat.one_pos⟩ : Fin 1)) = scale (rX m c) (rH m c) s.val := by
  refine (congrFun (read_col m c) _).trans ((shapeCast_apply (s := S128) (t := S128x1) _ _ _ (ix1 s) ?_).trans (scale_value m c s))
  rw [Shape.rowMajor_val_one, Shape.rowMajor_val_two]
  show s.val = s.val * 1 + 0
  omega

/-- The weights' scales as a row. -/
theorem ws_value (d : Fin 4096) : V m c main_v115 (ix2 (⟨0, Nat.one_pos⟩ : Fin 1) d) = rS m c d.val := by
  refine (congrFun (read_ws m c) _).trans ((shapeCast_apply (s := S4096) (t := S1x4096) _ _ _ (ix1 d) ?_).trans (inS_apply _ d).symm)
  rw [Shape.rowMajor_val_one, Shape.rowMajor_val_two]
  show d.val = 0 * 4096 + d.val
  omega

end Cert.ReferenceIdeal.HandH

end
-- ==== Proof.ReferenceBody.lean ====
/- What the reference's pipeline region computes of its operands over extended reals: the quantised activations and the
   projection. -/
module

public import proofs.«01_k».proof.Proof.Gen.ReferenceIdeal.Value
public import proofs.«01_k».proof.Proof.Spec
public import Idealize.ShloMosaic.Lib.MatmulPlain

@[expose] public section

set_option maxRecDepth 16384

noncomputable section

namespace Cert.ReferenceIdeal.HandB

open Cert.ReferenceIdeal Cert.ReferenceIdeal.Gen
open Idealize.ShloMosaic Idealize.ShloMosaic.ValueIdx
open Cert.Spec

/-- The low nibble read as a signed number, as the reference reads it. -/
theorem low_nibble : ∀ b : BitVec 8,
    (Scalar.select (IntOp.cmpi .sge (IntOp.andi (b.setWidth 32) 15#32) 8#32)
      (IntOp.subi (IntOp.andi (b.setWidth 32) 15#32) 16#32) (IntOp.andi (b.setWidth 32) 15#32)).toInt
    = ((b >>> 0).setWidth 4).toInt := by decide +kernel

/-- The high nibble read as a signed number, as the reference reads it. -/
theorem high_nibble : ∀ b : BitVec 8,
    (Scalar.select (IntOp.cmpi .sge (IntOp.shrsi .vector (b.setWidth 32) 4#32) 8#32)
      (IntOp.subi (IntOp.shrsi .vector (b.setWidth 32) 4#32) 16#32) (IntOp.shrsi .vector (b.setWidth 32) 4#32)).toInt
    = ((b >>> 4).setWidth 4).toInt := by decide +kernel

/-- The quantised activation, before its conversion to an integer. -/
theorem pay2_apply (P0 : Vec Ideal S128x14336 .f32) (P1 : Vec Ideal S128x1 .f32) (s : Fin 128) (n : Fin 14336) :
    k0_pay2 (F := Ideal) P0 P1 (ix2 s n) = clampRound (Ideal.div (P0 (ix2 s n)) (P1 (ix2 s (⟨0, Nat.one_pos⟩ : Fin 1)))) := by
  have e0 : shapeCast S128x14336 P0 shapeCasts_S128x14336_S128x14336 (ix2 s n) = P0 (ix2 s n) :=
    shapeCast_apply (s := S128x14336) (t := S128x14336) P0 _ _ _ rfl
  have e1 : broadcastTo S128x14336 (shapeCast S128x1 P1 shapeCasts_S128x1_S128x1) broadcasts_S128x1_S128x14336 (ix2 s n)
      = P1 (ix2 s (⟨0, Nat.one_pos⟩ : Fin 1)) := by
    refine (broadcastTo_apply (s := S128x1) (t := S128x14336) _ _ _ (ix2 s (⟨0, Nat.one_pos⟩ : Fin 1)) ?_).trans
      (shapeCast_apply (s := S128x1) (t := S128x1) P1 _ _ _ rfl)
    intro a
    match a with
    | ⟨0, _⟩ => show s.val = (if 128 = 1 then 0 else s.val); exact (if_neg (show ¬ (128 : ℕ) = 1 by decide)).symm
    | ⟨1, _⟩ => show 0 = (if 1 = 1 then 0 else n.val); exact (if_pos (show (1 : ℕ) = 1 from rfl)).symm
  exact congrArg₂ (fun u v => clampRound (Ideal.div u v)) e0 e1

/-- The even-numbered columns (`r = 0`) or the odd-numbered ones (`r = 1`) of the activations. -/
theorem pair_apply (C : FVec Ideal S128x14336 .bf16) (r : ℕ) (hr : r < 2) (sl : S128x7168x2.Slices ![0, 0, r] S128x7168x1)
    (s : Fin 128) (i : Fin 7168) :
    shapeCast S128x7168 (extractStridedSlice S128x7168x1 ![0, 0, r] (shapeCast S128x7168x2 C shapeCasts_S128x14336_S128x7168x2) sl)
      shapeCasts_S128x7168x1_S128x7168 (ix2 s i) = C (ix2 s (⟨2 * i.val + r, by have := i.isLt; omega⟩ : Fin 14336)) := by
  refine (shapeCast_apply (s := S128x7168x1) (t := S128x7168) _ _ (ix2 s i) (ix3 s i (⟨0, Nat.one_pos⟩ : Fin 1)) ?_).trans ?_
  · rw [Shape.rowMajor_val_three, Shape.rowMajor_val_two]
    show (s.val * 7168 + i.val) * 1 + 0 = s.val * 7168 + i.val
    omega
  refine (extractStridedSlice_apply (s := S128x7168x2) (t := S128x7168x1) _ _ sl _ (ix3 s i (⟨r, hr⟩ : Fin 2)) ?_).trans ?_
  · intro b
    match b with
    | ⟨0, _⟩ => show s.val = 0 + s.val; omega
    | ⟨1, _⟩ => show i.val = 0 + i.val; omega
    | ⟨2, _⟩ => show r = r + 0; omega
  refine shapeCast_apply (s := S128x14336) (t := S128x7168x2) C _ _ _ ?_
  rw [Shape.rowMajor_val_three, Shape.rowMajor_val_two]
  show s.val * 14336 + (2 * i.val + r) = (s.val * 7168 + i.val) * 2 + r
  omega

/-- A product with the accumulator at zero. -/
theorem dot_apply (A : FVec Ideal S128x7168 .bf16) (B : FVec Ideal S7168x4096 .bf16) (s : Fin 128) (d : Fin 4096) :
    matmul (F := Ideal) dot_S128x7168_S7168x4096_S128x4096_1_0_0_1_n_n none A B (constant S128x4096 .f32 0x00000000#32) (ix2 s d)
      = ∑ i : Fin 7168, A (ix2 s i) * B (ix2 i d) := by
  refine (Ideal.matmul_plain_apply (M := 128) (K := 7168) (N := 4096) none A B (constant S128x4096 .f32 0x00000000#32) s d).trans ?_
  show Ideal.ofBits .f32 0x00000000#32 + _ = _
  rw [Ideal.ofBits_zero_f32, zero_add]

/-- The reference's projection as its two products. -/
theorem pay4_split (P0 : Vec Ideal S128x14336 .f32) (P1 : Vec Ideal S128x1 .f32) (P2 : Vec Ideal S7168x4096 .i8) (s : Fin 128) (d : Fin 4096) :
    k0_pay4 (F := Ideal) P0 P1 P2 (ix2 s d)
      = (∑ i : Fin 7168, k0_pay2 (F := Ideal) P0 P1 (ix2 s (⟨2 * i.val + 0, by have := i.isLt; omega⟩ : Fin 14336)) * nib (P2 (ix2 i d)) (2 * i.val))
        + ∑ i : Fin 7168, k0_pay2 (F := Ideal) P0 P1 (ix2 s (⟨2 * i.val + 1, by have := i.isLt; omega⟩ : Fin 14336)) * nib (P2 (ix2 i d)) (2 * i.val + 1) := by
  refine (congrFun (show k0_pay4 (F := Ideal) P0 P1 P2 = addf
    (matmul (F := Ideal) dot_S128x7168_S7168x4096_S128x4096_1_0_0_1_n_n none
      (shapeCast S128x7168 (extractStridedSlice S128x7168x1 ![0, 0, 0] (shapeCast S128x7168x2 (truncf .bf16 (k0_pay2 (F := Ideal) P0 P1) bitsLt_bf16_f32) shapeCasts_S128x14336_S128x7168x2) slices_S128x7168x2_o0_0_0_S128x7168x1) shapeCasts_S128x7168x1_S128x7168)
      (sitofp .bf16 (select (cmpi .sge (andi (extui 32 P2 natLt_8_32) (broadcast S7168x4096 15#32)) (broadcast S7168x4096 8#32))
        (subi (andi (extui 32 P2 natLt_8_32) (broadcast S7168x4096 15#32)) (broadcast S7168x4096 16#32)) (andi (extui 32 P2 natLt_8_32) (broadcast S7168x4096 15#32))))
      (constant S128x4096 .f32 0x00000000#32))
    (matmul (F := Ideal) dot_S128x7168_S7168x4096_S128x4096_1_0_0_1_n_n none
      (shapeCast S128x7168 (extractStridedSlice S128x7168x1 ![0, 0, 1] (shapeCast S128x7168x2 (truncf .bf16 (k0_pay2 (F := Ideal) P0 P1) bitsLt_bf16_f32) shapeCasts_S128x14336_S128x7168x2) slices_S128x7168x2_o0_0_1_S128x7168x1) shapeCasts_S128x7168x1_S128x7168)
      (sitofp .bf16 (select (cmpi .sge (shrsi (extui 32 P2 natLt_8_32) (broadcast S7168x4096 4#32)) (broadcast S7168x4096 8#32))
        (subi (shrsi (extui 32 P2 natLt_8_32) (broadcast S7168x4096 4#32)) (broadcast S7168x4096 16#32)) (shrsi (extui 32 P2 natLt_8_32) (broadcast S7168x4096 4#32))))
      (constant S128x4096 .f32 0x00000000#32)) from rfl) _).trans ?_
  refine congrArg₂ (fun u v : EReal => u + v) ?_ ?_
  · refine (dot_apply _ _ s d).trans (Finset.sum_congr rfl fun i _ => ?_)
    refine congrArg₂ (fun u v : EReal => u * v) (pair_apply _ 0 (by decide) _ s i) ?_
    unfold nib
    rw [show 4 * (2 * i.val % 2) = 0 by omega]
    exact congrArg (fun z : ℤ => ((z : ℝ) : EReal)) (low_nibble (P2 (ix2 i d)))
  · refine (dot_apply _ _ s d).trans (Finset.sum_congr rfl fun i _ => ?_)
    refine congrArg₂ (fun u v : EReal => u * v) (pair_apply _ 1 (by decide) _ s i) ?_
    unfold nib
    rw [show 4 * ((2 * i.val + 1) % 2) = 4 by omega]
    exact congrArg (fun z : ℤ => ((z : ℝ) : EReal)) (high_nibble (P2 (ix2 i d)))

variable (x hd : ℕ → ℕ → EReal) (w : ℕ → ℕ → BitVec 8)
variable (P0 : Vec Ideal S128x14336 .f32) (P1 : Vec Ideal S128x1 .f32) (P2 : Vec Ideal S7168x4096 .i8)
variable (h0 : ∀ (s : Fin 128) (n : Fin 14336), P0 (ix2 s n) = Y x hd (n.val / 512) s.val (n.val % 512))
  (h1 : ∀ s : Fin 128, P1 (ix2 s (⟨0, Nat.one_pos⟩ : Fin 1)) = scale x hd s.val)
  (h2 : ∀ (i : Fin 7168) (d : Fin 4096), P2 (ix2 i d) = w i.val d.val)

include h0 h1 in
/-- On the specified activations and scales, the quantised activation is the specified one. -/
theorem pay2_value (s : Fin 128) (n : Fin 14336) : k0_pay2 (F := Ideal) P0 P1 (ix2 s n) = qv x hd s.val n.val := by
  rw [pay2_apply, h0, h1]; rfl

include h0 h1 h2 in
/-- On the specified activations, scales and weights, the projection is the specified one. -/
theorem pay4_value (s : Fin 128) (d : Fin 4096) : k0_pay4 (F := Ideal) P0 P1 P2 (ix2 s d) = acc x hd w 14336 s.val d.val := by
  rw [pay4_split]
  have e : acc x hd w 14336 s.val d.val = (∑ i : Fin 7168, qv x hd s.val (2 * i.val) * nib (w (2 * i.val / 2) d.val) (2 * i.val))
      + ∑ i : Fin 7168, qv x hd s.val (2 * i.val + 1) * nib (w ((2 * i.val + 1) / 2) d.val) (2 * i.val + 1) :=
    (sum_even_odd 7168 (fun i => qv x hd s.val i * nib (w (i / 2) d.val) i)).trans (congrArg₂ (fun u v : EReal => u + v)
      (Fin.sum_univ_eq_sum_range (fun i => qv x hd s.val (2 * i) * nib (w (2 * i / 2) d.val) (2 * i)) 7168).symm
      (Fin.sum_univ_eq_sum_range (fun i => qv x hd s.val (2 * i + 1) * nib (w ((2 * i + 1) / 2) d.val) (2 * i + 1)) 7168).symm)
  rw [e]
  refine congrArg₂ (fun u v : EReal => u + v) (Finset.sum_congr rfl fun i _ => ?_) (Finset.sum_congr rfl fun i _ => ?_)
  · rw [pay2_value x hd P0 P1 h0 h1, h2, show 2 * i.val / 2 = i.val by omega]; rfl
  · rw [pay2_value x hd P0 P1 h0 h1, h2, show (2 * i.val + 1) / 2 = i.val by omega]

end Cert.ReferenceIdeal.HandB

end
-- ==== Proof.ReferenceRun.lean ====
/- `ReferenceIdeal`'s run over extended reals: its three results are the specified values of its argument arrays. -/
module

public import proofs.«01_k».proof.Proof.ReferenceValue
public import proofs.«01_k».proof.Proof.ReferenceBody
public import proofs.«01_k».proof.Proof.Gen.ReferenceIdeal.Value

@[expose] public section

set_option maxRecDepth 16384

noncomputable section

namespace Cert.ReferenceIdeal.HandR

open Cert.ReferenceIdeal Cert.ReferenceIdeal.Gen Cert.ReferenceIdeal.Value Cert.ReferenceIdeal.HandH Cert.ReferenceIdeal.HandB
open Idealize.ShloMosaic Idealize.ShloMosaic.ValueIdx Idealize.ShloMosaic.TcCoe Idealize.SL.Sem
open Cert.Spec Cert.Inputs

variable (m : (ℓ : Loc nD τ sig) → Buf (Elt Ideal) ℓ) (ρ : Dev nD → PrngReg) (c : Dev nD) (t : Fin cfg0.N)

/-- The body loads the activations that the region finds. -/
theorem load0 (s : Fin 128) (n : Fin 14336) :
    View.ld (iblk m c 0 t) r0_0 (ix2 s n) = Y (rX m c) (rH m c) (n.val / 512) s.val (n.val % 512) := by
  refine Eq.trans ?_ (y_value m c s n)
  refine congrArg (V m c main_v105) (funext fun k => Fin.ext ?_)
  match k with
  | ⟨0, _⟩ => show 0 * 128 + 1 * (0 + 1 * s.val) = s.val; omega
  | ⟨1, _⟩ => show 0 * 14336 + 1 * (0 + 1 * n.val) = n.val; omega

/-- The body loads the column of scales that the region finds. -/
theorem load1 (s : Fin 128) :
    View.ld (iblk m c 1 t) r0_1 (ix2 s (⟨0, Nat.one_pos⟩ : Fin 1)) = scale (rX m c) (rH m c) s.val := by
  refine Eq.trans ?_ (col_value m c s)
  refine congrArg (V m c main_v114) (funext fun k => Fin.ext ?_)
  match k with
  | ⟨0, _⟩ => show 0 * 128 + 1 * (0 + 1 * s.val) = s.val; omega
  | ⟨1, _⟩ => show 0 * 1 + 1 * (0 + 1 * 0) = 0; omega

/-- The body loads the packed weights. -/
theorem load2 (i : Fin 7168) (d : Fin 4096) : View.ld (iblk m c 2 t) r0_2 (ix2 i d) = rW m c i.val d.val := by
  refine Eq.trans ?_ (inW_apply _ i d).symm
  have e : View.ld (iblk m c 2 t) r0_2 (ix2 i d) = V m c main_arg2 (ix2 i d) := by
    refine congrArg (V m c main_arg2) (funext fun k => Fin.ext ?_)
    match k with
    | ⟨0, _⟩ => show 0 * 7168 + 1 * (0 + 1 * i.val) = i.val; omega
    | ⟨1, _⟩ => show 0 * 4096 + 1 * (0 + 1 * d.val) = d.val; omega
  exact e.trans (congrFun (V_main_arg2 m c) _)

/-- The body loads the weights' scales. -/
theorem load3 (d : Fin 4096) : View.ld (iblk m c 3 t) r0_3 (ix2 (⟨0, Nat.one_pos⟩ : Fin 1) d) = rS m c d.val := by
  refine Eq.trans ?_ (ws_value m c d)
  refine congrArg (V m c main_v115) (funext fun k => Fin.ext ?_)
  match k with
  | ⟨0, _⟩ => show 0 * 1 + 1 * (0 + 1 * 0) = 0; omega
  | ⟨1, _⟩ => show 0 * 4096 + 1 * (0 + 1 * d.val) = d.val; omega

/-- The product that the body leaves. -/
theorem out4_value (s : Fin 128) (d : Fin 4096) :
    out0_4 (iblk m c 0 t) (iblk m c 1 t) (iblk m c 2 t) (iblk m c 3 t) (ix2 s d) = out (rX m c) (rH m c) (rW m c) (rS m c) s.val d.val := by
  refine (canon4_eq (F := Ideal) _ _ _ _ (ix2 s d)).trans ?_
  unfold out
  refine congrArg₂ (fun u v : EReal => u * v) (congrArg₂ (fun u v : EReal => u * v) ?_ ?_) ?_
  · refine Eq.trans ?_ (pay4_value (rX m c) (rH m c) (rW m c) (View.ld (iblk m c 0 t) r0_0) (View.ld (iblk m c 1 t) r0_1) (View.ld (iblk m c 2 t) r0_2)
      (load0 m c t) (load1 m c t) (load2 m c t) s d)
    refine congrArg (k0_pay4 (F := Ideal) _ _ _) (funext fun k => Fin.ext ?_)
    match k with
    | ⟨0, _⟩ => rfl
    | ⟨1, _⟩ => rfl
  · refine Eq.trans ?_ (load1 m c t s)
    refine congrArg (View.ld (iblk m c 1 t) r0_1) (funext fun k => Fin.ext ?_)
    match k with
    | ⟨0, _⟩ => rfl
    | ⟨1, _⟩ => rfl
  · refine Eq.trans ?_ (load3 m c t d)
    refine congrArg (View.ld (iblk m c 3 t) r0_3) (funext fun k => Fin.ext ?_)
    match k with
    | ⟨0, _⟩ => rfl
    | ⟨1, _⟩ => rfl

/-- The quantised activations that the body leaves. -/
theorem out5_value (s : Fin 128) (n : Fin 14336) :
    out0_5 (iblk m c 0 t) (iblk m c 1 t) (iblk m c 2 t) (iblk m c 3 t) (ix2 s n) = Ideal.fptosi 8 (qv (rX m c) (rH m c) s.val n.val) := by
  refine (canon5_eq (F := Ideal) _ _ (ix2 s n)).trans ?_
  refine (show E5 (F := Ideal) (View.ld (iblk m c 0 t) r0_0) (View.ld (iblk m c 1 t) r0_1) (ix2 s n)
    = k0_pay3 (F := Ideal) (View.ld (iblk m c 0 t) r0_0) (View.ld (iblk m c 1 t) r0_1) (ix2 s n) from ?_).trans ?_
  · refine Eq.trans (congrArg (E5 (F := Ideal) _ _) (funext fun k => Fin.ext ?_)) (piece5_0 (F := Ideal) _ _ (ix2 s n)).symm
    match k with
    | ⟨0, _⟩ => show s.val = 0 + 1 * s.val; omega
    | ⟨1, _⟩ => show n.val = 0 + 1 * n.val; omega
  · exact congrArg (Ideal.fptosi 8) (pay2_value (rX m c) (rH m c) _ _ (load0 m c t) (load1 m c t) s n)

/-- The product's array at the end is what the body left at the one point. -/
theorem arr4 : (dats m 0 c).arrAt 4 cfg0.N = out0_4 (iblk m c 0 t0_0) (iblk m c 1 t0_0) (iblk m c 2 t0_0) (iblk m c 3 t0_0) := by
  have h := (blocks4 m c t0_0 (flush0_4 _)).trans (flushed4 m c t0_0)
  funext i
  refine Eq.trans ?_ (congrFun h i)
  refine congrArg ((dats m 0 c).arrAt 4 cfg0.N) (funext fun a => Fin.ext ?_)
  exact (Pipeline.Window.rect_emb_val_of_index_zero (cfg0.win 4) _ a (by match a with | ⟨0, _⟩ => rfl | ⟨1, _⟩ => rfl) i).symm

/-- So is the quantised activations'. -/
theorem arr5 : (dats m 0 c).arrAt 5 cfg0.N = out0_5 (iblk m c 0 t0_0) (iblk m c 1 t0_0) (iblk m c 2 t0_0) (iblk m c 3 t0_0) := by
  have h := (blocks5 m c t0_0 (flush0_5 _)).trans (flushed5 m c t0_0)
  funext i
  refine Eq.trans ?_ (congrFun h i)
  refine congrArg ((dats m 0 c).arrAt 5 cfg0.N) (funext fun a => Fin.ext ?_)
  exact (Pipeline.Window.rect_emb_val_of_index_zero (cfg0.win 5) _ a (by match a with | ⟨0, _⟩ => rfl | ⟨1, _⟩ => rfl) i).symm

/-- The run: arguments unchanged, the three results the specified ones. -/
theorem run : θ_run defs (onTc (τ := τ) (main (F := Ideal))) ⟨m, fun _ => 0, ρ⟩ (fun r => ∀ c : Dev nD,
      ((∀ (s : Fin 128) (d : Fin 4096), r.2.mem ((c.tc : Thread nD τ).loc main_v116_0) (ix2 s d) = out (rX m c) (rH m c) (rW m c) (rS m c) s.val d.val)
      ∧ (∀ (s : Fin 128) (n : Fin 14336), r.2.mem ((c.tc : Thread nD τ).loc main_v116_1) (ix2 s n) = Ideal.fptosi 8 (qv (rX m c) (rH m c) s.val n.val))
      ∧ (∀ s : Fin 128, r.2.mem ((c.tc : Thread nD τ).loc main_v113) (ix2 (⟨0, Nat.one_pos⟩ : Fin 1) s) = scale (rX m c) (rH m c) s.val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨⟨
      fun s d => (congrFun ((post4 m r h c).trans (arr4 m c)) (ix2 s d)).trans (out4_value m c t0_0 s d),
      fun s n => (congrFun ((post5 m r h c).trans (arr5 m c)) (ix2 s n)).trans (out5_value m c t0_0 s n),
      fun s => (congrFun ((h c).2 main_v113 (Pipeline.mem_restRefs_of main_v113 (by decide) (by decide))) _).trans (row_value m c s)⟩,
      kept_main_arg0 m r h c, kept_main_arg1 m r h c, kept_main_arg2 m r h c, kept_main_arg3 m r h c⟩)
    (run_main m ρ)

end Cert.ReferenceIdeal.HandR

end
-- ==== Proof.Algebraic.lean ====
/- The idealized kernel and the idealized reference end with equal results. -/
module

public import proofs.«01_k».proof.Defs
public import proofs.«01_k».proof.Proof.KernelIdealPost
public import proofs.«01_k».proof.Proof.ReferenceRun

@[expose] public section

set_option maxRecDepth 16384

noncomputable section

namespace Cert.Algebraic

open Idealize.ShloMosaic Idealize.ShloMosaic.ValueIdx Idealize.ShloMosaic.TcCoe Idealize.SL.Sem
open Cert.Spec Cert.Inputs

/-- Two coordinates make the index they are taken from. -/
theorem ix2_eta {a b : ℕ} (i : (⟨2, ![a, b]⟩ : Shape).Idx) : i = ix2 (⟨(i 0).val, (i 0).isLt⟩ : Fin a) (⟨(i 1).val, (i 1).isLt⟩ : Fin b) := by
  funext k
  match k with
  | ⟨0, _⟩ => rfl
  | ⟨1, _⟩ => rfl

/-- The product as an array; -/
def val0 (x hd : ℕ → ℕ → EReal) (w : ℕ → ℕ → BitVec 8) (ws : ℕ → EReal) : (⟨2, ![128, 4096]⟩ : Shape).Idx → EReal :=
  fun i => out x hd w ws (i 0).val (i 1).val
/-- the quantised activations as an array; -/
def val1 (x hd : ℕ → ℕ → EReal) : (⟨2, ![128, 14336]⟩ : Shape).Idx → BitVec 8 :=
  fun i => Ideal.fptosi 8 (qv x hd (i 0).val (i 1).val)
/-- the scales as an array. -/
def val2 (x hd : ℕ → ℕ → EReal) : (⟨2, ![1, 128]⟩ : Shape).Idx → EReal :=
  fun i => scale x hd (i 1).val

/-- An array with the product's entries is that array. -/
theorem eq0 (x hd w ws) (f : (⟨2, ![128, 4096]⟩ : Shape).Idx → EReal)
    (h : ∀ (s : Fin 128) (d : Fin 4096), f (ix2 s d) = out x hd w ws s.val d.val) : f = val0 x hd w ws :=
  funext fun i => (congrArg f (ix2_eta i)).trans (h _ _)
/-- An array with the quantised activations' entries is that array. -/
theorem eq1 (x hd) (f : (⟨2, ![128, 14336]⟩ : Shape).Idx → BitVec 8)
    (h : ∀ (s : Fin 128) (n : Fin 14336), f (ix2 s n) = Ideal.fptosi 8 (qv x hd s.val n.val)) : f = val1 x hd :=
  funext fun i => (congrArg f (ix2_eta i)).trans (h _ _)
/-- An array with the scales' entries is that array. -/
theorem eq2 (x hd) (f : (⟨2, ![1, 128]⟩ : Shape).Idx → EReal)
    (h : ∀ s : Fin 128, f (ix2 (⟨0, Nat.one_pos⟩ : Fin 1) s) = scale x hd s.val) : f = val2 x hd :=
  funext fun i => by
    have e : i = ix2 (⟨0, Nat.one_pos⟩ : Fin 1) (⟨(i 1).val, (i 1).isLt⟩ : Fin 128) := by
      refine (ix2_eta i).trans (congrArg (fun z : Fin 1 => ix2 z (⟨(i 1).val, (i 1).isLt⟩ : Fin 128)) (Subsingleton.elim _ _))
    exact (congrArg f e).trans (h _)

open Cert.KernelIdeal.HandP Cert.ReferenceIdeal.HandH

/-- From memories agreeing on the arguments both programs end with the specified results. -/
theorem algebraic : Cert.algebraic_KernelIdeal_ReferenceIdeal (hKernelIdeal := Cert.KernelIdeal.Gen.facts)
    (hReferenceIdeal := Cert.ReferenceIdeal.Gen.facts) := by
  intro m g m' g' hpre hargs
  have eX : ∀ c, rX m' c = pX m c := fun c => congrArg inX (hargs c).1
  have eH : ∀ c, rH m' c = pH m c := fun c => congrArg inH (hargs c).2.1
  have eW : ∀ c, rW m' c = pW m c := fun c => congrArg inW (hargs c).2.2.1
  have eS : ∀ c, rS m' c = pS m c := fun c => congrArg inS (hargs c).2.2.2
  refine ⟨fun c => val0 (pX m c) (pH m c) (pW m c) (pS m c), fun c => val1 (pX m c) (pH m c), fun c => val2 (pX m c) (pH m c), ?_, ?_⟩
  · refine (θ_run _ _ _).mono (fun r h c => ?_) (Cert.KernelIdeal.HandP.run m g)
    exact ⟨eq0 _ _ _ _ _ (h.2 c).1, eq1 _ _ _ (h.2 c).2.1, eq2 _ _ _ (h.2 c).2.2, h.1.1 c⟩
  · refine (θ_run _ _ _).mono (fun r h c => ?_) (Cert.ReferenceIdeal.HandR.run m' g')
    have q := h c
    rw [eX c, eH c, eW c, eS c] at q
    exact ⟨eq0 _ _ _ _ _ q.1.1, eq1 _ _ _ q.1.2.1, eq2 _ _ _ q.1.2.2, q.2⟩

end Cert.Algebraic

end
-- ==== Proof.lean ====
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.Reference.Gen.facts, Cert.ReferenceIdeal.Gen.facts,
  fun m ρ _ => Cert.Kernel.Hand.frame m ρ, fun m ρ _ => Cert.KernelIdeal.Hand.frame m ρ,
  fun m ρ _ => Cert.Reference.Gen.frame m ρ, fun m ρ _ => Cert.ReferenceIdeal.Gen.frame m ρ,
  trivial, trivial, Cert.Algebraic.algebraic⟩

end Cert.Proof

end
